-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ag_finite [hPre_ag_finite : Cert.Pre_ag_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ag_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_ag_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_ag_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_ag_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_ag_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_ag_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_ag_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ag_finite [hPre_ag_finite : Cert.Pre_ag_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ag_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_ag_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_ag_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_ag_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_ag_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_ag_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_ag_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_ag_finite [hKernelIdeal : Cert.KernelIdeal.Facts] [hPre_ag_finite : Cert.Pre_ag_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ag_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_ag_finite [hReferenceIdeal : Cert.ReferenceIdeal.Facts] [hPre_ag_finite : Cert.Pre_ag_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ag_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "big" .f32 0x501502F9#32 ⊤

def algebraic_KernelIdeal_ReferenceIdeal_pre_ag_finite [hKernelIdeal : Cert.KernelIdeal.Facts] [hReferenceIdeal : Cert.ReferenceIdeal.Facts] [hPre_ag_finite : Cert.Pre_ag_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ag_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v65)) (v2 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_v98) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_v459) = v1 c
          ∧ r.2.mem ((c.tc : Thread Cert.ReferenceIdeal.nD Cert.ReferenceIdeal.τ).loc Cert.ReferenceIdeal.main_v689) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_ag_finite : Cert.Pre_ag_finite.Facts),
    quiescent_Kernel (hKernel := hKernel)
    ∧ quiescent_KernelIdeal (hKernelIdeal := hKernelIdeal)
    ∧ quiescent_KernelIdeal_pre_ag_finite (hKernelIdeal := hKernelIdeal) (hPre_ag_finite := hPre_ag_finite)
    ∧ quiescent_ReferenceIdeal (hReferenceIdeal := hReferenceIdeal)
    ∧ quiescent_ReferenceIdeal_pre_ag_finite (hReferenceIdeal := hReferenceIdeal) (hPre_ag_finite := hPre_ag_finite)
    ∧ preserves_Kernel_KernelIdeal
    ∧ algebraic_KernelIdeal_ReferenceIdeal_pre_ag_finite (hKernelIdeal := hKernelIdeal) (hReferenceIdeal := hReferenceIdeal) (hPre_ag_finite := hPre_ag_finite)
-- ==== Pre_ag_finite.lean ====
abbrev S64x576x512 : Shape := ⟨3, ![64, 576, 512]⟩
abbrev S64x512 : Shape := ⟨2, ![64, 512]⟩
abbrev S3x512x128 : Shape := ⟨3, ![3, 512, 128]⟩
abbrev S3x128 : Shape := ⟨2, ![3, 128]⟩
abbrev S3x128x1 : Shape := ⟨3, ![3, 128, 1]⟩
abbrev S3x1 : Shape := ⟨2, ![3, 1]⟩
abbrev S3x512 : Shape := ⟨2, ![3, 512]⟩
abbrev S3x512x102 : Shape := ⟨3, ![3, 512, 102]⟩
abbrev S3x102 : Shape := ⟨2, ![3, 102]⟩
abbrev S3x102x115 : Shape := ⟨3, ![3, 102, 115]⟩
abbrev S3x115 : Shape := ⟨2, ![3, 115]⟩
abbrev S3x1x1x1 : Shape := ⟨4, ![3, 1, 1, 1]⟩
abbrev S_ : Shape := ⟨0, ![]⟩

class Facts : Prop where
  bcast_S_S3x512 : S_.BroadcastsInDim S3x512 (![] : Fin 0 → Fin S3x512.rank)
  bcast_S_S3x512x102 : S_.BroadcastsInDim S3x512x102 (![] : Fin 0 → Fin S3x512x102.rank)
  bcast_S_S3x102 : S_.BroadcastsInDim S3x102 (![] : Fin 0 → Fin S3x102.rank)
  bcast_S_S3x102x115 : S_.BroadcastsInDim S3x102x115 (![] : Fin 0 → Fin S3x102x115.rank)
  bcast_S_S3x115 : S_.BroadcastsInDim S3x115 (![] : Fin 0 → Fin S3x115.rank)
  bcast_S_S3x1x1x1 : S_.BroadcastsInDim S3x1x1x1 (![] : Fin 0 → Fin S3x1x1x1.rank)

variable [Facts]

def fn_part1 {F : FTy → Type} [FloatOps F] (main_arg16 : FVec F S3x1x1x1 .f32) (main_v2 : IVec S3x512 1) (main_v5 : IVec S3x512 1) (main_v8 : IVec S3x512x102 1) (main_v11 : IVec S3x102 1) (main_v14 : IVec S3x102x115 1) (main_v17 : IVec S3x115 1) : IVec S3x512 1 × IVec S3x512 1 × IVec S3x512x102 1 × IVec S3x102 1 × IVec S3x102x115 1 × IVec S3x115 1 × IVec S3x1x1x1 1 :=
  let main_v18 : FVec F S3x1x1x1 .f32 := Host.absf main_arg16
  let main_cst_5 : FVec F S_ .f32 := constant S_ .f32 0x7F800000#32
  let main_v19 : FVec F S3x1x1x1 .f32 := broadcastInDim S3x1x1x1 ![] bcast_S_S3x1x1x1 main_cst_5
  let main_v20 : IVec S3x1x1x1 1 := cmpf .olt main_v18 main_v19
  (main_v2, main_v5, main_v8, main_v11, main_v14, main_v17, main_v20)

def fn {F : FTy → Type} [FloatOps F] (main_arg0 : FVec F S64x576x512 .f32) (main_arg1 : FVec F S64x576x512 .f32) (main_arg2 : FVec F S64x576x512 .f32) (main_arg3 : FVec F S64x512 .f32) (main_arg4 : FVec F S64x512 .f32) (main_arg5 : FVec F S64x512 .f32) (main_arg6 : FVec F S3x512x128 .f32) (main_arg7 : FVec F S3x128 .f32) (main_arg8 : FVec F S3x128x1 .f32) (main_arg9 : FVec F S3x1 .f32) (main_arg10 : FVec F S3x512 .f32) (main_arg11 : FVec F S3x512 .f32) (main_arg12 : FVec F S3x512x102 .f32) (main_arg13 : FVec F S3x102 .f32) (main_arg14 : FVec F S3x102x115 .f32) (main_arg15 : FVec F S3x115 .f32) (main_arg16 : FVec F S3x1x1x1 .f32) : IVec S3x512 1 × IVec S3x512 1 × IVec S3x512x102 1 × IVec S3x102 1 × IVec S3x102x115 1 × IVec S3x115 1 × IVec S3x1x1x1 1 :=
  let main_v0 : FVec F S3x512 .f32 := Host.absf main_arg10
  let main_cst : FVec F S_ .f32 := constant S_ .f32 0x7F800000#32
  let main_v1 : FVec F S3x512 .f32 := broadcastInDim S3x512 ![] bcast_S_S3x512 main_cst
  let main_v2 : IVec S3x512 1 := cmpf .olt main_v0 main_v1
  let main_v3 : FVec F S3x512 .f32 := Host.absf main_arg11
  let main_cst_0 : FVec F S_ .f32 := constant S_ .f32 0x7F800000#32
  let main_v4 : FVec F S3x512 .f32 := broadcastInDim S3x512 ![] bcast_S_S3x512 main_cst_0
  let main_v5 : IVec S3x512 1 := cmpf .olt main_v3 main_v4
  let main_v6 : FVec F S3x512x102 .f32 := Host.absf main_arg12
  let main_cst_1 : FVec F S_ .f32 := constant S_ .f32 0x7F800000#32
  let main_v7 : FVec F S3x512x102 .f32 := broadcastInDim S3x512x102 ![] bcast_S_S3x512x102 main_cst_1
  let main_v8 : IVec S3x512x102 1 := cmpf .olt main_v6 main_v7
  let main_v9 : FVec F S3x102 .f32 := Host.absf main_arg13
  let main_cst_2 : FVec F S_ .f32 := constant S_ .f32 0x7F800000#32
  let main_v10 : FVec F S3x102 .f32 := broadcastInDim S3x102 ![] bcast_S_S3x102 main_cst_2
  let main_v11 : IVec S3x102 1 := cmpf .olt main_v9 main_v10
  let main_v12 : FVec F S3x102x115 .f32 := Host.absf main_arg14
  let main_cst_3 : FVec F S_ .f32 := constant S_ .f32 0x7F800000#32
  let main_v13 : FVec F S3x102x115 .f32 := broadcastInDim S3x102x115 ![] bcast_S_S3x102x115 main_cst_3
  let main_v14 : IVec S3x102x115 1 := cmpf .olt main_v12 main_v13
  let main_v15 : FVec F S3x115 .f32 := Host.absf main_arg15
  let main_cst_4 : FVec F S_ .f32 := constant S_ .f32 0x7F800000#32
  let main_v16 : FVec F S3x115 .f32 := broadcastInDim S3x115 ![] bcast_S_S3x115 main_cst_4
  let main_v17 : IVec S3x115 1 := cmpf .olt main_v15 main_v16
  fn_part1 (F := F) main_arg16 main_v2 main_v5 main_v8 main_v11 main_v14 main_v17
-- ==== Kernel.lean ====
abbrev S64x576x512 : Shape := ⟨3, ![64, 576, 512]⟩
abbrev S64x512 : Shape := ⟨2, ![64, 512]⟩
abbrev S3x512x128 : Shape := ⟨3, ![3, 512, 128]⟩
abbrev S3x128 : Shape := ⟨2, ![3, 128]⟩
abbrev S3x128x1 : Shape := ⟨3, ![3, 128, 1]⟩
abbrev S3x1 : Shape := ⟨2, ![3, 1]⟩
abbrev S3x512 : Shape := ⟨2, ![3, 512]⟩
abbrev S3x512x102 : Shape := ⟨3, ![3, 512, 102]⟩
abbrev S3x102 : Shape := ⟨2, ![3, 102]⟩
abbrev S3x102x115 : Shape := ⟨3, ![3, 102, 115]⟩
abbrev S3x115 : Shape := ⟨2, ![3, 115]⟩
abbrev S3x1x1x1 : Shape := ⟨4, ![3, 1, 1, 1]⟩
abbrev S1x512x128 : Shape := ⟨3, ![1, 512, 128]⟩
abbrev S512x128 : Shape := ⟨2, ![512, 128]⟩
abbrev S1x128 : Shape := ⟨2, ![1, 128]⟩
abbrev S128 : Shape := ⟨1, ![128]⟩
abbrev S1x128x1 : Shape := ⟨3, ![1, 128, 1]⟩
abbrev S128x1 : Shape := ⟨2, ![128, 1]⟩
abbrev S1x1 : Shape := ⟨2, ![1, 1]⟩
abbrev S1 : Shape := ⟨1, ![1]⟩
abbrev S1x512 : Shape := ⟨2, ![1, 512]⟩
abbrev S512 : Shape := ⟨1, ![512]⟩
abbrev S1x512x102 : Shape := ⟨3, ![1, 512, 102]⟩
abbrev S512x102 : Shape := ⟨2, ![512, 102]⟩
abbrev S1x102 : Shape := ⟨2, ![1, 102]⟩
abbrev S102 : Shape := ⟨1, ![102]⟩
abbrev S1x102x115 : Shape := ⟨3, ![1, 102, 115]⟩
abbrev S102x115 : Shape := ⟨2, ![102, 115]⟩
abbrev S1x115 : Shape := ⟨2, ![1, 115]⟩
abbrev S115 : Shape := ⟨1, ![115]⟩
abbrev S1x1x1x1 : Shape := ⟨4, ![1, 1, 1, 1]⟩
abbrev S1x1x1 : Shape := ⟨3, ![1, 1, 1]⟩
abbrev S64x1x512 : Shape := ⟨3, ![64, 1, 512]⟩
abbrev S64x116x512 : Shape := ⟨3, ![64, 116, 512]⟩
abbrev S8x576x512 : Shape := ⟨3, ![8, 576, 512]⟩
abbrev S8x1x512 : Shape := ⟨3, ![8, 1, 512]⟩
abbrev S8x116x512 : Shape := ⟨3, ![8, 116, 512]⟩
abbrev S1x576x512 : Shape := ⟨3, ![1, 576, 512]⟩
abbrev S576x512 : Shape := ⟨2, ![576, 512]⟩
abbrev S576 : Shape := ⟨1, ![576]⟩
abbrev S576x1 : Shape := ⟨2, ![576, 1]⟩
abbrev S1x1x512 : Shape := ⟨3, ![1, 1, 512]⟩
abbrev S576x128 : Shape := ⟨2, ![576, 128]⟩
abbrev S576x576 : Shape := ⟨2, ![576, 576]⟩
abbrev S1x576 : Shape := ⟨2, ![1, 576]⟩
abbrev S1x576x1 : Shape := ⟨3, ![1, 576, 1]⟩
abbrev S576x102 : Shape := ⟨2, ![576, 102]⟩
abbrev S576x115 : Shape := ⟨2, ![576, 115]⟩
abbrev S115x512 : Shape := ⟨2, ![115, 512]⟩
abbrev S1x116x512 : Shape := ⟨3, ![1, 116, 512]⟩
abbrev S116x512 : Shape := ⟨2, ![116, 512]⟩

abbrev nBuf : Space → Nat
  | .hbm => 116
  | .vmem => 63
  | .smem => 0
  | _ => 0

abbrev bufTy : (tb : Table) → Fin (tcTables nBuf tb) → BufTy
  | .hbm, ⟨0, _⟩ => ⟨S64x576x512, .f32⟩
  | .hbm, ⟨1, _⟩ => ⟨S64x576x512, .f32⟩
  | .hbm, ⟨2, _⟩ => ⟨S64x576x512, .f32⟩
  | .hbm, ⟨3, _⟩ => ⟨S64x512, .f32⟩
  | .hbm, ⟨4, _⟩ => ⟨S64x512, .f32⟩
  | .hbm, ⟨5, _⟩ => ⟨S64x512, .f32⟩
  | .hbm, ⟨6, _⟩ => ⟨S3x512x128, .f32⟩
  | .hbm, ⟨7, _⟩ => ⟨S3x128, .f32⟩
  | .hbm, ⟨8, _⟩ => ⟨S3x128x1, .f32⟩
  | .hbm, ⟨9, _⟩ => ⟨S3x1, .f32⟩
  | .hbm, ⟨10, _⟩ => ⟨S3x512, .f32⟩
  | .hbm, ⟨11, _⟩ => ⟨S3x512, .f32⟩
  | .hbm, ⟨12, _⟩ => ⟨S3x512x102, .f32⟩
  | .hbm, ⟨13, _⟩ => ⟨S3x102, .f32⟩
  | .hbm, ⟨14, _⟩ => ⟨S3x102x115, .f32⟩
  | .hbm, ⟨15, _⟩ => ⟨S3x115, .f32⟩
  | .hbm, ⟨16, _⟩ => ⟨S3x1x1x1, .f32⟩
  | .hbm, ⟨17, _⟩ => ⟨S1x512x128, .f32⟩
  | .hbm, ⟨18, _⟩ => ⟨S512x128, .f32⟩
  | .hbm, ⟨19, _⟩ => ⟨S1x128, .f32⟩
  | .hbm, ⟨20, _⟩ => ⟨S128, .f32⟩
  | .hbm, ⟨21, _⟩ => ⟨S1x128, .f32⟩
  | .hbm, ⟨22, _⟩ => ⟨S1x128x1, .f32⟩
  | .hbm, ⟨23, _⟩ => ⟨S128x1, .f32⟩
  | .hbm, ⟨24, _⟩ => ⟨S1x1, .f32⟩
  | .hbm, ⟨25, _⟩ => ⟨S1, .f32⟩
  | .hbm, ⟨26, _⟩ => ⟨S1x1, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S1x512, .f32⟩
  | .hbm, ⟨31, _⟩ => ⟨S512, .f32⟩
  | .hbm, ⟨32, _⟩ => ⟨S1x512, .f32⟩
  | .hbm, ⟨33, _⟩ => ⟨S1x512x102, .f32⟩
  | .hbm, ⟨34, _⟩ => ⟨S512x102, .f32⟩
  | .hbm, ⟨35, _⟩ => ⟨S1x102, .f32⟩
  | .hbm, ⟨36, _⟩ => ⟨S102, .f32⟩
  | .hbm, ⟨37, _⟩ => ⟨S1x102, .f32⟩
  | .hbm, ⟨38, _⟩ => ⟨S1x102x115, .f32⟩
  | .hbm, ⟨39, _⟩ => ⟨S102x115, .f32⟩
  | .hbm, ⟨40, _⟩ => ⟨S1x115, .f32⟩
  | .hbm, ⟨41, _⟩ => ⟨S115, .f32⟩
  | .hbm, ⟨42, _⟩ => ⟨S1x115, .f32⟩
  | .hbm, ⟨43, _⟩ => ⟨S1x1x1x1, .f32⟩
  | .hbm, ⟨44, _⟩ => ⟨S1x1x1, .f32⟩
  | .hbm, ⟨45, _⟩ => ⟨S1x1, .f32⟩
  | .hbm, ⟨46, _⟩ => ⟨S64x1x512, .f32⟩
  | .hbm, ⟨47, _⟩ => ⟨S64x1x512, .f32⟩
  | .hbm, ⟨48, _⟩ => ⟨S64x1x512, .f32⟩
  | .hbm, ⟨49, _⟩ => ⟨S64x116x512, .f32⟩
  | .hbm, ⟨50, _⟩ => ⟨S1x512x128, .f32⟩
  | .hbm, ⟨51, _⟩ => ⟨S512x128, .f32⟩
  | .hbm, ⟨52, _⟩ => ⟨S1x128, .f32⟩
  | .hbm, ⟨53, _⟩ => ⟨S128, .f32⟩
  | .hbm, ⟨54, _⟩ => ⟨S1x128, .f32⟩
  | .hbm, ⟨55, _⟩ => ⟨S1x128x1, .f32⟩
  | .hbm, ⟨56, _⟩ => ⟨S128x1, .f32⟩
  | .hbm, ⟨57, _⟩ => ⟨S1x1, .f32⟩
  | .hbm, ⟨58, _⟩ => ⟨S1, .f32⟩
  | .hbm, ⟨59, _⟩ => ⟨S1x1, .f32⟩
  | .hbm, ⟨60, _⟩ => ⟨S1x512, .f32⟩
  | .hbm, ⟨61, _⟩ => ⟨S512, .f32⟩
  | .hbm, ⟨62, _⟩ => ⟨S1x512, .f32⟩
  | .hbm, ⟨63, _⟩ => ⟨S1x512, .f32⟩
  | .hbm, ⟨64, _⟩ => ⟨S512, .f32⟩
  | .hbm, ⟨65, _⟩ => ⟨S1x512, .f32⟩
  | .hbm, ⟨66, _⟩ => ⟨S1x512x102, .f32⟩
  | .hbm, ⟨67, _⟩ => ⟨S512x102, .f32⟩
  | .hbm, ⟨68, _⟩ => ⟨S1x102, .f32⟩
  | .hbm, ⟨69, _⟩ => ⟨S102, .f32⟩
  | .hbm, ⟨70, _⟩ => ⟨S1x102, .f32⟩
  | .hbm, ⟨71, _⟩ => ⟨S1x102x115, .f32⟩
  | .hbm, ⟨72, _⟩ => ⟨S102x115, .f32⟩
  | .hbm, ⟨73, _⟩ => ⟨S1x115, .f32⟩
  | .hbm, ⟨74, _⟩ => ⟨S115, .f32⟩
  | .hbm, ⟨75, _⟩ => ⟨S1x115, .f32⟩
  | .hbm, ⟨76, _⟩ => ⟨S1x1x1x1, .f32⟩
  | .hbm, ⟨77, _⟩ => ⟨S1x1x1, .f32⟩
  | .hbm, ⟨78, _⟩ => ⟨S1x1, .f32⟩
  | .hbm, ⟨79, _⟩ => ⟨S64x1x512, .f32⟩
  | .hbm, ⟨80, _⟩ => ⟨S64x1x512, .f32⟩
  | .hbm, ⟨81, _⟩ => ⟨S64x1x512, .f32⟩
  | .hbm, ⟨82, _⟩ => ⟨S64x116x512, .f32⟩
  | .hbm, ⟨83, _⟩ => ⟨S1x512x128, .f32⟩
  | .hbm, ⟨84, _⟩ => ⟨S512x128, .f32⟩
  | .hbm, ⟨85, _⟩ => ⟨S1x128, .f32⟩
  | .hbm, ⟨86, _⟩ => ⟨S128, .f32⟩
  | .hbm, ⟨87, _⟩ => ⟨S1x128, .f32⟩
  | .hbm, ⟨88, _⟩ => ⟨S1x128x1, .f32⟩
  | .hbm, ⟨89, _⟩ => ⟨S128x1, .f32⟩
  | .hbm, ⟨90, _⟩ => ⟨S1x1, .f32⟩
  | .hbm, ⟨91, _⟩ => ⟨S1, .f32⟩
  | .hbm, ⟨92, _⟩ => ⟨S1x1, .f32⟩
  | .hbm, ⟨93, _⟩ => ⟨S1x512, .f32⟩
  | .hbm, ⟨94, _⟩ => ⟨S512, .f32⟩
  | .hbm, ⟨95, _⟩ => ⟨S1x512, .f32⟩
  | .hbm, ⟨96, _⟩ => ⟨S1x512, .f32⟩
  | .hbm, ⟨97, _⟩ => ⟨S512, .f32⟩
  | .hbm, ⟨98, _⟩ => ⟨S1x512, .f32⟩
  | .hbm, ⟨99, _⟩ => ⟨S1x512x102, .f32⟩
  | .hbm, ⟨100, _⟩ => ⟨S512x102, .f32⟩
  | .hbm, ⟨101, _⟩ => ⟨S1x102, .f32⟩
  | .hbm, ⟨102, _⟩ => ⟨S102, .f32⟩
  | .hbm, ⟨103, _⟩ => ⟨S1x102, .f32⟩
  | .hbm, ⟨104, _⟩ => ⟨S1x102x115, .f32⟩
  | .hbm, ⟨105, _⟩ => ⟨S102x115, .f32⟩
  | .hbm, ⟨106, _⟩ => ⟨S1x115, .f32⟩
  | .hbm, ⟨107, _⟩ => ⟨S115, .f32⟩
  | .hbm, ⟨108, _⟩ => ⟨S1x115, .f32⟩
  | .hbm, ⟨109, _⟩ => ⟨S1x1x1x1, .f32⟩
  | .hbm, ⟨110, _⟩ => ⟨S1x1x1, .f32⟩
  | .hbm, ⟨111, _⟩ => ⟨S1x1, .f32⟩
  | .hbm, ⟨112, _⟩ => ⟨S64x1x512, .f32⟩
  | .hbm, ⟨113, _⟩ => ⟨S64x1x512, .f32⟩
  | .hbm, ⟨114, _⟩ => ⟨S64x1x512, .f32⟩
  | .hbm, ⟨115, _⟩ => ⟨S64x116x512, .f32⟩
  | .local _ .vmem, ⟨0, _⟩ => ⟨S8x576x512, .f32⟩
  | .local _ .vmem, ⟨1, _⟩ => ⟨S8x576x512, .f32⟩
  | .local _ .vmem, ⟨2, _⟩ => ⟨S8x1x512, .f32⟩
  | .local _ .vmem, ⟨3, _⟩ => ⟨S8x1x512, .f32⟩
  | .local _ .vmem, ⟨4, _⟩ => ⟨S8x1x512, .f32⟩
  | .local _ .vmem, ⟨5, _⟩ => ⟨S8x1x512, .f32⟩
  | .local _ .vmem, ⟨6, _⟩ => ⟨S8x1x512, .f32⟩
  | .local _ .vmem, ⟨7, _⟩ => ⟨S8x1x512, .f32⟩
  | .local _ .vmem, ⟨8, _⟩ => ⟨S512x128, .f32⟩
  | .local _ .vmem, ⟨9, _⟩ => ⟨S1x128, .f32⟩
  | .local _ .vmem, ⟨10, _⟩ => ⟨S128x1, .f32⟩
  | .local _ .vmem, ⟨11, _⟩ => ⟨S1x1, .f32⟩
  | .local _ .vmem, ⟨12, _⟩ => ⟨S1x512, .f32⟩
  | .local _ .vmem, ⟨13, _⟩ => ⟨S1x512, .f32⟩
  | .local _ .vmem, ⟨14, _⟩ => ⟨S512x102, .f32⟩
  | .local _ .vmem, ⟨15, _⟩ => ⟨S1x102, .f32⟩
  | .local _ .vmem, ⟨16, _⟩ => ⟨S102x115, .f32⟩
  | .local _ .vmem, ⟨17, _⟩ => ⟨S1x115, .f32⟩
  | .local _ .vmem, ⟨18, _⟩ => ⟨S1x1, .f32⟩
  | .local _ .vmem, ⟨19, _⟩ => ⟨S8x116x512, .f32⟩
  | .local _ .vmem, ⟨20, _⟩ => ⟨S8x116x512, .f32⟩
  | .local _ .vmem, ⟨21, _⟩ => ⟨S8x576x512, .f32⟩
  | .local _ .vmem, ⟨22, _⟩ => ⟨S8x576x512, .f32⟩
  | .local _ .vmem, ⟨23, _⟩ => ⟨S8x1x512, .f32⟩
  | .local _ .vmem, ⟨24, _⟩ => ⟨S8x1x512, .f32⟩
  | .local _ .vmem, ⟨25, _⟩ => ⟨S8x1x512, .f32⟩
  | .local _ .vmem, ⟨26, _⟩ => ⟨S8x1x512, .f32⟩
  | .local _ .vmem, ⟨27, _⟩ => ⟨S8x1x512, .f32⟩
  | .local _ .vmem, ⟨28, _⟩ => ⟨S8x1x512, .f32⟩
  | .local _ .vmem, ⟨29, _⟩ => ⟨S512x128, .f32⟩
  | .local _ .vmem, ⟨30, _⟩ => ⟨S1x128, .f32⟩
  | .local _ .vmem, ⟨31, _⟩ => ⟨S128x1, .f32⟩
  | .local _ .vmem, ⟨32, _⟩ => ⟨S1x1, .f32⟩
  | .local _ .vmem, ⟨33, _⟩ => ⟨S1x512, .f32⟩
  | .local _ .vmem, ⟨34, _⟩ => ⟨S1x512, .f32⟩
  | .local _ .vmem, ⟨35, _⟩ => ⟨S512x102, .f32⟩
  | .local _ .vmem, ⟨36, _⟩ => ⟨S1x102, .f32⟩
  | .local _ .vmem, ⟨37, _⟩ => ⟨S102x115, .f32⟩
  | .local _ .vmem, ⟨38, _⟩ => ⟨S1x115, .f32⟩
  | .local _ .vmem, ⟨39, _⟩ => ⟨S1x1, .f32⟩
  | .local _ .vmem, ⟨40, _⟩ => ⟨S8x116x512, .f32⟩
  | .local _ .vmem, ⟨41, _⟩ => ⟨S8x116x512, .f32⟩
  | .local _ .vmem, ⟨42, _⟩ => ⟨S8x576x512, .f32⟩
  | .local _ .vmem, ⟨43, _⟩ => ⟨S8x576x512, .f32⟩
  | .local _ .vmem, ⟨44, _⟩ => ⟨S8x1x512, .f32⟩
  | .local _ .vmem, ⟨45, _⟩ => ⟨S8x1x512, .f32⟩
  | .local _ .vmem, ⟨46, _⟩ => ⟨S8x1x512, .f32⟩
  | .local _ .vmem, ⟨47, _⟩ => ⟨S8x1x512, .f32⟩
  | .local _ .vmem, ⟨48, _⟩ => ⟨S8x1x512, .f32⟩
  | .local _ .vmem, ⟨49, _⟩ => ⟨S8x1x512, .f32⟩
  | .local _ .vmem, ⟨50, _⟩ => ⟨S512x128, .f32⟩
  | .local _ .vmem, ⟨51, _⟩ => ⟨S1x128, .f32⟩
  | .local _ .vmem, ⟨52, _⟩ => ⟨S128x1, .f32⟩
  | .local _ .vmem, ⟨53, _⟩ => ⟨S1x1, .f32⟩
  | .local _ .vmem, ⟨54, _⟩ => ⟨S1x512, .f32⟩
  | .local _ .vmem, ⟨55, _⟩ => ⟨S1x512, .f32⟩
  | .local _ .vmem, ⟨56, _⟩ => ⟨S512x102, .f32⟩
  | .local _ .vmem, ⟨57, _⟩ => ⟨S1x102, .f32⟩
  | .local _ .vmem, ⟨58, _⟩ => ⟨S102x115, .f32⟩
  | .local _ .vmem, ⟨59, _⟩ => ⟨S1x115, .f32⟩
  | .local _ .vmem, ⟨60, _⟩ => ⟨S1x1, .f32⟩
  | .local _ .vmem, ⟨61, _⟩ => ⟨S8x116x512, .f32⟩
  | .local _ .vmem, ⟨62, _⟩ => ⟨S8x116x512, .f32⟩
  | _, _ => ⟨S64x576x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc1_stg4_0 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg10_0 : Ref sig .tc := ⟨.vmem, 35, rfl⟩
abbrev cc1_stg11_0 : Ref sig .tc := ⟨.vmem, 36, rfl⟩
abbrev cc1_stg12_0 : Ref sig .tc := ⟨.vmem, 37, rfl⟩
abbrev cc1_stg13_0 : Ref sig .tc := ⟨.vmem, 38, rfl⟩
abbrev cc1_stg14_0 : Ref sig .tc := ⟨.vmem, 39, rfl⟩
abbrev cc1_stg15_0 : Ref sig .tc := ⟨.vmem, 40, rfl⟩
abbrev cc1_stg15_1 : Ref sig .tc := ⟨.vmem, 41, rfl⟩
abbrev cc2_stg0_0 : Ref sig .tc := ⟨.vmem, 42, rfl⟩
abbrev cc2_stg0_1 : Ref sig .tc := ⟨.vmem, 43, rfl⟩
abbrev cc2_stg1_0 : Ref sig .tc := ⟨.vmem, 44, rfl⟩
abbrev cc2_stg1_1 : Ref sig .tc := ⟨.vmem, 45, rfl⟩
abbrev cc2_stg2_0 : Ref sig .tc := ⟨.vmem, 46, rfl⟩
abbrev cc2_stg2_1 : Ref sig .tc := ⟨.vmem, 47, rfl⟩
abbrev cc2_stg3_0 : Ref sig .tc := ⟨.vmem, 48, rfl⟩
abbrev cc2_stg3_1 : Ref sig .tc := ⟨.vmem, 49, rfl⟩
abbrev cc2_stg4_0 : Ref sig .tc := ⟨.vmem, 50, rfl⟩
abbrev cc2_stg5_0 : Ref sig .tc := ⟨.vmem, 51, rfl⟩
abbrev cc2_stg6_0 : Ref sig .tc := ⟨.vmem, 52, rfl⟩
abbrev cc2_stg7_0 : Ref sig .tc := ⟨.vmem, 53, rfl⟩
abbrev cc2_stg8_0 : Ref sig .tc := ⟨.vmem, 54, rfl⟩
abbrev cc2_stg9_0 : Ref sig .tc := ⟨.vmem, 55, rfl⟩
abbrev cc2_stg10_0 : Ref sig .tc := ⟨.vmem, 56, rfl⟩
abbrev cc2_stg11_0 : Ref sig .tc := ⟨.vmem, 57, rfl⟩
abbrev cc2_stg12_0 : Ref sig .tc := ⟨.vmem, 58, rfl⟩
abbrev cc2_stg13_0 : Ref sig .tc := ⟨.vmem, 59, rfl⟩
abbrev cc2_stg14_0 : Ref sig .tc := ⟨.vmem, 60, rfl⟩
abbrev cc2_stg15_0 : Ref sig .tc := ⟨.vmem, 61, rfl⟩
abbrev cc2_stg15_1 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28
abbrev cc1_sem4_0 : DmaSem sig := 29
abbrev cc1_sem5_0 : DmaSem sig := 30
abbrev cc1_sem6_0 : DmaSem sig := 31
abbrev cc1_sem7_0 : DmaSem sig := 32
abbrev cc1_sem8_0 : DmaSem sig := 33
abbrev cc1_sem9_0 : DmaSem sig := 34
abbrev cc1_sem10_0 : DmaSem sig := 35
abbrev cc1_sem11_0 : DmaSem sig := 36
abbrev cc1_sem12_0 : DmaSem sig := 37
abbrev cc1_sem13_0 : DmaSem sig := 38
abbrev cc1_sem14_0 : DmaSem sig := 39
abbrev cc1_sem15_0 : DmaSem sig := 40
abbrev cc1_sem15_1 : DmaSem sig := 41
abbrev cc2_sem0_0 : DmaSem sig := 42
abbrev cc2_sem0_1 : DmaSem sig := 43
abbrev cc2_sem1_0 : DmaSem sig := 44
abbrev cc2_sem1_1 : DmaSem sig := 45
abbrev cc2_sem2_0 : DmaSem sig := 46
abbrev cc2_sem2_1 : DmaSem sig := 47
abbrev cc2_sem3_0 : DmaSem sig := 48
abbrev cc2_sem3_1 : DmaSem sig := 49
abbrev cc2_sem4_0 : DmaSem sig := 50
abbrev cc2_sem5_0 : DmaSem sig := 51
abbrev cc2_sem6_0 : DmaSem sig := 52
abbrev cc2_sem7_0 : DmaSem sig := 53
abbrev cc2_sem8_0 : DmaSem sig := 54
abbrev cc2_sem9_0 : DmaSem sig := 55
abbrev cc2_sem10_0 : DmaSem sig := 56
abbrev cc2_sem11_0 : DmaSem sig := 57
abbrev cc2_sem12_0 : DmaSem sig := 58
abbrev cc2_sem13_0 : DmaSem sig := 59
abbrev cc2_sem14_0 : DmaSem sig := 60
abbrev cc2_sem15_0 : DmaSem sig := 61
abbrev cc2_sem15_1 : DmaSem sig := 62

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x576x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x102 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x102 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S102x115 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x115 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S8x116x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x576x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S512x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x102 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x102 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S102x115 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x115 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x1 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S8x116x512 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S8x576x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x1x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S512x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S512x102 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x102 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S102x115 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x115 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x1 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S8x116x512 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]
-- ==== KernelIdeal.lean ====
variable {F : FTy → Type} [FloatOps F] [Named F]
def κ : String → Option EReal := fun
  | "big" => some ⊤
  | "mask" => some ⊥
  | _ => none
-- ==== ReferenceIdeal.lean ====
abbrev S64x576x512 : Shape := ⟨3, ![64, 576, 512]⟩
abbrev S64x512 : Shape := ⟨2, ![64, 512]⟩
abbrev S3x512x128 : Shape := ⟨3, ![3, 512, 128]⟩
abbrev S3x128 : Shape := ⟨2, ![3, 128]⟩
abbrev S3x128x1 : Shape := ⟨3, ![3, 128, 1]⟩
abbrev S3x1 : Shape := ⟨2, ![3, 1]⟩
abbrev S3x512 : Shape := ⟨2, ![3, 512]⟩
abbrev S3x512x102 : Shape := ⟨3, ![3, 512, 102]⟩
abbrev S3x102 : Shape := ⟨2, ![3, 102]⟩
abbrev S3x102x115 : Shape := ⟨3, ![3, 102, 115]⟩
abbrev S3x115 : Shape := ⟨2, ![3, 115]⟩
abbrev S3x1x1x1 : Shape := ⟨4, ![3, 1, 1, 1]⟩
abbrev S_ : Shape := ⟨0, ![]⟩
abbrev S64x576 : Shape := ⟨2, ![64, 576]⟩
abbrev S64x576x1 : Shape := ⟨3, ![64, 576, 1]⟩
abbrev S64 : Shape := ⟨1, ![64]⟩
abbrev S64x1 : Shape := ⟨2, ![64, 1]⟩
abbrev S64x1x512 : Shape := ⟨3, ![64, 1, 512]⟩
abbrev S1x512x128 : Shape := ⟨3, ![1, 512, 128]⟩
abbrev S512x128 : Shape := ⟨2, ![512, 128]⟩
abbrev S1x128 : Shape := ⟨2, ![1, 128]⟩
abbrev S128 : Shape := ⟨1, ![128]⟩
abbrev S1x128x1 : Shape := ⟨3, ![1, 128, 1]⟩
abbrev S128x1 : Shape := ⟨2, ![128, 1]⟩
abbrev S1x1 : Shape := ⟨2, ![1, 1]⟩
abbrev S1 : Shape := ⟨1, ![1]⟩
abbrev S64x576x128 : Shape := ⟨3, ![64, 576, 128]⟩
abbrev S1x1x128 : Shape := ⟨3, ![1, 1, 128]⟩
abbrev S1x1x1 : Shape := ⟨3, ![1, 1, 1]⟩
abbrev S64x288 : Shape := ⟨2, ![64, 288]⟩
abbrev S64x288x1 : Shape := ⟨3, ![64, 288, 1]⟩
abbrev S64x288x2 : Shape := ⟨3, ![64, 288, 2]⟩
abbrev S64x288x512 : Shape := ⟨3, ![64, 288, 512]⟩
abbrev S1x512 : Shape := ⟨2, ![1, 512]⟩
abbrev S512 : Shape := ⟨1, ![512]⟩
abbrev S1x512x102 : Shape := ⟨3, ![1, 512, 102]⟩
abbrev S512x102 : Shape := ⟨2, ![512, 102]⟩
abbrev S1x102 : Shape := ⟨2, ![1, 102]⟩
abbrev S102 : Shape := ⟨1, ![102]⟩
abbrev S1x102x115 : Shape := ⟨3, ![1, 102, 115]⟩
abbrev S102x115 : Shape := ⟨2, ![102, 115]⟩
abbrev S1x115 : Shape := ⟨2, ![1, 115]⟩
abbrev S115 : Shape := ⟨1, ![115]⟩
abbrev S1x1x1x1 : Shape := ⟨4, ![1, 1, 1, 1]⟩
abbrev S1x1x512 : Shape := ⟨3, ![1, 1, 512]⟩
abbrev S64x288x102 : Shape := ⟨3, ![64, 288, 102]⟩
abbrev S1x1x102 : Shape := ⟨3, ![1, 1, 102]⟩
abbrev S64x288x115 : Shape := ⟨3, ![64, 288, 115]⟩
abbrev S1x1x115 : Shape := ⟨3, ![1, 1, 115]⟩
abbrev S64x115x288 : Shape := ⟨3, ![64, 115, 288]⟩
abbrev S64x1x288 : Shape := ⟨3, ![64, 1, 288]⟩
abbrev S64x115 : Shape := ⟨2, ![64, 115]⟩
abbrev S64x115x1 : Shape := ⟨3, ![64, 115, 1]⟩
abbrev S64x115x512 : Shape := ⟨3, ![64, 115, 512]⟩
abbrev S64x116x512 : Shape := ⟨3, ![64, 116, 512]⟩

abbrev nBuf : Space → Nat
  | .hbm => 1241
  | .vmem => 0
  | .smem => 0
  | _ => 0

abbrev hbmTy0_0 (i : Nat) : BufTy := match i % 128 with
  | 0 => ⟨S64x576x512, .f32⟩
  | 1 => ⟨S64x576x512, .f32⟩
  | 2 => ⟨S64x576x512, .f32⟩
  | 3 => ⟨S64x512, .f32⟩
  | 4 => ⟨S64x512, .f32⟩
  | 5 => ⟨S64x512, .f32⟩
  | 6 => ⟨S3x512x128, .f32⟩
  | 7 => ⟨S3x128, .f32⟩
  | 8 => ⟨S3x128x1, .f32⟩
  | 9 => ⟨S3x1, .f32⟩
  | 10 => ⟨S3x512, .f32⟩
  | 11 => ⟨S3x512, .f32⟩
  | 12 => ⟨S3x512x102, .f32⟩
  | 13 => ⟨S3x102, .f32⟩
  | 14 => ⟨S3x102x115, .f32⟩
  | 15 => ⟨S3x115, .f32⟩
  | 16 => ⟨S3x1x1x1, .f32⟩
  | 17 => ⟨S64x576x512, .f32⟩
  | 18 => ⟨S_, .f32⟩
  | 19 => ⟨S64x576, .f32⟩
  | 20 => ⟨S64x576x1, .f32⟩
  | 21 => ⟨S64x576x1, .f32⟩
  | 22 => ⟨S_, .f32⟩
  | 23 => ⟨S64x576x1, .f32⟩
  | 24 => ⟨S64x576x1, .f32⟩
  | 25 => ⟨S64x576x512, .f32⟩
  | 26 => ⟨S64x576x512, .f32⟩
  | 27 => ⟨S64x512, .f32⟩
  | 28 => ⟨S_, .f32⟩
  | 29 => ⟨S64, .f32⟩
  | 30 => ⟨S64x1, .f32⟩
  | 31 => ⟨S64x1, .f32⟩
  | 32 => ⟨S_, .f32⟩
  | 33 => ⟨S64x1, .f32⟩
  | 34 => ⟨S64x1, .f32⟩
  | 35 => ⟨S64x512, .f32⟩
  | 36 => ⟨S64x512, .f32⟩
  | 37 => ⟨S64x1x512, .f32⟩
  | 38 => ⟨S64x576x512, .f32⟩
  | 39 => ⟨S64x576x512, .f32⟩
  | 40 => ⟨S_, .f32⟩
  | 41 => ⟨S64x576, .f32⟩
  | 42 => ⟨S64x576x512, .f32⟩
  | 43 => ⟨S_, .f32⟩
  | 44 => ⟨S64x576, .f32⟩
  | 45 => ⟨S64x576x1, .f32⟩
  | 46 => ⟨S64x576x1, .f32⟩
  | 47 => ⟨S_, .f32⟩
  | 48 => ⟨S64x576x1, .f32⟩
  | 49 => ⟨S64x576x1, .f32⟩
  | 50 => ⟨S64x576x512, .f32⟩
  | 51 => ⟨S64x576x512, .f32⟩
  | 52 => ⟨S64x512, .f32⟩
  | 53 => ⟨S_, .f32⟩
  | 54 => ⟨S64, .f32⟩
  | 55 => ⟨S64x1, .f32⟩
  | 56 => ⟨S64x1, .f32⟩
  | 57 => ⟨S_, .f32⟩
  | 58 => ⟨S64x1, .f32⟩
  | 59 => ⟨S64x1, .f32⟩
  | 60 => ⟨S64x512, .f32⟩
  | 61 => ⟨S64x512, .f32⟩
  | 62 => ⟨S64x1x512, .f32⟩
  | 63 => ⟨S64x576x512, .f32⟩
  | 64 => ⟨S64x576x512, .f32⟩
  | 65 => ⟨S_, .f32⟩
  | 66 => ⟨S64x576, .f32⟩
  | 67 => ⟨S64x576x512, .f32⟩
  | 68 => ⟨S_, .f32⟩
  | 69 => ⟨S64x576, .f32⟩
  | 70 => ⟨S64x576x1, .f32⟩
  | 71 => ⟨S64x576x1, .f32⟩
  | 72 => ⟨S_, .f32⟩
  | 73 => ⟨S64x576x1, .f32⟩
  | 74 => ⟨S64x576x1, .f32⟩
  | 75 => ⟨S64x576x512, .f32⟩
  | 76 => ⟨S64x576x512, .f32⟩
  | 77 => ⟨S64x512, .f32⟩
  | 78 => ⟨S_, .f32⟩
  | 79 => ⟨S64, .f32⟩
  | 80 => ⟨S64x1, .f32⟩
  | 81 => ⟨S64x1, .f32⟩
  | 82 => ⟨S_, .f32⟩
  | 83 => ⟨S64x1, .f32⟩
  | 84 => ⟨S64x1, .f32⟩
  | 85 => ⟨S64x512, .f32⟩
  | 86 => ⟨S64x512, .f32⟩
  | 87 => ⟨S64x1x512, .f32⟩
  | 88 => ⟨S64x576x512, .f32⟩
  | 89 => ⟨S64x576x512, .f32⟩
  | 90 => ⟨S_, .f32⟩
  | 91 => ⟨S64x576, .f32⟩
  | 92 => ⟨S1x512x128, .f32⟩
  | 93 => ⟨S512x128, .f32⟩
  | 94 => ⟨S1x128, .f32⟩
  | 95 => ⟨S128, .f32⟩
  | 96 => ⟨S1x128x1, .f32⟩
  | 97 => ⟨S128x1, .f32⟩
  | 98 => ⟨S1x1, .f32⟩
  | 99 => ⟨S1, .f32⟩
  | 100 => ⟨S64x576x128, .f32⟩
  | 101 => ⟨S1x1x128, .f32⟩
  | 102 => ⟨S64x576x128, .f32⟩
  | 103 => ⟨S64x576x128, .f32⟩
  | 104 => ⟨S_, .f32⟩
  | 105 => ⟨S64x576x128, .f32⟩
  | 106 => ⟨S64x576x128, .f32⟩
  | 107 => ⟨S64x576x128, .f32⟩
  | 108 => ⟨S_, .f32⟩
  | 109 => ⟨S64x576x128, .f32⟩
  | 110 => ⟨S64x576x128, .f32⟩
  | 111 => ⟨S64x576x128, .f32⟩
  | 112 => ⟨S64x576x128, .f32⟩
  | 113 => ⟨S64x576x1, .f32⟩
  | 114 => ⟨S1x1x1, .f32⟩
  | 115 => ⟨S64x576x1, .f32⟩
  | 116 => ⟨S64x576x1, .f32⟩
  | 117 => ⟨S64x576x1, .f32⟩
  | 118 => ⟨S64x576x1, .f32⟩
  | 119 => ⟨S_, .f32⟩
  | 120 => ⟨S64x576x1, .f32⟩
  | 121 => ⟨S64x576x1, .f32⟩
  | 122 => ⟨S_, .f32⟩
  | 123 => ⟨S64x576x1, .f32⟩
  | 124 => ⟨S64x576x1, .f32⟩
  | 125 => ⟨S64x576, .f32⟩
  | 126 => ⟨S_, .f32⟩
  | 127 => ⟨S64x576, .f32⟩
  | _ => ⟨S64x576x512, .f32⟩

abbrev hbmTy0_1 (i : Nat) : BufTy := match i % 128 with
  | 0 => ⟨S64x576, .f32⟩
  | 1 => ⟨S_, .f32⟩
  | 2 => ⟨S64, .f32⟩
  | 3 => ⟨S64x1, .f32⟩
  | 4 => ⟨S_, .f32⟩
  | 5 => ⟨S64, .f32⟩
  | 6 => ⟨S64x1, .f32⟩
  | 7 => ⟨S64x576, .f32⟩
  | 8 => ⟨S64x576, .f32⟩
  | 9 => ⟨S64x1, .f32⟩
  | 10 => ⟨S_, .f32⟩
  | 11 => ⟨S64x1, .f32⟩
  | 12 => ⟨S64x1, .f32⟩
  | 13 => ⟨S64x576, .f32⟩
  | 14 => ⟨S64x576, .f32⟩
  | 15 => ⟨S_, .f32⟩
  | 16 => ⟨S64, .f32⟩
  | 17 => ⟨S64x1, .f32⟩
  | 18 => ⟨S_, .f32⟩
  | 19 => ⟨S64, .f32⟩
  | 20 => ⟨S64x1, .f32⟩
  | 21 => ⟨S64x576, .f32⟩
  | 22 => ⟨S64x576, .f32⟩
  | 23 => ⟨S64x1, .f32⟩
  | 24 => ⟨S_, .f32⟩
  | 25 => ⟨S64x1, .f32⟩
  | 26 => ⟨S64x1, .f32⟩
  | 27 => ⟨S64x576, .f32⟩
  | 28 => ⟨S64x576, .f32⟩
  | 29 => ⟨S64x576, .f32⟩
  | 30 => ⟨S_, .f32⟩
  | 31 => ⟨S64, .f32⟩
  | 32 => ⟨S64x1, .f32⟩
  | 33 => ⟨S_, .f32⟩
  | 34 => ⟨S64, .f32⟩
  | 35 => ⟨S64x1, .f32⟩
  | 36 => ⟨S64x576, .f32⟩
  | 37 => ⟨S64x576, .f32⟩
  | 38 => ⟨S64x1, .f32⟩
  | 39 => ⟨S_, .f32⟩
  | 40 => ⟨S64x1, .f32⟩
  | 41 => ⟨S64x1, .f32⟩
  | 42 => ⟨S64x576, .f32⟩
  | 43 => ⟨S64x576, .f32⟩
  | 44 => ⟨S_, .f32⟩
  | 45 => ⟨S64x576, .f32⟩
  | 46 => ⟨S64x576, .f32⟩
  | 47 => ⟨S64x576, .f32⟩
  | 48 => ⟨S_, .f32⟩
  | 49 => ⟨S64x576, .f32⟩
  | 50 => ⟨S64x576, .f32⟩
  | 51 => ⟨S64x576, .f32⟩
  | 52 => ⟨S64x576, .f32⟩
  | 53 => ⟨S64x576, .i32⟩
  | 54 => ⟨S64x576, .f32⟩
  | 55 => ⟨S64x576, .i32⟩
  | 56 => ⟨S_, .i32⟩
  | 57 => ⟨S64x576, .i32⟩
  | 58 => ⟨S64x576, .i1⟩
  | 59 => ⟨S_, .i32⟩
  | 60 => ⟨S64x576, .i32⟩
  | 61 => ⟨S64x576, .i32⟩
  | 62 => ⟨S64x576, .i32⟩
  | 63 => ⟨S64x576x1, .i32⟩
  | 64 => ⟨S1, .i32⟩
  | 65 => ⟨S_, .i32⟩
  | 66 => ⟨S64x576x1, .i32⟩
  | 67 => ⟨S64x576x1, .i1⟩
  | 68 => ⟨S1x1x1, .i32⟩
  | 69 => ⟨S64x576x1, .i32⟩
  | 70 => ⟨S64x576x1, .i1⟩
  | 71 => ⟨S64x576x1, .i1⟩
  | 72 => ⟨S_, .i1⟩
  | 73 => ⟨S64x576, .i1⟩
  | 74 => ⟨S64x576, .f32⟩
  | 75 => ⟨S_, .f32⟩
  | 76 => ⟨S64x576, .f32⟩
  | 77 => ⟨S64x576, .f32⟩
  | 78 => ⟨S64x288, .i32⟩
  | 79 => ⟨S64, .i32⟩
  | 80 => ⟨S64x1, .i32⟩
  | 81 => ⟨S_, .f32⟩
  | 82 => ⟨S64x576, .f32⟩
  | 83 => ⟨S_, .i32⟩
  | 84 => ⟨S64x1, .i32⟩
  | 85 => ⟨S64x1, .i1⟩
  | 86 => ⟨S_, .i32⟩
  | 87 => ⟨S64x1, .i32⟩
  | 88 => ⟨S64x1, .i32⟩
  | 89 => ⟨S64x1, .i32⟩
  | 90 => ⟨S_, .i32⟩
  | 91 => ⟨S64x288, .i32⟩
  | 92 => ⟨S64x288, .i1⟩
  | 93 => ⟨S_, .i32⟩
  | 94 => ⟨S64x288, .i32⟩
  | 95 => ⟨S64x288, .i32⟩
  | 96 => ⟨S64x288, .i32⟩
  | 97 => ⟨S64x288, .i32⟩
  | 98 => ⟨S64x288x1, .i32⟩
  | 99 => ⟨S64x288x1, .i32⟩
  | 100 => ⟨S64x288x2, .i32⟩
  | 101 => ⟨S_, .f32⟩
  | 102 => ⟨S64x288, .f32⟩
  | 103 => ⟨S64x576, .f32⟩
  | 104 => ⟨S64x288x1, .i32⟩
  | 105 => ⟨S_, .i32⟩
  | 106 => ⟨S64x288x1, .i32⟩
  | 107 => ⟨S64x288x1, .i1⟩
  | 108 => ⟨S_, .i32⟩
  | 109 => ⟨S64x288x1, .i32⟩
  | 110 => ⟨S64x288x1, .i32⟩
  | 111 => ⟨S64x288x1, .i32⟩
  | 112 => ⟨S1, .i32⟩
  | 113 => ⟨S_, .i32⟩
  | 114 => ⟨S64x288x1, .i32⟩
  | 115 => ⟨S64x288x1, .i1⟩
  | 116 => ⟨S1x1x1, .i32⟩
  | 117 => ⟨S64x288x1, .i32⟩
  | 118 => ⟨S64x288x1, .i1⟩
  | 119 => ⟨S64x288x1, .i1⟩
  | 120 => ⟨S_, .i1⟩
  | 121 => ⟨S64x288, .i1⟩
  | 122 => ⟨S64x288x512, .f32⟩
  | 123 => ⟨S64x288x512, .i1⟩
  | 124 => ⟨S_, .f32⟩
  | 125 => ⟨S64x288x512, .f32⟩
  | 126 => ⟨S64x288x512, .f32⟩
  | 127 => ⟨S64x288, .i32⟩
  | _ => ⟨S64x576x512, .f32⟩

abbrev hbmTy0_2 (i : Nat) : BufTy := match i % 128 with
  | 0 => ⟨S64x288x1, .i32⟩
  | 1 => ⟨S_, .i32⟩
  | 2 => ⟨S64x288x1, .i32⟩
  | 3 => ⟨S64x288x1, .i1⟩
  | 4 => ⟨S_, .i32⟩
  | 5 => ⟨S64x288x1, .i32⟩
  | 6 => ⟨S64x288x1, .i32⟩
  | 7 => ⟨S64x288x1, .i32⟩
  | 8 => ⟨S1, .i32⟩
  | 9 => ⟨S_, .i32⟩
  | 10 => ⟨S64x288x1, .i32⟩
  | 11 => ⟨S64x288x1, .i1⟩
  | 12 => ⟨S1x1x1, .i32⟩
  | 13 => ⟨S64x288x1, .i32⟩
  | 14 => ⟨S64x288x1, .i1⟩
  | 15 => ⟨S64x288x1, .i1⟩
  | 16 => ⟨S_, .i1⟩
  | 17 => ⟨S64x288, .i1⟩
  | 18 => ⟨S64x288x512, .f32⟩
  | 19 => ⟨S64x288x512, .i1⟩
  | 20 => ⟨S_, .f32⟩
  | 21 => ⟨S64x288x512, .f32⟩
  | 22 => ⟨S64x288x512, .f32⟩
  | 23 => ⟨S64x288, .f32⟩
  | 24 => ⟨S_, .f32⟩
  | 25 => ⟨S64, .f32⟩
  | 26 => ⟨S_, .f32⟩
  | 27 => ⟨S64, .f32⟩
  | 28 => ⟨S64, .f32⟩
  | 29 => ⟨S64x1, .f32⟩
  | 30 => ⟨S64x288, .f32⟩
  | 31 => ⟨S64x288, .f32⟩
  | 32 => ⟨S64x288, .f32⟩
  | 33 => ⟨S_, .f32⟩
  | 34 => ⟨S64, .f32⟩
  | 35 => ⟨S64x1, .f32⟩
  | 36 => ⟨S64x288, .f32⟩
  | 37 => ⟨S64x288, .f32⟩
  | 38 => ⟨S64x288x1, .f32⟩
  | 39 => ⟨S64x288x512, .f32⟩
  | 40 => ⟨S64x288x512, .f32⟩
  | 41 => ⟨S_, .f32⟩
  | 42 => ⟨S64x512, .f32⟩
  | 43 => ⟨S64x1x512, .f32⟩
  | 44 => ⟨S_, .i32⟩
  | 45 => ⟨S64x288, .i32⟩
  | 46 => ⟨S64x288, .i1⟩
  | 47 => ⟨S_, .i32⟩
  | 48 => ⟨S64x288, .i32⟩
  | 49 => ⟨S64x288, .i32⟩
  | 50 => ⟨S64x288, .i32⟩
  | 51 => ⟨S64x288x1, .i32⟩
  | 52 => ⟨S1, .i32⟩
  | 53 => ⟨S_, .i32⟩
  | 54 => ⟨S64x288x1, .i32⟩
  | 55 => ⟨S64x288x1, .i1⟩
  | 56 => ⟨S1x1x1, .i32⟩
  | 57 => ⟨S64x288x1, .i32⟩
  | 58 => ⟨S64x288x1, .i1⟩
  | 59 => ⟨S64x288x1, .i1⟩
  | 60 => ⟨S_, .i1⟩
  | 61 => ⟨S64x288, .i1⟩
  | 62 => ⟨S64x288, .f32⟩
  | 63 => ⟨S_, .f32⟩
  | 64 => ⟨S64x288, .f32⟩
  | 65 => ⟨S64x288, .f32⟩
  | 66 => ⟨S1x512, .f32⟩
  | 67 => ⟨S512, .f32⟩
  | 68 => ⟨S1x512, .f32⟩
  | 69 => ⟨S512, .f32⟩
  | 70 => ⟨S1x512x102, .f32⟩
  | 71 => ⟨S512x102, .f32⟩
  | 72 => ⟨S1x102, .f32⟩
  | 73 => ⟨S102, .f32⟩
  | 74 => ⟨S1x102x115, .f32⟩
  | 75 => ⟨S102x115, .f32⟩
  | 76 => ⟨S1x115, .f32⟩
  | 77 => ⟨S115, .f32⟩
  | 78 => ⟨S1x1x1x1, .f32⟩
  | 79 => ⟨S1x1x1, .f32⟩
  | 80 => ⟨S_, .f32⟩
  | 81 => ⟨S64x288, .f32⟩
  | 82 => ⟨S64x288x1, .f32⟩
  | 83 => ⟨S_, .f32⟩
  | 84 => ⟨S64x288x1, .f32⟩
  | 85 => ⟨S64x288x1, .f32⟩
  | 86 => ⟨S_, .i32⟩
  | 87 => ⟨S_, .f32⟩
  | 88 => ⟨S64x288, .f32⟩
  | 89 => ⟨S64x288x1, .f32⟩
  | 90 => ⟨S_, .f32⟩
  | 91 => ⟨S64x288x1, .f32⟩
  | 92 => ⟨S64x288x1, .f32⟩
  | 93 => ⟨S64x288x512, .f32⟩
  | 94 => ⟨S64x288x512, .f32⟩
  | 95 => ⟨S64x288x512, .f32⟩
  | 96 => ⟨S_, .f32⟩
  | 97 => ⟨S_, .f32⟩
  | 98 => ⟨S_, .f32⟩
  | 99 => ⟨S_, .f32⟩
  | 100 => ⟨S64x288, .f32⟩
  | 101 => ⟨S64x288x1, .f32⟩
  | 102 => ⟨S64x288x1, .f32⟩
  | 103 => ⟨S64x288x1, .f32⟩
  | 104 => ⟨S_, .f32⟩
  | 105 => ⟨S_, .i1⟩
  | 106 => ⟨S_, .f32⟩
  | 107 => ⟨S_, .f32⟩
  | 108 => ⟨S64x288x1, .f32⟩
  | 109 => ⟨S64x288x1, .f32⟩
  | 110 => ⟨S64x288x512, .f32⟩
  | 111 => ⟨S64x288x512, .f32⟩
  | 112 => ⟨S_, .f32⟩
  | 113 => ⟨S64x288x1, .f32⟩
  | 114 => ⟨S64x288x1, .f32⟩
  | 115 => ⟨S64x288x1, .f32⟩
  | 116 => ⟨S64x288x512, .f32⟩
  | 117 => ⟨S64x288x512, .f32⟩
  | 118 => ⟨S1x1x512, .f32⟩
  | 119 => ⟨S64x288x512, .f32⟩
  | 120 => ⟨S64x288x512, .f32⟩
  | 121 => ⟨S1x1x512, .f32⟩
  | 122 => ⟨S64x288x512, .f32⟩
  | 123 => ⟨S64x288x512, .f32⟩
  | 124 => ⟨S64x288x102, .f32⟩
  | 125 => ⟨S1x1x102, .f32⟩
  | 126 => ⟨S64x288x102, .f32⟩
  | 127 => ⟨S64x288x102, .f32⟩
  | _ => ⟨S64x576x512, .f32⟩

abbrev hbmTy0_3 (i : Nat) : BufTy := match i % 128 with
  | 0 => ⟨S_, .f32⟩
  | 1 => ⟨S64x288x102, .f32⟩
  | 2 => ⟨S64x288x102, .f32⟩
  | 3 => ⟨S64x288x102, .f32⟩
  | 4 => ⟨S_, .f32⟩
  | 5 => ⟨S64x288x102, .f32⟩
  | 6 => ⟨S64x288x102, .f32⟩
  | 7 => ⟨S64x288x102, .f32⟩
  | 8 => ⟨S64x288x102, .f32⟩
  | 9 => ⟨S64x288x115, .f32⟩
  | 10 => ⟨S1x1x115, .f32⟩
  | 11 => ⟨S64x288x115, .f32⟩
  | 12 => ⟨S64x288x115, .f32⟩
  | 13 => ⟨S64x115x288, .f32⟩
  | 14 => ⟨S64x115x288, .f32⟩
  | 15 => ⟨S64x115x288, .f32⟩
  | 16 => ⟨S64x1x288, .f32⟩
  | 17 => ⟨S_, .f32⟩
  | 18 => ⟨S64x1x288, .f32⟩
  | 19 => ⟨S64x1x288, .f32⟩
  | 20 => ⟨S_, .f32⟩
  | 21 => ⟨S64x1x288, .f32⟩
  | 22 => ⟨S64x1x288, .f32⟩
  | 23 => ⟨S64x115x288, .f32⟩
  | 24 => ⟨S64x115x288, .f32⟩
  | 25 => ⟨S_, .f32⟩
  | 26 => ⟨S64x115, .f32⟩
  | 27 => ⟨S_, .f32⟩
  | 28 => ⟨S64x115, .f32⟩
  | 29 => ⟨S64x115, .f32⟩
  | 30 => ⟨S64x115x1, .f32⟩
  | 31 => ⟨S64x115x288, .f32⟩
  | 32 => ⟨S64x115x288, .f32⟩
  | 33 => ⟨S64x115x288, .f32⟩
  | 34 => ⟨S_, .f32⟩
  | 35 => ⟨S64x115, .f32⟩
  | 36 => ⟨S64x115x1, .f32⟩
  | 37 => ⟨S64x115x288, .f32⟩
  | 38 => ⟨S64x115x288, .f32⟩
  | 39 => ⟨S64x115x512, .f32⟩
  | 40 => ⟨S64x116x512, .f32⟩
  | 41 => ⟨S64x576x512, .f32⟩
  | 42 => ⟨S_, .f32⟩
  | 43 => ⟨S64x576, .f32⟩
  | 44 => ⟨S64x576x1, .f32⟩
  | 45 => ⟨S64x576x1, .f32⟩
  | 46 => ⟨S_, .f32⟩
  | 47 => ⟨S64x576x1, .f32⟩
  | 48 => ⟨S64x576x1, .f32⟩
  | 49 => ⟨S64x576x512, .f32⟩
  | 50 => ⟨S64x576x512, .f32⟩
  | 51 => ⟨S64x512, .f32⟩
  | 52 => ⟨S_, .f32⟩
  | 53 => ⟨S64, .f32⟩
  | 54 => ⟨S64x1, .f32⟩
  | 55 => ⟨S64x1, .f32⟩
  | 56 => ⟨S_, .f32⟩
  | 57 => ⟨S64x1, .f32⟩
  | 58 => ⟨S64x1, .f32⟩
  | 59 => ⟨S64x512, .f32⟩
  | 60 => ⟨S64x512, .f32⟩
  | 61 => ⟨S64x1x512, .f32⟩
  | 62 => ⟨S64x576x512, .f32⟩
  | 63 => ⟨S64x576x512, .f32⟩
  | 64 => ⟨S_, .f32⟩
  | 65 => ⟨S64x576, .f32⟩
  | 66 => ⟨S64x576x512, .f32⟩
  | 67 => ⟨S_, .f32⟩
  | 68 => ⟨S64x576, .f32⟩
  | 69 => ⟨S64x576x1, .f32⟩
  | 70 => ⟨S64x576x1, .f32⟩
  | 71 => ⟨S_, .f32⟩
  | 72 => ⟨S64x576x1, .f32⟩
  | 73 => ⟨S64x576x1, .f32⟩
  | 74 => ⟨S64x576x512, .f32⟩
  | 75 => ⟨S64x576x512, .f32⟩
  | 76 => ⟨S64x512, .f32⟩
  | 77 => ⟨S_, .f32⟩
  | 78 => ⟨S64, .f32⟩
  | 79 => ⟨S64x1, .f32⟩
  | 80 => ⟨S64x1, .f32⟩
  | 81 => ⟨S_, .f32⟩
  | 82 => ⟨S64x1, .f32⟩
  | 83 => ⟨S64x1, .f32⟩
  | 84 => ⟨S64x512, .f32⟩
  | 85 => ⟨S64x512, .f32⟩
  | 86 => ⟨S64x1x512, .f32⟩
  | 87 => ⟨S64x576x512, .f32⟩
  | 88 => ⟨S64x576x512, .f32⟩
  | 89 => ⟨S_, .f32⟩
  | 90 => ⟨S64x576, .f32⟩
  | 91 => ⟨S64x576x512, .f32⟩
  | 92 => ⟨S_, .f32⟩
  | 93 => ⟨S64x576, .f32⟩
  | 94 => ⟨S64x576x1, .f32⟩
  | 95 => ⟨S64x576x1, .f32⟩
  | 96 => ⟨S_, .f32⟩
  | 97 => ⟨S64x576x1, .f32⟩
  | 98 => ⟨S64x576x1, .f32⟩
  | 99 => ⟨S64x576x512, .f32⟩
  | 100 => ⟨S64x576x512, .f32⟩
  | 101 => ⟨S64x512, .f32⟩
  | 102 => ⟨S_, .f32⟩
  | 103 => ⟨S64, .f32⟩
  | 104 => ⟨S64x1, .f32⟩
  | 105 => ⟨S64x1, .f32⟩
  | 106 => ⟨S_, .f32⟩
  | 107 => ⟨S64x1, .f32⟩
  | 108 => ⟨S64x1, .f32⟩
  | 109 => ⟨S64x512, .f32⟩
  | 110 => ⟨S64x512, .f32⟩
  | 111 => ⟨S64x1x512, .f32⟩
  | 112 => ⟨S64x576x512, .f32⟩
  | 113 => ⟨S64x576x512, .f32⟩
  | 114 => ⟨S_, .f32⟩
  | 115 => ⟨S64x576, .f32⟩
  | 116 => ⟨S1x512x128, .f32⟩
  | 117 => ⟨S512x128, .f32⟩
  | 118 => ⟨S1x128, .f32⟩
  | 119 => ⟨S128, .f32⟩
  | 120 => ⟨S1x128x1, .f32⟩
  | 121 => ⟨S128x1, .f32⟩
  | 122 => ⟨S1x1, .f32⟩
  | 123 => ⟨S1, .f32⟩
  | 124 => ⟨S64x576x128, .f32⟩
  | 125 => ⟨S1x1x128, .f32⟩
  | 126 => ⟨S64x576x128, .f32⟩
  | 127 => ⟨S64x576x128, .f32⟩
  | _ => ⟨S64x576x512, .f32⟩

abbrev hbmTy0_4 (i : Nat) : BufTy := match i % 128 with
  | 0 => ⟨S_, .f32⟩
  | 1 => ⟨S64x576x128, .f32⟩
  | 2 => ⟨S64x576x128, .f32⟩
  | 3 => ⟨S64x576x128, .f32⟩
  | 4 => ⟨S_, .f32⟩
  | 5 => ⟨S64x576x128, .f32⟩
  | 6 => ⟨S64x576x128, .f32⟩
  | 7 => ⟨S64x576x128, .f32⟩
  | 8 => ⟨S64x576x128, .f32⟩
  | 9 => ⟨S64x576x1, .f32⟩
  | 10 => ⟨S1x1x1, .f32⟩
  | 11 => ⟨S64x576x1, .f32⟩
  | 12 => ⟨S64x576x1, .f32⟩
  | 13 => ⟨S64x576x1, .f32⟩
  | 14 => ⟨S64x576x1, .f32⟩
  | 15 => ⟨S_, .f32⟩
  | 16 => ⟨S64x576x1, .f32⟩
  | 17 => ⟨S64x576x1, .f32⟩
  | 18 => ⟨S_, .f32⟩
  | 19 => ⟨S64x576x1, .f32⟩
  | 20 => ⟨S64x576x1, .f32⟩
  | 21 => ⟨S64x576, .f32⟩
  | 22 => ⟨S_, .f32⟩
  | 23 => ⟨S64x576, .f32⟩
  | 24 => ⟨S64x576, .f32⟩
  | 25 => ⟨S_, .f32⟩
  | 26 => ⟨S64, .f32⟩
  | 27 => ⟨S64x1, .f32⟩
  | 28 => ⟨S_, .f32⟩
  | 29 => ⟨S64, .f32⟩
  | 30 => ⟨S64x1, .f32⟩
  | 31 => ⟨S64x576, .f32⟩
  | 32 => ⟨S64x576, .f32⟩
  | 33 => ⟨S64x1, .f32⟩
  | 34 => ⟨S_, .f32⟩
  | 35 => ⟨S64x1, .f32⟩
  | 36 => ⟨S64x1, .f32⟩
  | 37 => ⟨S64x576, .f32⟩
  | 38 => ⟨S64x576, .f32⟩
  | 39 => ⟨S_, .f32⟩
  | 40 => ⟨S64, .f32⟩
  | 41 => ⟨S64x1, .f32⟩
  | 42 => ⟨S_, .f32⟩
  | 43 => ⟨S64, .f32⟩
  | 44 => ⟨S64x1, .f32⟩
  | 45 => ⟨S64x576, .f32⟩
  | 46 => ⟨S64x576, .f32⟩
  | 47 => ⟨S64x1, .f32⟩
  | 48 => ⟨S_, .f32⟩
  | 49 => ⟨S64x1, .f32⟩
  | 50 => ⟨S64x1, .f32⟩
  | 51 => ⟨S64x576, .f32⟩
  | 52 => ⟨S64x576, .f32⟩
  | 53 => ⟨S64x576, .f32⟩
  | 54 => ⟨S_, .f32⟩
  | 55 => ⟨S64, .f32⟩
  | 56 => ⟨S64x1, .f32⟩
  | 57 => ⟨S_, .f32⟩
  | 58 => ⟨S64, .f32⟩
  | 59 => ⟨S64x1, .f32⟩
  | 60 => ⟨S64x576, .f32⟩
  | 61 => ⟨S64x576, .f32⟩
  | 62 => ⟨S64x1, .f32⟩
  | 63 => ⟨S_, .f32⟩
  | 64 => ⟨S64x1, .f32⟩
  | 65 => ⟨S64x1, .f32⟩
  | 66 => ⟨S64x576, .f32⟩
  | 67 => ⟨S64x576, .f32⟩
  | 68 => ⟨S_, .f32⟩
  | 69 => ⟨S64x576, .f32⟩
  | 70 => ⟨S64x576, .f32⟩
  | 71 => ⟨S64x576, .f32⟩
  | 72 => ⟨S_, .f32⟩
  | 73 => ⟨S64x576, .f32⟩
  | 74 => ⟨S64x576, .f32⟩
  | 75 => ⟨S64x576, .f32⟩
  | 76 => ⟨S64x576, .f32⟩
  | 77 => ⟨S64x576, .i32⟩
  | 78 => ⟨S64x576, .f32⟩
  | 79 => ⟨S64x576, .i32⟩
  | 80 => ⟨S_, .i32⟩
  | 81 => ⟨S64x576, .i32⟩
  | 82 => ⟨S64x576, .i1⟩
  | 83 => ⟨S_, .i32⟩
  | 84 => ⟨S64x576, .i32⟩
  | 85 => ⟨S64x576, .i32⟩
  | 86 => ⟨S64x576, .i32⟩
  | 87 => ⟨S64x576x1, .i32⟩
  | 88 => ⟨S1, .i32⟩
  | 89 => ⟨S_, .i32⟩
  | 90 => ⟨S64x576x1, .i32⟩
  | 91 => ⟨S64x576x1, .i1⟩
  | 92 => ⟨S1x1x1, .i32⟩
  | 93 => ⟨S64x576x1, .i32⟩
  | 94 => ⟨S64x576x1, .i1⟩
  | 95 => ⟨S64x576x1, .i1⟩
  | 96 => ⟨S_, .i1⟩
  | 97 => ⟨S64x576, .i1⟩
  | 98 => ⟨S64x576, .f32⟩
  | 99 => ⟨S_, .f32⟩
  | 100 => ⟨S64x576, .f32⟩
  | 101 => ⟨S64x576, .f32⟩
  | 102 => ⟨S64x288, .i32⟩
  | 103 => ⟨S64, .i32⟩
  | 104 => ⟨S64x1, .i32⟩
  | 105 => ⟨S_, .f32⟩
  | 106 => ⟨S64x576, .f32⟩
  | 107 => ⟨S_, .i32⟩
  | 108 => ⟨S64x1, .i32⟩
  | 109 => ⟨S64x1, .i1⟩
  | 110 => ⟨S_, .i32⟩
  | 111 => ⟨S64x1, .i32⟩
  | 112 => ⟨S64x1, .i32⟩
  | 113 => ⟨S64x1, .i32⟩
  | 114 => ⟨S_, .i32⟩
  | 115 => ⟨S64x288, .i32⟩
  | 116 => ⟨S64x288, .i1⟩
  | 117 => ⟨S_, .i32⟩
  | 118 => ⟨S64x288, .i32⟩
  | 119 => ⟨S64x288, .i32⟩
  | 120 => ⟨S64x288, .i32⟩
  | 121 => ⟨S64x288, .i32⟩
  | 122 => ⟨S64x288x1, .i32⟩
  | 123 => ⟨S64x288x1, .i32⟩
  | 124 => ⟨S64x288x2, .i32⟩
  | 125 => ⟨S_, .f32⟩
  | 126 => ⟨S64x288, .f32⟩
  | 127 => ⟨S64x576, .f32⟩
  | _ => ⟨S64x576x512, .f32⟩

abbrev hbmTy0_5 (i : Nat) : BufTy := match i % 128 with
  | 0 => ⟨S64x288x1, .i32⟩
  | 1 => ⟨S_, .i32⟩
  | 2 => ⟨S64x288x1, .i32⟩
  | 3 => ⟨S64x288x1, .i1⟩
  | 4 => ⟨S_, .i32⟩
  | 5 => ⟨S64x288x1, .i32⟩
  | 6 => ⟨S64x288x1, .i32⟩
  | 7 => ⟨S64x288x1, .i32⟩
  | 8 => ⟨S1, .i32⟩
  | 9 => ⟨S_, .i32⟩
  | 10 => ⟨S64x288x1, .i32⟩
  | 11 => ⟨S64x288x1, .i1⟩
  | 12 => ⟨S1x1x1, .i32⟩
  | 13 => ⟨S64x288x1, .i32⟩
  | 14 => ⟨S64x288x1, .i1⟩
  | 15 => ⟨S64x288x1, .i1⟩
  | 16 => ⟨S_, .i1⟩
  | 17 => ⟨S64x288, .i1⟩
  | 18 => ⟨S64x288x512, .f32⟩
  | 19 => ⟨S64x288x512, .i1⟩
  | 20 => ⟨S_, .f32⟩
  | 21 => ⟨S64x288x512, .f32⟩
  | 22 => ⟨S64x288x512, .f32⟩
  | 23 => ⟨S64x288, .i32⟩
  | 24 => ⟨S64x288x1, .i32⟩
  | 25 => ⟨S_, .i32⟩
  | 26 => ⟨S64x288x1, .i32⟩
  | 27 => ⟨S64x288x1, .i1⟩
  | 28 => ⟨S_, .i32⟩
  | 29 => ⟨S64x288x1, .i32⟩
  | 30 => ⟨S64x288x1, .i32⟩
  | 31 => ⟨S64x288x1, .i32⟩
  | 32 => ⟨S1, .i32⟩
  | 33 => ⟨S_, .i32⟩
  | 34 => ⟨S64x288x1, .i32⟩
  | 35 => ⟨S64x288x1, .i1⟩
  | 36 => ⟨S1x1x1, .i32⟩
  | 37 => ⟨S64x288x1, .i32⟩
  | 38 => ⟨S64x288x1, .i1⟩
  | 39 => ⟨S64x288x1, .i1⟩
  | 40 => ⟨S_, .i1⟩
  | 41 => ⟨S64x288, .i1⟩
  | 42 => ⟨S64x288x512, .f32⟩
  | 43 => ⟨S64x288x512, .i1⟩
  | 44 => ⟨S_, .f32⟩
  | 45 => ⟨S64x288x512, .f32⟩
  | 46 => ⟨S64x288x512, .f32⟩
  | 47 => ⟨S64x288, .f32⟩
  | 48 => ⟨S_, .f32⟩
  | 49 => ⟨S64, .f32⟩
  | 50 => ⟨S_, .f32⟩
  | 51 => ⟨S64, .f32⟩
  | 52 => ⟨S64, .f32⟩
  | 53 => ⟨S64x1, .f32⟩
  | 54 => ⟨S64x288, .f32⟩
  | 55 => ⟨S64x288, .f32⟩
  | 56 => ⟨S64x288, .f32⟩
  | 57 => ⟨S_, .f32⟩
  | 58 => ⟨S64, .f32⟩
  | 59 => ⟨S64x1, .f32⟩
  | 60 => ⟨S64x288, .f32⟩
  | 61 => ⟨S64x288, .f32⟩
  | 62 => ⟨S64x288x1, .f32⟩
  | 63 => ⟨S64x288x512, .f32⟩
  | 64 => ⟨S64x288x512, .f32⟩
  | 65 => ⟨S_, .f32⟩
  | 66 => ⟨S64x512, .f32⟩
  | 67 => ⟨S64x1x512, .f32⟩
  | 68 => ⟨S_, .i32⟩
  | 69 => ⟨S64x288, .i32⟩
  | 70 => ⟨S64x288, .i1⟩
  | 71 => ⟨S_, .i32⟩
  | 72 => ⟨S64x288, .i32⟩
  | 73 => ⟨S64x288, .i32⟩
  | 74 => ⟨S64x288, .i32⟩
  | 75 => ⟨S64x288x1, .i32⟩
  | 76 => ⟨S1, .i32⟩
  | 77 => ⟨S_, .i32⟩
  | 78 => ⟨S64x288x1, .i32⟩
  | 79 => ⟨S64x288x1, .i1⟩
  | 80 => ⟨S1x1x1, .i32⟩
  | 81 => ⟨S64x288x1, .i32⟩
  | 82 => ⟨S64x288x1, .i1⟩
  | 83 => ⟨S64x288x1, .i1⟩
  | 84 => ⟨S_, .i1⟩
  | 85 => ⟨S64x288, .i1⟩
  | 86 => ⟨S64x288, .f32⟩
  | 87 => ⟨S_, .f32⟩
  | 88 => ⟨S64x288, .f32⟩
  | 89 => ⟨S64x288, .f32⟩
  | 90 => ⟨S1x512, .f32⟩
  | 91 => ⟨S512, .f32⟩
  | 92 => ⟨S1x512, .f32⟩
  | 93 => ⟨S512, .f32⟩
  | 94 => ⟨S1x512x102, .f32⟩
  | 95 => ⟨S512x102, .f32⟩
  | 96 => ⟨S1x102, .f32⟩
  | 97 => ⟨S102, .f32⟩
  | 98 => ⟨S1x102x115, .f32⟩
  | 99 => ⟨S102x115, .f32⟩
  | 100 => ⟨S1x115, .f32⟩
  | 101 => ⟨S115, .f32⟩
  | 102 => ⟨S1x1x1x1, .f32⟩
  | 103 => ⟨S1x1x1, .f32⟩
  | 104 => ⟨S_, .f32⟩
  | 105 => ⟨S64x288, .f32⟩
  | 106 => ⟨S64x288x1, .f32⟩
  | 107 => ⟨S_, .f32⟩
  | 108 => ⟨S64x288x1, .f32⟩
  | 109 => ⟨S64x288x1, .f32⟩
  | 110 => ⟨S_, .i32⟩
  | 111 => ⟨S_, .f32⟩
  | 112 => ⟨S64x288, .f32⟩
  | 113 => ⟨S64x288x1, .f32⟩
  | 114 => ⟨S_, .f32⟩
  | 115 => ⟨S64x288x1, .f32⟩
  | 116 => ⟨S64x288x1, .f32⟩
  | 117 => ⟨S64x288x512, .f32⟩
  | 118 => ⟨S64x288x512, .f32⟩
  | 119 => ⟨S64x288x512, .f32⟩
  | 120 => ⟨S_, .f32⟩
  | 121 => ⟨S_, .f32⟩
  | 122 => ⟨S_, .f32⟩
  | 123 => ⟨S_, .f32⟩
  | 124 => ⟨S64x288, .f32⟩
  | 125 => ⟨S64x288x1, .f32⟩
  | 126 => ⟨S64x288x1, .f32⟩
  | 127 => ⟨S64x288x1, .f32⟩
  | _ => ⟨S64x576x512, .f32⟩

abbrev hbmTy0_6 (i : Nat) : BufTy := match i % 128 with
  | 0 => ⟨S_, .f32⟩
  | 1 => ⟨S_, .i1⟩
  | 2 => ⟨S_, .f32⟩
  | 3 => ⟨S_, .f32⟩
  | 4 => ⟨S64x288x1, .f32⟩
  | 5 => ⟨S64x288x1, .f32⟩
  | 6 => ⟨S64x288x512, .f32⟩
  | 7 => ⟨S64x288x512, .f32⟩
  | 8 => ⟨S_, .f32⟩
  | 9 => ⟨S64x288x1, .f32⟩
  | 10 => ⟨S64x288x1, .f32⟩
  | 11 => ⟨S64x288x1, .f32⟩
  | 12 => ⟨S64x288x512, .f32⟩
  | 13 => ⟨S64x288x512, .f32⟩
  | 14 => ⟨S1x1x512, .f32⟩
  | 15 => ⟨S64x288x512, .f32⟩
  | 16 => ⟨S64x288x512, .f32⟩
  | 17 => ⟨S1x1x512, .f32⟩
  | 18 => ⟨S64x288x512, .f32⟩
  | 19 => ⟨S64x288x512, .f32⟩
  | 20 => ⟨S64x288x102, .f32⟩
  | 21 => ⟨S1x1x102, .f32⟩
  | 22 => ⟨S64x288x102, .f32⟩
  | 23 => ⟨S64x288x102, .f32⟩
  | 24 => ⟨S_, .f32⟩
  | 25 => ⟨S64x288x102, .f32⟩
  | 26 => ⟨S64x288x102, .f32⟩
  | 27 => ⟨S64x288x102, .f32⟩
  | 28 => ⟨S_, .f32⟩
  | 29 => ⟨S64x288x102, .f32⟩
  | 30 => ⟨S64x288x102, .f32⟩
  | 31 => ⟨S64x288x102, .f32⟩
  | 32 => ⟨S64x288x102, .f32⟩
  | 33 => ⟨S64x288x115, .f32⟩
  | 34 => ⟨S1x1x115, .f32⟩
  | 35 => ⟨S64x288x115, .f32⟩
  | 36 => ⟨S64x288x115, .f32⟩
  | 37 => ⟨S64x115x288, .f32⟩
  | 38 => ⟨S64x115x288, .f32⟩
  | 39 => ⟨S64x115x288, .f32⟩
  | 40 => ⟨S64x1x288, .f32⟩
  | 41 => ⟨S_, .f32⟩
  | 42 => ⟨S64x1x288, .f32⟩
  | 43 => ⟨S64x1x288, .f32⟩
  | 44 => ⟨S_, .f32⟩
  | 45 => ⟨S64x1x288, .f32⟩
  | 46 => ⟨S64x1x288, .f32⟩
  | 47 => ⟨S64x115x288, .f32⟩
  | 48 => ⟨S64x115x288, .f32⟩
  | 49 => ⟨S_, .f32⟩
  | 50 => ⟨S64x115, .f32⟩
  | 51 => ⟨S_, .f32⟩
  | 52 => ⟨S64x115, .f32⟩
  | 53 => ⟨S64x115, .f32⟩
  | 54 => ⟨S64x115x1, .f32⟩
  | 55 => ⟨S64x115x288, .f32⟩
  | 56 => ⟨S64x115x288, .f32⟩
  | 57 => ⟨S64x115x288, .f32⟩
  | 58 => ⟨S_, .f32⟩
  | 59 => ⟨S64x115, .f32⟩
  | 60 => ⟨S64x115x1, .f32⟩
  | 61 => ⟨S64x115x288, .f32⟩
  | 62 => ⟨S64x115x288, .f32⟩
  | 63 => ⟨S64x115x512, .f32⟩
  | 64 => ⟨S64x116x512, .f32⟩
  | 65 => ⟨S64x576x512, .f32⟩
  | 66 => ⟨S_, .f32⟩
  | 67 => ⟨S64x576, .f32⟩
  | 68 => ⟨S64x576x1, .f32⟩
  | 69 => ⟨S64x576x1, .f32⟩
  | 70 => ⟨S_, .f32⟩
  | 71 => ⟨S64x576x1, .f32⟩
  | 72 => ⟨S64x576x1, .f32⟩
  | 73 => ⟨S64x576x512, .f32⟩
  | 74 => ⟨S64x576x512, .f32⟩
  | 75 => ⟨S64x512, .f32⟩
  | 76 => ⟨S_, .f32⟩
  | 77 => ⟨S64, .f32⟩
  | 78 => ⟨S64x1, .f32⟩
  | 79 => ⟨S64x1, .f32⟩
  | 80 => ⟨S_, .f32⟩
  | 81 => ⟨S64x1, .f32⟩
  | 82 => ⟨S64x1, .f32⟩
  | 83 => ⟨S64x512, .f32⟩
  | 84 => ⟨S64x512, .f32⟩
  | 85 => ⟨S64x1x512, .f32⟩
  | 86 => ⟨S64x576x512, .f32⟩
  | 87 => ⟨S64x576x512, .f32⟩
  | 88 => ⟨S_, .f32⟩
  | 89 => ⟨S64x576, .f32⟩
  | 90 => ⟨S64x576x512, .f32⟩
  | 91 => ⟨S_, .f32⟩
  | 92 => ⟨S64x576, .f32⟩
  | 93 => ⟨S64x576x1, .f32⟩
  | 94 => ⟨S64x576x1, .f32⟩
  | 95 => ⟨S_, .f32⟩
  | 96 => ⟨S64x576x1, .f32⟩
  | 97 => ⟨S64x576x1, .f32⟩
  | 98 => ⟨S64x576x512, .f32⟩
  | 99 => ⟨S64x576x512, .f32⟩
  | 100 => ⟨S64x512, .f32⟩
  | 101 => ⟨S_, .f32⟩
  | 102 => ⟨S64, .f32⟩
  | 103 => ⟨S64x1, .f32⟩
  | 104 => ⟨S64x1, .f32⟩
  | 105 => ⟨S_, .f32⟩
  | 106 => ⟨S64x1, .f32⟩
  | 107 => ⟨S64x1, .f32⟩
  | 108 => ⟨S64x512, .f32⟩
  | 109 => ⟨S64x512, .f32⟩
  | 110 => ⟨S64x1x512, .f32⟩
  | 111 => ⟨S64x576x512, .f32⟩
  | 112 => ⟨S64x576x512, .f32⟩
  | 113 => ⟨S_, .f32⟩
  | 114 => ⟨S64x576, .f32⟩
  | 115 => ⟨S64x576x512, .f32⟩
  | 116 => ⟨S_, .f32⟩
  | 117 => ⟨S64x576, .f32⟩
  | 118 => ⟨S64x576x1, .f32⟩
  | 119 => ⟨S64x576x1, .f32⟩
  | 120 => ⟨S_, .f32⟩
  | 121 => ⟨S64x576x1, .f32⟩
  | 122 => ⟨S64x576x1, .f32⟩
  | 123 => ⟨S64x576x512, .f32⟩
  | 124 => ⟨S64x576x512, .f32⟩
  | 125 => ⟨S64x512, .f32⟩
  | 126 => ⟨S_, .f32⟩
  | 127 => ⟨S64, .f32⟩
  | _ => ⟨S64x576x512, .f32⟩

abbrev hbmTy0_7 (i : Nat) : BufTy := match i % 128 with
  | 0 => ⟨S64x1, .f32⟩
  | 1 => ⟨S64x1, .f32⟩
  | 2 => ⟨S_, .f32⟩
  | 3 => ⟨S64x1, .f32⟩
  | 4 => ⟨S64x1, .f32⟩
  | 5 => ⟨S64x512, .f32⟩
  | 6 => ⟨S64x512, .f32⟩
  | 7 => ⟨S64x1x512, .f32⟩
  | 8 => ⟨S64x576x512, .f32⟩
  | 9 => ⟨S64x576x512, .f32⟩
  | 10 => ⟨S_, .f32⟩
  | 11 => ⟨S64x576, .f32⟩
  | 12 => ⟨S1x512x128, .f32⟩
  | 13 => ⟨S512x128, .f32⟩
  | 14 => ⟨S1x128, .f32⟩
  | 15 => ⟨S128, .f32⟩
  | 16 => ⟨S1x128x1, .f32⟩
  | 17 => ⟨S128x1, .f32⟩
  | 18 => ⟨S1x1, .f32⟩
  | 19 => ⟨S1, .f32⟩
  | 20 => ⟨S64x576x128, .f32⟩
  | 21 => ⟨S1x1x128, .f32⟩
  | 22 => ⟨S64x576x128, .f32⟩
  | 23 => ⟨S64x576x128, .f32⟩
  | 24 => ⟨S_, .f32⟩
  | 25 => ⟨S64x576x128, .f32⟩
  | 26 => ⟨S64x576x128, .f32⟩
  | 27 => ⟨S64x576x128, .f32⟩
  | 28 => ⟨S_, .f32⟩
  | 29 => ⟨S64x576x128, .f32⟩
  | 30 => ⟨S64x576x128, .f32⟩
  | 31 => ⟨S64x576x128, .f32⟩
  | 32 => ⟨S64x576x128, .f32⟩
  | 33 => ⟨S64x576x1, .f32⟩
  | 34 => ⟨S1x1x1, .f32⟩
  | 35 => ⟨S64x576x1, .f32⟩
  | 36 => ⟨S64x576x1, .f32⟩
  | 37 => ⟨S64x576x1, .f32⟩
  | 38 => ⟨S64x576x1, .f32⟩
  | 39 => ⟨S_, .f32⟩
  | 40 => ⟨S64x576x1, .f32⟩
  | 41 => ⟨S64x576x1, .f32⟩
  | 42 => ⟨S_, .f32⟩
  | 43 => ⟨S64x576x1, .f32⟩
  | 44 => ⟨S64x576x1, .f32⟩
  | 45 => ⟨S64x576, .f32⟩
  | 46 => ⟨S_, .f32⟩
  | 47 => ⟨S64x576, .f32⟩
  | 48 => ⟨S64x576, .f32⟩
  | 49 => ⟨S_, .f32⟩
  | 50 => ⟨S64, .f32⟩
  | 51 => ⟨S64x1, .f32⟩
  | 52 => ⟨S_, .f32⟩
  | 53 => ⟨S64, .f32⟩
  | 54 => ⟨S64x1, .f32⟩
  | 55 => ⟨S64x576, .f32⟩
  | 56 => ⟨S64x576, .f32⟩
  | 57 => ⟨S64x1, .f32⟩
  | 58 => ⟨S_, .f32⟩
  | 59 => ⟨S64x1, .f32⟩
  | 60 => ⟨S64x1, .f32⟩
  | 61 => ⟨S64x576, .f32⟩
  | 62 => ⟨S64x576, .f32⟩
  | 63 => ⟨S_, .f32⟩
  | 64 => ⟨S64, .f32⟩
  | 65 => ⟨S64x1, .f32⟩
  | 66 => ⟨S_, .f32⟩
  | 67 => ⟨S64, .f32⟩
  | 68 => ⟨S64x1, .f32⟩
  | 69 => ⟨S64x576, .f32⟩
  | 70 => ⟨S64x576, .f32⟩
  | 71 => ⟨S64x1, .f32⟩
  | 72 => ⟨S_, .f32⟩
  | 73 => ⟨S64x1, .f32⟩
  | 74 => ⟨S64x1, .f32⟩
  | 75 => ⟨S64x576, .f32⟩
  | 76 => ⟨S64x576, .f32⟩
  | 77 => ⟨S64x576, .f32⟩
  | 78 => ⟨S_, .f32⟩
  | 79 => ⟨S64, .f32⟩
  | 80 => ⟨S64x1, .f32⟩
  | 81 => ⟨S_, .f32⟩
  | 82 => ⟨S64, .f32⟩
  | 83 => ⟨S64x1, .f32⟩
  | 84 => ⟨S64x576, .f32⟩
  | 85 => ⟨S64x576, .f32⟩
  | 86 => ⟨S64x1, .f32⟩
  | 87 => ⟨S_, .f32⟩
  | 88 => ⟨S64x1, .f32⟩
  | 89 => ⟨S64x1, .f32⟩
  | 90 => ⟨S64x576, .f32⟩
  | 91 => ⟨S64x576, .f32⟩
  | 92 => ⟨S_, .f32⟩
  | 93 => ⟨S64x576, .f32⟩
  | 94 => ⟨S64x576, .f32⟩
  | 95 => ⟨S64x576, .f32⟩
  | 96 => ⟨S_, .f32⟩
  | 97 => ⟨S64x576, .f32⟩
  | 98 => ⟨S64x576, .f32⟩
  | 99 => ⟨S64x576, .f32⟩
  | 100 => ⟨S64x576, .f32⟩
  | 101 => ⟨S64x576, .i32⟩
  | 102 => ⟨S64x576, .f32⟩
  | 103 => ⟨S64x576, .i32⟩
  | 104 => ⟨S_, .i32⟩
  | 105 => ⟨S64x576, .i32⟩
  | 106 => ⟨S64x576, .i1⟩
  | 107 => ⟨S_, .i32⟩
  | 108 => ⟨S64x576, .i32⟩
  | 109 => ⟨S64x576, .i32⟩
  | 110 => ⟨S64x576, .i32⟩
  | 111 => ⟨S64x576x1, .i32⟩
  | 112 => ⟨S1, .i32⟩
  | 113 => ⟨S_, .i32⟩
  | 114 => ⟨S64x576x1, .i32⟩
  | 115 => ⟨S64x576x1, .i1⟩
  | 116 => ⟨S1x1x1, .i32⟩
  | 117 => ⟨S64x576x1, .i32⟩
  | 118 => ⟨S64x576x1, .i1⟩
  | 119 => ⟨S64x576x1, .i1⟩
  | 120 => ⟨S_, .i1⟩
  | 121 => ⟨S64x576, .i1⟩
  | 122 => ⟨S64x576, .f32⟩
  | 123 => ⟨S_, .f32⟩
  | 124 => ⟨S64x576, .f32⟩
  | 125 => ⟨S64x576, .f32⟩
  | 126 => ⟨S64x288, .i32⟩
  | 127 => ⟨S64, .i32⟩
  | _ => ⟨S64x576x512, .f32⟩

abbrev hbmTy0_8 (i : Nat) : BufTy := match i % 128 with
  | 0 => ⟨S64x1, .i32⟩
  | 1 => ⟨S_, .f32⟩
  | 2 => ⟨S64x576, .f32⟩
  | 3 => ⟨S_, .i32⟩
  | 4 => ⟨S64x1, .i32⟩
  | 5 => ⟨S64x1, .i1⟩
  | 6 => ⟨S_, .i32⟩
  | 7 => ⟨S64x1, .i32⟩
  | 8 => ⟨S64x1, .i32⟩
  | 9 => ⟨S64x1, .i32⟩
  | 10 => ⟨S_, .i32⟩
  | 11 => ⟨S64x288, .i32⟩
  | 12 => ⟨S64x288, .i1⟩
  | 13 => ⟨S_, .i32⟩
  | 14 => ⟨S64x288, .i32⟩
  | 15 => ⟨S64x288, .i32⟩
  | 16 => ⟨S64x288, .i32⟩
  | 17 => ⟨S64x288, .i32⟩
  | 18 => ⟨S64x288x1, .i32⟩
  | 19 => ⟨S64x288x1, .i32⟩
  | 20 => ⟨S64x288x2, .i32⟩
  | 21 => ⟨S_, .f32⟩
  | 22 => ⟨S64x288, .f32⟩
  | 23 => ⟨S64x576, .f32⟩
  | 24 => ⟨S64x288x1, .i32⟩
  | 25 => ⟨S_, .i32⟩
  | 26 => ⟨S64x288x1, .i32⟩
  | 27 => ⟨S64x288x1, .i1⟩
  | 28 => ⟨S_, .i32⟩
  | 29 => ⟨S64x288x1, .i32⟩
  | 30 => ⟨S64x288x1, .i32⟩
  | 31 => ⟨S64x288x1, .i32⟩
  | 32 => ⟨S1, .i32⟩
  | 33 => ⟨S_, .i32⟩
  | 34 => ⟨S64x288x1, .i32⟩
  | 35 => ⟨S64x288x1, .i1⟩
  | 36 => ⟨S1x1x1, .i32⟩
  | 37 => ⟨S64x288x1, .i32⟩
  | 38 => ⟨S64x288x1, .i1⟩
  | 39 => ⟨S64x288x1, .i1⟩
  | 40 => ⟨S_, .i1⟩
  | 41 => ⟨S64x288, .i1⟩
  | 42 => ⟨S64x288x512, .f32⟩
  | 43 => ⟨S64x288x512, .i1⟩
  | 44 => ⟨S_, .f32⟩
  | 45 => ⟨S64x288x512, .f32⟩
  | 46 => ⟨S64x288x512, .f32⟩
  | 47 => ⟨S64x288, .i32⟩
  | 48 => ⟨S64x288x1, .i32⟩
  | 49 => ⟨S_, .i32⟩
  | 50 => ⟨S64x288x1, .i32⟩
  | 51 => ⟨S64x288x1, .i1⟩
  | 52 => ⟨S_, .i32⟩
  | 53 => ⟨S64x288x1, .i32⟩
  | 54 => ⟨S64x288x1, .i32⟩
  | 55 => ⟨S64x288x1, .i32⟩
  | 56 => ⟨S1, .i32⟩
  | 57 => ⟨S_, .i32⟩
  | 58 => ⟨S64x288x1, .i32⟩
  | 59 => ⟨S64x288x1, .i1⟩
  | 60 => ⟨S1x1x1, .i32⟩
  | 61 => ⟨S64x288x1, .i32⟩
  | 62 => ⟨S64x288x1, .i1⟩
  | 63 => ⟨S64x288x1, .i1⟩
  | 64 => ⟨S_, .i1⟩
  | 65 => ⟨S64x288, .i1⟩
  | 66 => ⟨S64x288x512, .f32⟩
  | 67 => ⟨S64x288x512, .i1⟩
  | 68 => ⟨S_, .f32⟩
  | 69 => ⟨S64x288x512, .f32⟩
  | 70 => ⟨S64x288x512, .f32⟩
  | 71 => ⟨S64x288, .f32⟩
  | 72 => ⟨S_, .f32⟩
  | 73 => ⟨S64, .f32⟩
  | 74 => ⟨S_, .f32⟩
  | 75 => ⟨S64, .f32⟩
  | 76 => ⟨S64, .f32⟩
  | 77 => ⟨S64x1, .f32⟩
  | 78 => ⟨S64x288, .f32⟩
  | 79 => ⟨S64x288, .f32⟩
  | 80 => ⟨S64x288, .f32⟩
  | 81 => ⟨S_, .f32⟩
  | 82 => ⟨S64, .f32⟩
  | 83 => ⟨S64x1, .f32⟩
  | 84 => ⟨S64x288, .f32⟩
  | 85 => ⟨S64x288, .f32⟩
  | 86 => ⟨S64x288x1, .f32⟩
  | 87 => ⟨S64x288x512, .f32⟩
  | 88 => ⟨S64x288x512, .f32⟩
  | 89 => ⟨S_, .f32⟩
  | 90 => ⟨S64x512, .f32⟩
  | 91 => ⟨S64x1x512, .f32⟩
  | 92 => ⟨S_, .i32⟩
  | 93 => ⟨S64x288, .i32⟩
  | 94 => ⟨S64x288, .i1⟩
  | 95 => ⟨S_, .i32⟩
  | 96 => ⟨S64x288, .i32⟩
  | 97 => ⟨S64x288, .i32⟩
  | 98 => ⟨S64x288, .i32⟩
  | 99 => ⟨S64x288x1, .i32⟩
  | 100 => ⟨S1, .i32⟩
  | 101 => ⟨S_, .i32⟩
  | 102 => ⟨S64x288x1, .i32⟩
  | 103 => ⟨S64x288x1, .i1⟩
  | 104 => ⟨S1x1x1, .i32⟩
  | 105 => ⟨S64x288x1, .i32⟩
  | 106 => ⟨S64x288x1, .i1⟩
  | 107 => ⟨S64x288x1, .i1⟩
  | 108 => ⟨S_, .i1⟩
  | 109 => ⟨S64x288, .i1⟩
  | 110 => ⟨S64x288, .f32⟩
  | 111 => ⟨S_, .f32⟩
  | 112 => ⟨S64x288, .f32⟩
  | 113 => ⟨S64x288, .f32⟩
  | 114 => ⟨S1x512, .f32⟩
  | 115 => ⟨S512, .f32⟩
  | 116 => ⟨S1x512, .f32⟩
  | 117 => ⟨S512, .f32⟩
  | 118 => ⟨S1x512x102, .f32⟩
  | 119 => ⟨S512x102, .f32⟩
  | 120 => ⟨S1x102, .f32⟩
  | 121 => ⟨S102, .f32⟩
  | 122 => ⟨S1x102x115, .f32⟩
  | 123 => ⟨S102x115, .f32⟩
  | 124 => ⟨S1x115, .f32⟩
  | 125 => ⟨S115, .f32⟩
  | 126 => ⟨S1x1x1x1, .f32⟩
  | 127 => ⟨S1x1x1, .f32⟩
  | _ => ⟨S64x576x512, .f32⟩

abbrev hbmTy0_9 (i : Nat) : BufTy := match i % 128 with
  | 0 => ⟨S_, .f32⟩
  | 1 => ⟨S64x288, .f32⟩
  | 2 => ⟨S64x288x1, .f32⟩
  | 3 => ⟨S_, .f32⟩
  | 4 => ⟨S64x288x1, .f32⟩
  | 5 => ⟨S64x288x1, .f32⟩
  | 6 => ⟨S_, .i32⟩
  | 7 => ⟨S_, .f32⟩
  | 8 => ⟨S64x288, .f32⟩
  | 9 => ⟨S64x288x1, .f32⟩
  | 10 => ⟨S_, .f32⟩
  | 11 => ⟨S64x288x1, .f32⟩
  | 12 => ⟨S64x288x1, .f32⟩
  | 13 => ⟨S64x288x512, .f32⟩
  | 14 => ⟨S64x288x512, .f32⟩
  | 15 => ⟨S64x288x512, .f32⟩
  | 16 => ⟨S_, .f32⟩
  | 17 => ⟨S_, .f32⟩
  | 18 => ⟨S_, .f32⟩
  | 19 => ⟨S_, .f32⟩
  | 20 => ⟨S64x288, .f32⟩
  | 21 => ⟨S64x288x1, .f32⟩
  | 22 => ⟨S64x288x1, .f32⟩
  | 23 => ⟨S64x288x1, .f32⟩
  | 24 => ⟨S_, .f32⟩
  | 25 => ⟨S_, .i1⟩
  | 26 => ⟨S_, .f32⟩
  | 27 => ⟨S_, .f32⟩
  | 28 => ⟨S64x288x1, .f32⟩
  | 29 => ⟨S64x288x1, .f32⟩
  | 30 => ⟨S64x288x512, .f32⟩
  | 31 => ⟨S64x288x512, .f32⟩
  | 32 => ⟨S_, .f32⟩
  | 33 => ⟨S64x288x1, .f32⟩
  | 34 => ⟨S64x288x1, .f32⟩
  | 35 => ⟨S64x288x1, .f32⟩
  | 36 => ⟨S64x288x512, .f32⟩
  | 37 => ⟨S64x288x512, .f32⟩
  | 38 => ⟨S1x1x512, .f32⟩
  | 39 => ⟨S64x288x512, .f32⟩
  | 40 => ⟨S64x288x512, .f32⟩
  | 41 => ⟨S1x1x512, .f32⟩
  | 42 => ⟨S64x288x512, .f32⟩
  | 43 => ⟨S64x288x512, .f32⟩
  | 44 => ⟨S64x288x102, .f32⟩
  | 45 => ⟨S1x1x102, .f32⟩
  | 46 => ⟨S64x288x102, .f32⟩
  | 47 => ⟨S64x288x102, .f32⟩
  | 48 => ⟨S_, .f32⟩
  | 49 => ⟨S64x288x102, .f32⟩
  | 50 => ⟨S64x288x102, .f32⟩
  | 51 => ⟨S64x288x102, .f32⟩
  | 52 => ⟨S_, .f32⟩
  | 53 => ⟨S64x288x102, .f32⟩
  | 54 => ⟨S64x288x102, .f32⟩
  | 55 => ⟨S64x288x102, .f32⟩
  | 56 => ⟨S64x288x102, .f32⟩
  | 57 => ⟨S64x288x115, .f32⟩
  | 58 => ⟨S1x1x115, .f32⟩
  | 59 => ⟨S64x288x115, .f32⟩
  | 60 => ⟨S64x288x115, .f32⟩
  | 61 => ⟨S64x115x288, .f32⟩
  | 62 => ⟨S64x115x288, .f32⟩
  | 63 => ⟨S64x115x288, .f32⟩
  | 64 => ⟨S64x1x288, .f32⟩
  | 65 => ⟨S_, .f32⟩
  | 66 => ⟨S64x1x288, .f32⟩
  | 67 => ⟨S64x1x288, .f32⟩
  | 68 => ⟨S_, .f32⟩
  | 69 => ⟨S64x1x288, .f32⟩
  | 70 => ⟨S64x1x288, .f32⟩
  | 71 => ⟨S64x115x288, .f32⟩
  | 72 => ⟨S64x115x288, .f32⟩
  | 73 => ⟨S_, .f32⟩
  | 74 => ⟨S64x115, .f32⟩
  | 75 => ⟨S_, .f32⟩
  | 76 => ⟨S64x115, .f32⟩
  | 77 => ⟨S64x115, .f32⟩
  | 78 => ⟨S64x115x1, .f32⟩
  | 79 => ⟨S64x115x288, .f32⟩
  | 80 => ⟨S64x115x288, .f32⟩
  | 81 => ⟨S64x115x288, .f32⟩
  | 82 => ⟨S_, .f32⟩
  | 83 => ⟨S64x115, .f32⟩
  | 84 => ⟨S64x115x1, .f32⟩
  | 85 => ⟨S64x115x288, .f32⟩
  | 86 => ⟨S64x115x288, .f32⟩
  | 87 => ⟨S64x115x512, .f32⟩
  | 88 => ⟨S64x116x512, .f32⟩
  | _ => ⟨S64x576x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S64x576x512, .f32⟩

abbrev bufTy : (tb : Table) → Fin (tcTables nBuf tb) → BufTy
  | .hbm, ⟨i, _⟩ => hbmTy i
  | _, _ => ⟨S64x576x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_call1_v0 : Ref sig .tc := ⟨.hbm, 27, rfl⟩
abbrev main_call1_cst : Ref sig .tc := ⟨.hbm, 28, rfl⟩
abbrev main_call1_v1 : Ref sig .tc := ⟨.hbm, 29, rfl⟩
abbrev main_call1_v2 : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_call2_v0 : Ref sig .tc := ⟨.hbm, 42, rfl⟩
abbrev main_call2_cst : Ref sig .tc := ⟨.hbm, 43, rfl⟩
abbrev main_call2_v1 : Ref sig .tc := ⟨.hbm, 44, rfl⟩
abbrev main_call2_v2 : Ref sig .tc := ⟨.hbm, 45, rfl⟩
abbrev main_v14 : Ref sig .tc := ⟨.hbm, 46, rfl⟩
abbrev main_cst_2 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_call3_v0 : Ref sig .tc := ⟨.hbm, 52, rfl⟩
abbrev main_call3_cst : Ref sig .tc := ⟨.hbm, 53, rfl⟩
abbrev main_call3_v1 : Ref sig .tc := ⟨.hbm, 54, rfl⟩
abbrev main_call3_v2 : Ref sig .tc := ⟨.hbm, 55, rfl⟩
abbrev main_v19 : Ref sig .tc := ⟨.hbm, 56, rfl⟩
abbrev main_cst_3 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_4 : Ref sig .tc := ⟨.hbm, 65, rfl⟩
abbrev main_v27 : Ref sig .tc := ⟨.hbm, 66, rfl⟩
abbrev main_call4_v0 : Ref sig .tc := ⟨.hbm, 67, rfl⟩
abbrev main_call4_cst : Ref sig .tc := ⟨.hbm, 68, rfl⟩
abbrev main_call4_v1 : Ref sig .tc := ⟨.hbm, 69, rfl⟩
abbrev main_call4_v2 : Ref sig .tc := ⟨.hbm, 70, rfl⟩
abbrev main_v28 : Ref sig .tc := ⟨.hbm, 71, rfl⟩
abbrev main_cst_5 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_call5_v0 : Ref sig .tc := ⟨.hbm, 77, rfl⟩
abbrev main_call5_cst : Ref sig .tc := ⟨.hbm, 78, rfl⟩
abbrev main_call5_v1 : Ref sig .tc := ⟨.hbm, 79, rfl⟩
abbrev main_call5_v2 : Ref sig .tc := ⟨.hbm, 80, rfl⟩
abbrev main_v33 : Ref sig .tc := ⟨.hbm, 81, rfl⟩
abbrev main_cst_6 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_cst_7 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_cst_8 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_cst_9 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_cst_10 : Ref sig .tc := ⟨.hbm, 119, rfl⟩
abbrev main_v67 : Ref sig .tc := ⟨.hbm, 120, rfl⟩
abbrev main_v68 : Ref sig .tc := ⟨.hbm, 121, rfl⟩
abbrev main_cst_11 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_cst_12 : Ref sig .tc := ⟨.hbm, 126, rfl⟩
abbrev main_v72 : Ref sig .tc := ⟨.hbm, 127, rfl⟩
abbrev main_v73 : Ref sig .tc := ⟨.hbm, 128, rfl⟩
abbrev main_cst_13 : Ref sig .tc := ⟨.hbm, 129, rfl⟩
abbrev main_v74 : Ref sig .tc := ⟨.hbm, 130, rfl⟩
abbrev main_v75 : Ref sig .tc := ⟨.hbm, 131, rfl⟩
abbrev main_cst_14 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_cst_15 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_cst_16 : Ref sig .tc := ⟨.hbm, 143, rfl⟩
abbrev main_v85 : Ref sig .tc := ⟨.hbm, 144, rfl⟩
abbrev main_v86 : Ref sig .tc := ⟨.hbm, 145, rfl⟩
abbrev main_cst_17 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_cst_18 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_cst_19 : Ref sig .tc := ⟨.hbm, 158, rfl⟩
abbrev main_v97 : Ref sig .tc := ⟨.hbm, 159, rfl⟩
abbrev main_v98 : Ref sig .tc := ⟨.hbm, 160, rfl⟩
abbrev main_cst_20 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_21 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_cst_22 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_cst_23 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_call6_v0 : Ref sig .tc := ⟨.hbm, 181, rfl⟩
abbrev main_call6_v1_0 : Ref sig .tc := ⟨.hbm, 182, rfl⟩
abbrev main_v115 : Ref sig .tc := ⟨.hbm, 183, rfl⟩
abbrev main_call7_c : Ref sig .tc := ⟨.hbm, 184, rfl⟩
abbrev main_call7_v0 : Ref sig .tc := ⟨.hbm, 185, rfl⟩
abbrev main_call7_v1 : Ref sig .tc := ⟨.hbm, 186, rfl⟩
abbrev main_call7_c_0 : Ref sig .tc := ⟨.hbm, 187, rfl⟩
abbrev main_call7_v2 : Ref sig .tc := ⟨.hbm, 188, rfl⟩
abbrev main_call7_v3 : Ref sig .tc := ⟨.hbm, 189, rfl⟩
abbrev main_call7_v4 : Ref sig .tc := ⟨.hbm, 190, rfl⟩
abbrev main_call7_v5 : Ref sig .tc := ⟨.hbm, 191, rfl⟩
abbrev main_call7_c_1 : Ref sig .tc := ⟨.hbm, 192, rfl⟩
abbrev main_call7_c_2 : Ref sig .tc := ⟨.hbm, 193, rfl⟩
abbrev main_call7_v6 : Ref sig .tc := ⟨.hbm, 194, rfl⟩
abbrev main_call7_v7 : Ref sig .tc := ⟨.hbm, 195, rfl⟩
abbrev main_call7_v8 : Ref sig .tc := ⟨.hbm, 196, rfl⟩
abbrev main_call7_v9 : Ref sig .tc := ⟨.hbm, 197, rfl⟩
abbrev main_call7_v10 : Ref sig .tc := ⟨.hbm, 198, rfl⟩
abbrev main_call7_v11 : Ref sig .tc := ⟨.hbm, 199, rfl⟩
abbrev main_call7_c_3 : Ref sig .tc := ⟨.hbm, 200, rfl⟩
abbrev main_call7_v12 : Ref sig .tc := ⟨.hbm, 201, rfl⟩
abbrev main_call7_v13 : Ref sig .tc := ⟨.hbm, 202, rfl⟩
abbrev main_call7_cst : Ref sig .tc := ⟨.hbm, 203, rfl⟩
abbrev main_call7_v14 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_cst_24 : Ref sig .tc := ⟨.hbm, 209, rfl⟩
abbrev main_v120 : Ref sig .tc := ⟨.hbm, 210, rfl⟩
abbrev main_c : Ref sig .tc := ⟨.hbm, 211, rfl⟩
abbrev main_v121 : Ref sig .tc := ⟨.hbm, 212, rfl⟩
abbrev main_v122 : Ref sig .tc := ⟨.hbm, 213, rfl⟩
abbrev main_c_25 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_c_26 : Ref sig .tc := ⟨.hbm, 218, rfl⟩
abbrev main_v126 : Ref sig .tc := ⟨.hbm, 219, rfl⟩
abbrev main_v127 : Ref sig .tc := ⟨.hbm, 220, rfl⟩
abbrev main_c_27 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_cst_28 : Ref sig .tc := ⟨.hbm, 229, rfl⟩
abbrev main_v135 : Ref sig .tc := ⟨.hbm, 230, rfl⟩
abbrev main_v136 : Ref sig .tc := ⟨.hbm, 231, rfl⟩
abbrev main_v137 : Ref sig .tc := ⟨.hbm, 232, rfl⟩
abbrev main_call8_c : Ref sig .tc := ⟨.hbm, 233, rfl⟩
abbrev main_call8_v0 : Ref sig .tc := ⟨.hbm, 234, rfl⟩
abbrev main_call8_v1 : Ref sig .tc := ⟨.hbm, 235, rfl⟩
abbrev main_call8_c_0 : Ref sig .tc := ⟨.hbm, 236, rfl⟩
abbrev main_call8_v2 : Ref sig .tc := ⟨.hbm, 237, rfl⟩
abbrev main_call8_v3 : Ref sig .tc := ⟨.hbm, 238, rfl⟩
abbrev main_call8_v4 : Ref sig .tc := ⟨.hbm, 239, rfl⟩
abbrev main_call8_c_1 : Ref sig .tc := ⟨.hbm, 240, rfl⟩
abbrev main_call8_c_2 : Ref sig .tc := ⟨.hbm, 241, rfl⟩
abbrev main_call8_v5 : Ref sig .tc := ⟨.hbm, 242, rfl⟩
abbrev main_call8_v6 : Ref sig .tc := ⟨.hbm, 243, rfl⟩
abbrev main_call8_v7 : Ref sig .tc := ⟨.hbm, 244, rfl⟩
abbrev main_call8_v8 : Ref sig .tc := ⟨.hbm, 245, rfl⟩
abbrev main_call8_v9 : Ref sig .tc := ⟨.hbm, 246, rfl⟩
abbrev main_call8_v10 : Ref sig .tc := ⟨.hbm, 247, rfl⟩
abbrev main_call8_c_3 : Ref sig .tc := ⟨.hbm, 248, rfl⟩
abbrev main_call8_v11 : Ref sig .tc := ⟨.hbm, 249, rfl⟩
abbrev main_call8_v12 : Ref sig .tc := ⟨.hbm, 250, rfl⟩
abbrev main_call8_v13 : Ref sig .tc := ⟨.hbm, 251, rfl⟩
abbrev main_call8_cst : Ref sig .tc := ⟨.hbm, 252, rfl⟩
abbrev main_call8_v14 : Ref sig .tc := ⟨.hbm, 253, rfl⟩
abbrev main_v138 : Ref sig .tc := ⟨.hbm, 254, rfl⟩
abbrev main_v139 : Ref sig .tc := ⟨.hbm, 255, rfl⟩
abbrev main_v140 : Ref sig .tc := ⟨.hbm, 256, rfl⟩
abbrev main_call9_c : Ref sig .tc := ⟨.hbm, 257, rfl⟩
abbrev main_call9_v0 : Ref sig .tc := ⟨.hbm, 258, rfl⟩
abbrev main_call9_v1 : Ref sig .tc := ⟨.hbm, 259, rfl⟩
abbrev main_call9_c_0 : Ref sig .tc := ⟨.hbm, 260, rfl⟩
abbrev main_call9_v2 : Ref sig .tc := ⟨.hbm, 261, rfl⟩
abbrev main_call9_v3 : Ref sig .tc := ⟨.hbm, 262, rfl⟩
abbrev main_call9_v4 : Ref sig .tc := ⟨.hbm, 263, rfl⟩
abbrev main_call9_c_1 : Ref sig .tc := ⟨.hbm, 264, rfl⟩
abbrev main_call9_c_2 : Ref sig .tc := ⟨.hbm, 265, rfl⟩
abbrev main_call9_v5 : Ref sig .tc := ⟨.hbm, 266, rfl⟩
abbrev main_call9_v6 : Ref sig .tc := ⟨.hbm, 267, rfl⟩
abbrev main_call9_v7 : Ref sig .tc := ⟨.hbm, 268, rfl⟩
abbrev main_call9_v8 : Ref sig .tc := ⟨.hbm, 269, rfl⟩
abbrev main_call9_v9 : Ref sig .tc := ⟨.hbm, 270, rfl⟩
abbrev main_call9_v10 : Ref sig .tc := ⟨.hbm, 271, rfl⟩
abbrev main_call9_c_3 : Ref sig .tc := ⟨.hbm, 272, rfl⟩
abbrev main_call9_v11 : Ref sig .tc := ⟨.hbm, 273, rfl⟩
abbrev main_call9_v12 : Ref sig .tc := ⟨.hbm, 274, rfl⟩
abbrev main_call9_v13 : Ref sig .tc := ⟨.hbm, 275, rfl⟩
abbrev main_call9_cst : Ref sig .tc := ⟨.hbm, 276, rfl⟩
abbrev main_call9_v14 : Ref sig .tc := ⟨.hbm, 277, rfl⟩
abbrev main_v141 : Ref sig .tc := ⟨.hbm, 278, rfl⟩
abbrev main_v142 : Ref sig .tc := ⟨.hbm, 279, rfl⟩
abbrev main_cst_29 : Ref sig .tc := ⟨.hbm, 280, rfl⟩
abbrev main_v143 : Ref sig .tc := ⟨.hbm, 281, rfl⟩
abbrev main_cst_30 : Ref sig .tc := ⟨.hbm, 282, rfl⟩
abbrev main_v144 : Ref sig .tc := ⟨.hbm, 283, rfl⟩
abbrev main_v145 : Ref sig .tc := ⟨.hbm, 284, rfl⟩
abbrev main_v146 : Ref sig .tc := ⟨.hbm, 285, rfl⟩
abbrev main_v147 : Ref sig .tc := ⟨.hbm, 286, rfl⟩
abbrev main_v148 : Ref sig .tc := ⟨.hbm, 287, rfl⟩
abbrev main_v149 : Ref sig .tc := ⟨.hbm, 288, rfl⟩
abbrev main_cst_31 : Ref sig .tc := ⟨.hbm, 289, rfl⟩
abbrev main_v150 : Ref sig .tc := ⟨.hbm, 290, rfl⟩
abbrev main_v151 : Ref sig .tc := ⟨.hbm, 291, rfl⟩
abbrev main_v152 : Ref sig .tc := ⟨.hbm, 292, rfl⟩
abbrev main_v153 : Ref sig .tc := ⟨.hbm, 293, rfl⟩
abbrev main_v154 : Ref sig .tc := ⟨.hbm, 294, rfl⟩
abbrev main_v155 : Ref sig .tc := ⟨.hbm, 295, rfl⟩
abbrev main_v156 : Ref sig .tc := ⟨.hbm, 296, rfl⟩
abbrev main_cst_32 : Ref sig .tc := ⟨.hbm, 297, rfl⟩
abbrev main_v157 : Ref sig .tc := ⟨.hbm, 298, rfl⟩
abbrev main_v158 : Ref sig .tc := ⟨.hbm, 299, rfl⟩
abbrev main_call10_c : Ref sig .tc := ⟨.hbm, 300, rfl⟩
abbrev main_call10_v0 : Ref sig .tc := ⟨.hbm, 301, rfl⟩
abbrev main_call10_v1 : Ref sig .tc := ⟨.hbm, 302, rfl⟩
abbrev main_call10_c_0 : Ref sig .tc := ⟨.hbm, 303, rfl⟩
abbrev main_call10_v2 : Ref sig .tc := ⟨.hbm, 304, rfl⟩
abbrev main_call10_v3 : Ref sig .tc := ⟨.hbm, 305, rfl⟩
abbrev main_call10_v4 : Ref sig .tc := ⟨.hbm, 306, rfl⟩
abbrev main_call10_v5 : Ref sig .tc := ⟨.hbm, 307, rfl⟩
abbrev main_call10_c_1 : Ref sig .tc := ⟨.hbm, 308, rfl⟩
abbrev main_call10_c_2 : Ref sig .tc := ⟨.hbm, 309, rfl⟩
abbrev main_call10_v6 : Ref sig .tc := ⟨.hbm, 310, rfl⟩
abbrev main_call10_v7 : Ref sig .tc := ⟨.hbm, 311, rfl⟩
abbrev main_call10_v8 : Ref sig .tc := ⟨.hbm, 312, rfl⟩
abbrev main_call10_v9 : Ref sig .tc := ⟨.hbm, 313, rfl⟩
abbrev main_call10_v10 : Ref sig .tc := ⟨.hbm, 314, rfl⟩
abbrev main_call10_v11 : Ref sig .tc := ⟨.hbm, 315, rfl⟩
abbrev main_call10_c_3 : Ref sig .tc := ⟨.hbm, 316, rfl⟩
abbrev main_call10_v12 : Ref sig .tc := ⟨.hbm, 317, rfl⟩
abbrev main_call10_v13 : Ref sig .tc := ⟨.hbm, 318, rfl⟩
abbrev main_call10_cst : Ref sig .tc := ⟨.hbm, 319, rfl⟩
abbrev main_call10_v14 : Ref sig .tc := ⟨.hbm, 320, rfl⟩
abbrev main_v159 : Ref sig .tc := ⟨.hbm, 321, rfl⟩
abbrev main_v160 : Ref sig .tc := ⟨.hbm, 322, rfl⟩
abbrev main_v161 : Ref sig .tc := ⟨.hbm, 323, rfl⟩
abbrev main_v162 : Ref sig .tc := ⟨.hbm, 324, rfl⟩
abbrev main_v163 : Ref sig .tc := ⟨.hbm, 325, rfl⟩
abbrev main_v164 : Ref sig .tc := ⟨.hbm, 326, rfl⟩
abbrev main_v165 : Ref sig .tc := ⟨.hbm, 327, rfl⟩
abbrev main_v166 : Ref sig .tc := ⟨.hbm, 328, rfl⟩
abbrev main_v167 : Ref sig .tc := ⟨.hbm, 329, rfl⟩
abbrev main_v168 : Ref sig .tc := ⟨.hbm, 330, rfl⟩
abbrev main_v169 : Ref sig .tc := ⟨.hbm, 331, rfl⟩
abbrev main_v170 : Ref sig .tc := ⟨.hbm, 332, rfl⟩
abbrev main_v171 : Ref sig .tc := ⟨.hbm, 333, rfl⟩
abbrev main_v172 : Ref sig .tc := ⟨.hbm, 334, rfl⟩
abbrev main_v173 : Ref sig .tc := ⟨.hbm, 335, rfl⟩
abbrev main_cst_33 : Ref sig .tc := ⟨.hbm, 336, rfl⟩
abbrev main_v174 : Ref sig .tc := ⟨.hbm, 337, rfl⟩
abbrev main_v175 : Ref sig .tc := ⟨.hbm, 338, rfl⟩
abbrev main_cst_34 : Ref sig .tc := ⟨.hbm, 339, rfl⟩
abbrev main_v176 : Ref sig .tc := ⟨.hbm, 340, rfl⟩
abbrev main_v177 : Ref sig .tc := ⟨.hbm, 341, rfl⟩
abbrev main_c_35 : Ref sig .tc := ⟨.hbm, 342, rfl⟩
abbrev main_call11_cst : Ref sig .tc := ⟨.hbm, 343, rfl⟩
abbrev main_call11_v0 : Ref sig .tc := ⟨.hbm, 344, rfl⟩
abbrev main_call11_v1 : Ref sig .tc := ⟨.hbm, 345, rfl⟩
abbrev main_call11_cst_0 : Ref sig .tc := ⟨.hbm, 346, rfl⟩
abbrev main_call11_v2 : Ref sig .tc := ⟨.hbm, 347, rfl⟩
abbrev main_call11_v3 : Ref sig .tc := ⟨.hbm, 348, rfl⟩
abbrev main_call11_v4 : Ref sig .tc := ⟨.hbm, 349, rfl⟩
abbrev main_call11_v5 : Ref sig .tc := ⟨.hbm, 350, rfl⟩
abbrev main_call11_v6 : Ref sig .tc := ⟨.hbm, 351, rfl⟩
abbrev main_call11_v7 : Ref sig .tc := ⟨.hbm, 352, rfl⟩
abbrev main_call11_cst_1 : Ref sig .tc := ⟨.hbm, 353, rfl⟩
abbrev main_call11_v8 : Ref sig .tc := ⟨.hbm, 354, rfl⟩
abbrev main_call11_cst_2 : Ref sig .tc := ⟨.hbm, 355, rfl⟩
abbrev main_call11_v9 : Ref sig .tc := ⟨.hbm, 356, rfl⟩
abbrev main_call11_v10 : Ref sig .tc := ⟨.hbm, 357, rfl⟩
abbrev main_call11_v11 : Ref sig .tc := ⟨.hbm, 358, rfl⟩
abbrev main_call11_v12 : Ref sig .tc := ⟨.hbm, 359, rfl⟩
abbrev main_call11_cst_3 : Ref sig .tc := ⟨.hbm, 360, rfl⟩
abbrev main_call11_v13 : Ref sig .tc := ⟨.hbm, 361, rfl⟩
abbrev main_call11_cst_4 : Ref sig .tc := ⟨.hbm, 362, rfl⟩
abbrev main_call11_call0_v0 : Ref sig .tc := ⟨.hbm, 363, rfl⟩
abbrev main_call11_call0_v1 : Ref sig .tc := ⟨.hbm, 364, rfl⟩
abbrev main_v178 : Ref sig .tc := ⟨.hbm, 365, rfl⟩
abbrev main_v179 : Ref sig .tc := ⟨.hbm, 366, rfl⟩
abbrev main_v180 : Ref sig .tc := ⟨.hbm, 367, rfl⟩
abbrev main_cst_36 : Ref sig .tc := ⟨.hbm, 368, rfl⟩
abbrev main_v181 : Ref sig .tc := ⟨.hbm, 369, rfl⟩
abbrev main_v182 : Ref sig .tc := ⟨.hbm, 370, rfl⟩
abbrev main_v183 : Ref sig .tc := ⟨.hbm, 371, rfl⟩
abbrev main_v184 : Ref sig .tc := ⟨.hbm, 372, rfl⟩
abbrev main_v185 : Ref sig .tc := ⟨.hbm, 373, rfl⟩
abbrev main_v186 : Ref sig .tc := ⟨.hbm, 374, rfl⟩
abbrev main_v187 : Ref sig .tc := ⟨.hbm, 375, rfl⟩
abbrev main_v188 : Ref sig .tc := ⟨.hbm, 376, rfl⟩
abbrev main_v189 : Ref sig .tc := ⟨.hbm, 377, rfl⟩
abbrev main_v190 : Ref sig .tc := ⟨.hbm, 378, rfl⟩
abbrev main_v191 : Ref sig .tc := ⟨.hbm, 379, rfl⟩
abbrev main_v192 : Ref sig .tc := ⟨.hbm, 380, rfl⟩
abbrev main_v193 : Ref sig .tc := ⟨.hbm, 381, rfl⟩
abbrev main_v194 : Ref sig .tc := ⟨.hbm, 382, rfl⟩
abbrev main_v195 : Ref sig .tc := ⟨.hbm, 383, rfl⟩
abbrev main_cst_37 : Ref sig .tc := ⟨.hbm, 384, rfl⟩
abbrev main_v196 : Ref sig .tc := ⟨.hbm, 385, rfl⟩
abbrev main_v197 : Ref sig .tc := ⟨.hbm, 386, rfl⟩
abbrev main_v198 : Ref sig .tc := ⟨.hbm, 387, rfl⟩
abbrev main_cst_38 : Ref sig .tc := ⟨.hbm, 388, rfl⟩
abbrev main_v199 : Ref sig .tc := ⟨.hbm, 389, rfl⟩
abbrev main_v200 : Ref sig .tc := ⟨.hbm, 390, rfl⟩
abbrev main_v201 : Ref sig .tc := ⟨.hbm, 391, rfl⟩
abbrev main_v202 : Ref sig .tc := ⟨.hbm, 392, rfl⟩
abbrev main_v203 : Ref sig .tc := ⟨.hbm, 393, rfl⟩
abbrev main_v204 : Ref sig .tc := ⟨.hbm, 394, rfl⟩
abbrev main_v205 : Ref sig .tc := ⟨.hbm, 395, rfl⟩
abbrev main_v206 : Ref sig .tc := ⟨.hbm, 396, rfl⟩
abbrev main_v207 : Ref sig .tc := ⟨.hbm, 397, rfl⟩
abbrev main_v208 : Ref sig .tc := ⟨.hbm, 398, rfl⟩
abbrev main_v209 : Ref sig .tc := ⟨.hbm, 399, rfl⟩
abbrev main_v210 : Ref sig .tc := ⟨.hbm, 400, rfl⟩
abbrev main_cst_39 : Ref sig .tc := ⟨.hbm, 401, rfl⟩
abbrev main_v211 : Ref sig .tc := ⟨.hbm, 402, rfl⟩
abbrev main_v212 : Ref sig .tc := ⟨.hbm, 403, rfl⟩
abbrev main_cst_40 : Ref sig .tc := ⟨.hbm, 404, rfl⟩
abbrev main_v213 : Ref sig .tc := ⟨.hbm, 405, rfl⟩
abbrev main_v214 : Ref sig .tc := ⟨.hbm, 406, rfl⟩
abbrev main_v215 : Ref sig .tc := ⟨.hbm, 407, rfl⟩
abbrev main_v216 : Ref sig .tc := ⟨.hbm, 408, rfl⟩
abbrev main_cst_41 : Ref sig .tc := ⟨.hbm, 409, rfl⟩
abbrev main_v217 : Ref sig .tc := ⟨.hbm, 410, rfl⟩
abbrev main_cst_42 : Ref sig .tc := ⟨.hbm, 411, rfl⟩
abbrev main_v218 : Ref sig .tc := ⟨.hbm, 412, rfl⟩
abbrev main_v219 : Ref sig .tc := ⟨.hbm, 413, rfl⟩
abbrev main_v220 : Ref sig .tc := ⟨.hbm, 414, rfl⟩
abbrev main_v221 : Ref sig .tc := ⟨.hbm, 415, rfl⟩
abbrev main_v222 : Ref sig .tc := ⟨.hbm, 416, rfl⟩
abbrev main_v223 : Ref sig .tc := ⟨.hbm, 417, rfl⟩
abbrev main_cst_43 : Ref sig .tc := ⟨.hbm, 418, rfl⟩
abbrev main_v224 : Ref sig .tc := ⟨.hbm, 419, rfl⟩
abbrev main_v225 : Ref sig .tc := ⟨.hbm, 420, rfl⟩
abbrev main_v226 : Ref sig .tc := ⟨.hbm, 421, rfl⟩
abbrev main_v227 : Ref sig .tc := ⟨.hbm, 422, rfl⟩
abbrev main_v228 : Ref sig .tc := ⟨.hbm, 423, rfl⟩
abbrev main_v229 : Ref sig .tc := ⟨.hbm, 424, rfl⟩
abbrev main_call12_v0 : Ref sig .tc := ⟨.hbm, 425, rfl⟩
abbrev main_call12_cst : Ref sig .tc := ⟨.hbm, 426, rfl⟩
abbrev main_call12_v1 : Ref sig .tc := ⟨.hbm, 427, rfl⟩
abbrev main_call12_v2 : Ref sig .tc := ⟨.hbm, 428, rfl⟩
abbrev main_v230 : Ref sig .tc := ⟨.hbm, 429, rfl⟩
abbrev main_cst_44 : Ref sig .tc := ⟨.hbm, 430, rfl⟩
abbrev main_v231 : Ref sig .tc := ⟨.hbm, 431, rfl⟩
abbrev main_v232 : Ref sig .tc := ⟨.hbm, 432, rfl⟩
abbrev main_v233 : Ref sig .tc := ⟨.hbm, 433, rfl⟩
abbrev main_v234 : Ref sig .tc := ⟨.hbm, 434, rfl⟩
abbrev main_call13_v0 : Ref sig .tc := ⟨.hbm, 435, rfl⟩
abbrev main_call13_cst : Ref sig .tc := ⟨.hbm, 436, rfl⟩
abbrev main_call13_v1 : Ref sig .tc := ⟨.hbm, 437, rfl⟩
abbrev main_call13_v2 : Ref sig .tc := ⟨.hbm, 438, rfl⟩
abbrev main_v235 : Ref sig .tc := ⟨.hbm, 439, rfl⟩
abbrev main_cst_45 : Ref sig .tc := ⟨.hbm, 440, rfl⟩
abbrev main_v236 : Ref sig .tc := ⟨.hbm, 441, rfl⟩
abbrev main_v237 : Ref sig .tc := ⟨.hbm, 442, rfl⟩
abbrev main_v238 : Ref sig .tc := ⟨.hbm, 443, rfl⟩
abbrev main_v239 : Ref sig .tc := ⟨.hbm, 444, rfl⟩
abbrev main_v240 : Ref sig .tc := ⟨.hbm, 445, rfl⟩
abbrev main_v241 : Ref sig .tc := ⟨.hbm, 446, rfl⟩
abbrev main_v242 : Ref sig .tc := ⟨.hbm, 447, rfl⟩
abbrev main_cst_46 : Ref sig .tc := ⟨.hbm, 448, rfl⟩
abbrev main_v243 : Ref sig .tc := ⟨.hbm, 449, rfl⟩
abbrev main_call14_v0 : Ref sig .tc := ⟨.hbm, 450, rfl⟩
abbrev main_call14_cst : Ref sig .tc := ⟨.hbm, 451, rfl⟩
abbrev main_call14_v1 : Ref sig .tc := ⟨.hbm, 452, rfl⟩
abbrev main_call14_v2 : Ref sig .tc := ⟨.hbm, 453, rfl⟩
abbrev main_v244 : Ref sig .tc := ⟨.hbm, 454, rfl⟩
abbrev main_cst_47 : Ref sig .tc := ⟨.hbm, 455, rfl⟩
abbrev main_v245 : Ref sig .tc := ⟨.hbm, 456, rfl⟩
abbrev main_v246 : Ref sig .tc := ⟨.hbm, 457, rfl⟩
abbrev main_v247 : Ref sig .tc := ⟨.hbm, 458, rfl⟩
abbrev main_v248 : Ref sig .tc := ⟨.hbm, 459, rfl⟩
abbrev main_call15_v0 : Ref sig .tc := ⟨.hbm, 460, rfl⟩
abbrev main_call15_cst : Ref sig .tc := ⟨.hbm, 461, rfl⟩
abbrev main_call15_v1 : Ref sig .tc := ⟨.hbm, 462, rfl⟩
abbrev main_call15_v2 : Ref sig .tc := ⟨.hbm, 463, rfl⟩
abbrev main_v249 : Ref sig .tc := ⟨.hbm, 464, rfl⟩
abbrev main_cst_48 : Ref sig .tc := ⟨.hbm, 465, rfl⟩
abbrev main_v250 : Ref sig .tc := ⟨.hbm, 466, rfl⟩
abbrev main_v251 : Ref sig .tc := ⟨.hbm, 467, rfl⟩
abbrev main_v252 : Ref sig .tc := ⟨.hbm, 468, rfl⟩
abbrev main_v253 : Ref sig .tc := ⟨.hbm, 469, rfl⟩
abbrev main_v254 : Ref sig .tc := ⟨.hbm, 470, rfl⟩
abbrev main_v255 : Ref sig .tc := ⟨.hbm, 471, rfl⟩
abbrev main_v256 : Ref sig .tc := ⟨.hbm, 472, rfl⟩
abbrev main_cst_49 : Ref sig .tc := ⟨.hbm, 473, rfl⟩
abbrev main_v257 : Ref sig .tc := ⟨.hbm, 474, rfl⟩
abbrev main_call16_v0 : Ref sig .tc := ⟨.hbm, 475, rfl⟩
abbrev main_call16_cst : Ref sig .tc := ⟨.hbm, 476, rfl⟩
abbrev main_call16_v1 : Ref sig .tc := ⟨.hbm, 477, rfl⟩
abbrev main_call16_v2 : Ref sig .tc := ⟨.hbm, 478, rfl⟩
abbrev main_v258 : Ref sig .tc := ⟨.hbm, 479, rfl⟩
abbrev main_cst_50 : Ref sig .tc := ⟨.hbm, 480, rfl⟩
abbrev main_v259 : Ref sig .tc := ⟨.hbm, 481, rfl⟩
abbrev main_v260 : Ref sig .tc := ⟨.hbm, 482, rfl⟩
abbrev main_v261 : Ref sig .tc := ⟨.hbm, 483, rfl⟩
abbrev main_v262 : Ref sig .tc := ⟨.hbm, 484, rfl⟩
abbrev main_call17_v0 : Ref sig .tc := ⟨.hbm, 485, rfl⟩
abbrev main_call17_cst : Ref sig .tc := ⟨.hbm, 486, rfl⟩
abbrev main_call17_v1 : Ref sig .tc := ⟨.hbm, 487, rfl⟩
abbrev main_call17_v2 : Ref sig .tc := ⟨.hbm, 488, rfl⟩
abbrev main_v263 : Ref sig .tc := ⟨.hbm, 489, rfl⟩
abbrev main_cst_51 : Ref sig .tc := ⟨.hbm, 490, rfl⟩
abbrev main_v264 : Ref sig .tc := ⟨.hbm, 491, rfl⟩
abbrev main_v265 : Ref sig .tc := ⟨.hbm, 492, rfl⟩
abbrev main_v266 : Ref sig .tc := ⟨.hbm, 493, rfl⟩
abbrev main_v267 : Ref sig .tc := ⟨.hbm, 494, rfl⟩
abbrev main_v268 : Ref sig .tc := ⟨.hbm, 495, rfl⟩
abbrev main_v269 : Ref sig .tc := ⟨.hbm, 496, rfl⟩
abbrev main_v270 : Ref sig .tc := ⟨.hbm, 497, rfl⟩
abbrev main_cst_52 : Ref sig .tc := ⟨.hbm, 498, rfl⟩
abbrev main_v271 : Ref sig .tc := ⟨.hbm, 499, rfl⟩
abbrev main_v272 : Ref sig .tc := ⟨.hbm, 500, rfl⟩
abbrev main_v273 : Ref sig .tc := ⟨.hbm, 501, rfl⟩
abbrev main_v274 : Ref sig .tc := ⟨.hbm, 502, rfl⟩
abbrev main_v275 : Ref sig .tc := ⟨.hbm, 503, rfl⟩
abbrev main_v276 : Ref sig .tc := ⟨.hbm, 504, rfl⟩
abbrev main_v277 : Ref sig .tc := ⟨.hbm, 505, rfl⟩
abbrev main_v278 : Ref sig .tc := ⟨.hbm, 506, rfl⟩
abbrev main_v279 : Ref sig .tc := ⟨.hbm, 507, rfl⟩
abbrev main_v280 : Ref sig .tc := ⟨.hbm, 508, rfl⟩
abbrev main_v281 : Ref sig .tc := ⟨.hbm, 509, rfl⟩
abbrev main_v282 : Ref sig .tc := ⟨.hbm, 510, rfl⟩
abbrev main_v283 : Ref sig .tc := ⟨.hbm, 511, rfl⟩
abbrev main_cst_53 : Ref sig .tc := ⟨.hbm, 512, rfl⟩
abbrev main_v284 : Ref sig .tc := ⟨.hbm, 513, rfl⟩
abbrev main_v285 : Ref sig .tc := ⟨.hbm, 514, rfl⟩
abbrev main_v286 : Ref sig .tc := ⟨.hbm, 515, rfl⟩
abbrev main_cst_54 : Ref sig .tc := ⟨.hbm, 516, rfl⟩
abbrev main_v287 : Ref sig .tc := ⟨.hbm, 517, rfl⟩
abbrev main_v288 : Ref sig .tc := ⟨.hbm, 518, rfl⟩
abbrev main_v289 : Ref sig .tc := ⟨.hbm, 519, rfl⟩
abbrev main_v290 : Ref sig .tc := ⟨.hbm, 520, rfl⟩
abbrev main_v291 : Ref sig .tc := ⟨.hbm, 521, rfl⟩
abbrev main_v292 : Ref sig .tc := ⟨.hbm, 522, rfl⟩
abbrev main_v293 : Ref sig .tc := ⟨.hbm, 523, rfl⟩
abbrev main_v294 : Ref sig .tc := ⟨.hbm, 524, rfl⟩
abbrev main_v295 : Ref sig .tc := ⟨.hbm, 525, rfl⟩
abbrev main_v296 : Ref sig .tc := ⟨.hbm, 526, rfl⟩
abbrev main_cst_55 : Ref sig .tc := ⟨.hbm, 527, rfl⟩
abbrev main_v297 : Ref sig .tc := ⟨.hbm, 528, rfl⟩
abbrev main_v298 : Ref sig .tc := ⟨.hbm, 529, rfl⟩
abbrev main_cst_56 : Ref sig .tc := ⟨.hbm, 530, rfl⟩
abbrev main_v299 : Ref sig .tc := ⟨.hbm, 531, rfl⟩
abbrev main_v300 : Ref sig .tc := ⟨.hbm, 532, rfl⟩
abbrev main_v301 : Ref sig .tc := ⟨.hbm, 533, rfl⟩
abbrev main_cst_57 : Ref sig .tc := ⟨.hbm, 534, rfl⟩
abbrev main_v302 : Ref sig .tc := ⟨.hbm, 535, rfl⟩
abbrev main_v303 : Ref sig .tc := ⟨.hbm, 536, rfl⟩
abbrev main_cst_58 : Ref sig .tc := ⟨.hbm, 537, rfl⟩
abbrev main_v304 : Ref sig .tc := ⟨.hbm, 538, rfl⟩
abbrev main_v305 : Ref sig .tc := ⟨.hbm, 539, rfl⟩
abbrev main_cst_59 : Ref sig .tc := ⟨.hbm, 540, rfl⟩
abbrev main_v306 : Ref sig .tc := ⟨.hbm, 541, rfl⟩
abbrev main_v307 : Ref sig .tc := ⟨.hbm, 542, rfl⟩
abbrev main_v308 : Ref sig .tc := ⟨.hbm, 543, rfl⟩
abbrev main_v309 : Ref sig .tc := ⟨.hbm, 544, rfl⟩
abbrev main_v310 : Ref sig .tc := ⟨.hbm, 545, rfl⟩
abbrev main_cst_60 : Ref sig .tc := ⟨.hbm, 546, rfl⟩
abbrev main_v311 : Ref sig .tc := ⟨.hbm, 547, rfl⟩
abbrev main_v312 : Ref sig .tc := ⟨.hbm, 548, rfl⟩
abbrev main_v313 : Ref sig .tc := ⟨.hbm, 549, rfl⟩
abbrev main_v314 : Ref sig .tc := ⟨.hbm, 550, rfl⟩
abbrev main_cst_61 : Ref sig .tc := ⟨.hbm, 551, rfl⟩
abbrev main_v315 : Ref sig .tc := ⟨.hbm, 552, rfl⟩
abbrev main_v316 : Ref sig .tc := ⟨.hbm, 553, rfl⟩
abbrev main_cst_62 : Ref sig .tc := ⟨.hbm, 554, rfl⟩
abbrev main_v317 : Ref sig .tc := ⟨.hbm, 555, rfl⟩
abbrev main_v318 : Ref sig .tc := ⟨.hbm, 556, rfl⟩
abbrev main_v319 : Ref sig .tc := ⟨.hbm, 557, rfl⟩
abbrev main_v320 : Ref sig .tc := ⟨.hbm, 558, rfl⟩
abbrev main_v321 : Ref sig .tc := ⟨.hbm, 559, rfl⟩
abbrev main_cst_63 : Ref sig .tc := ⟨.hbm, 560, rfl⟩
abbrev main_v322 : Ref sig .tc := ⟨.hbm, 561, rfl⟩
abbrev main_v323 : Ref sig .tc := ⟨.hbm, 562, rfl⟩
abbrev main_v324 : Ref sig .tc := ⟨.hbm, 563, rfl⟩
abbrev main_v325 : Ref sig .tc := ⟨.hbm, 564, rfl⟩
abbrev main_v326 : Ref sig .tc := ⟨.hbm, 565, rfl⟩
abbrev main_cst_64 : Ref sig .tc := ⟨.hbm, 566, rfl⟩
abbrev main_v327 : Ref sig .tc := ⟨.hbm, 567, rfl⟩
abbrev main_v328 : Ref sig .tc := ⟨.hbm, 568, rfl⟩
abbrev main_cst_65 : Ref sig .tc := ⟨.hbm, 569, rfl⟩
abbrev main_v329 : Ref sig .tc := ⟨.hbm, 570, rfl⟩
abbrev main_v330 : Ref sig .tc := ⟨.hbm, 571, rfl⟩
abbrev main_v331 : Ref sig .tc := ⟨.hbm, 572, rfl⟩
abbrev main_v332 : Ref sig .tc := ⟨.hbm, 573, rfl⟩
abbrev main_v333 : Ref sig .tc := ⟨.hbm, 574, rfl⟩
abbrev main_cst_66 : Ref sig .tc := ⟨.hbm, 575, rfl⟩
abbrev main_v334 : Ref sig .tc := ⟨.hbm, 576, rfl⟩
abbrev main_v335 : Ref sig .tc := ⟨.hbm, 577, rfl⟩
abbrev main_v336 : Ref sig .tc := ⟨.hbm, 578, rfl⟩
abbrev main_v337 : Ref sig .tc := ⟨.hbm, 579, rfl⟩
abbrev main_cst_67 : Ref sig .tc := ⟨.hbm, 580, rfl⟩
abbrev main_v338 : Ref sig .tc := ⟨.hbm, 581, rfl⟩
abbrev main_v339 : Ref sig .tc := ⟨.hbm, 582, rfl⟩
abbrev main_v340 : Ref sig .tc := ⟨.hbm, 583, rfl⟩
abbrev main_cst_68 : Ref sig .tc := ⟨.hbm, 584, rfl⟩
abbrev main_v341 : Ref sig .tc := ⟨.hbm, 585, rfl⟩
abbrev main_v342 : Ref sig .tc := ⟨.hbm, 586, rfl⟩
abbrev main_v343 : Ref sig .tc := ⟨.hbm, 587, rfl⟩
abbrev main_v344 : Ref sig .tc := ⟨.hbm, 588, rfl⟩
abbrev main_call18_v0 : Ref sig .tc := ⟨.hbm, 589, rfl⟩
abbrev main_call18_v1_0 : Ref sig .tc := ⟨.hbm, 590, rfl⟩
abbrev main_v345 : Ref sig .tc := ⟨.hbm, 591, rfl⟩
abbrev main_call19_c : Ref sig .tc := ⟨.hbm, 592, rfl⟩
abbrev main_call19_v0 : Ref sig .tc := ⟨.hbm, 593, rfl⟩
abbrev main_call19_v1 : Ref sig .tc := ⟨.hbm, 594, rfl⟩
abbrev main_call19_c_0 : Ref sig .tc := ⟨.hbm, 595, rfl⟩
abbrev main_call19_v2 : Ref sig .tc := ⟨.hbm, 596, rfl⟩
abbrev main_call19_v3 : Ref sig .tc := ⟨.hbm, 597, rfl⟩
abbrev main_call19_v4 : Ref sig .tc := ⟨.hbm, 598, rfl⟩
abbrev main_call19_v5 : Ref sig .tc := ⟨.hbm, 599, rfl⟩
abbrev main_call19_c_1 : Ref sig .tc := ⟨.hbm, 600, rfl⟩
abbrev main_call19_c_2 : Ref sig .tc := ⟨.hbm, 601, rfl⟩
abbrev main_call19_v6 : Ref sig .tc := ⟨.hbm, 602, rfl⟩
abbrev main_call19_v7 : Ref sig .tc := ⟨.hbm, 603, rfl⟩
abbrev main_call19_v8 : Ref sig .tc := ⟨.hbm, 604, rfl⟩
abbrev main_call19_v9 : Ref sig .tc := ⟨.hbm, 605, rfl⟩
abbrev main_call19_v10 : Ref sig .tc := ⟨.hbm, 606, rfl⟩
abbrev main_call19_v11 : Ref sig .tc := ⟨.hbm, 607, rfl⟩
abbrev main_call19_c_3 : Ref sig .tc := ⟨.hbm, 608, rfl⟩
abbrev main_call19_v12 : Ref sig .tc := ⟨.hbm, 609, rfl⟩
abbrev main_call19_v13 : Ref sig .tc := ⟨.hbm, 610, rfl⟩
abbrev main_call19_cst : Ref sig .tc := ⟨.hbm, 611, rfl⟩
abbrev main_call19_v14 : Ref sig .tc := ⟨.hbm, 612, rfl⟩
abbrev main_v346 : Ref sig .tc := ⟨.hbm, 613, rfl⟩
abbrev main_v347 : Ref sig .tc := ⟨.hbm, 614, rfl⟩
abbrev main_v348 : Ref sig .tc := ⟨.hbm, 615, rfl⟩
abbrev main_v349 : Ref sig .tc := ⟨.hbm, 616, rfl⟩
abbrev main_cst_69 : Ref sig .tc := ⟨.hbm, 617, rfl⟩
abbrev main_v350 : Ref sig .tc := ⟨.hbm, 618, rfl⟩
abbrev main_c_70 : Ref sig .tc := ⟨.hbm, 619, rfl⟩
abbrev main_v351 : Ref sig .tc := ⟨.hbm, 620, rfl⟩
abbrev main_v352 : Ref sig .tc := ⟨.hbm, 621, rfl⟩
abbrev main_c_71 : Ref sig .tc := ⟨.hbm, 622, rfl⟩
abbrev main_v353 : Ref sig .tc := ⟨.hbm, 623, rfl⟩
abbrev main_v354 : Ref sig .tc := ⟨.hbm, 624, rfl⟩
abbrev main_v355 : Ref sig .tc := ⟨.hbm, 625, rfl⟩
abbrev main_c_72 : Ref sig .tc := ⟨.hbm, 626, rfl⟩
abbrev main_v356 : Ref sig .tc := ⟨.hbm, 627, rfl⟩
abbrev main_v357 : Ref sig .tc := ⟨.hbm, 628, rfl⟩
abbrev main_c_73 : Ref sig .tc := ⟨.hbm, 629, rfl⟩
abbrev main_v358 : Ref sig .tc := ⟨.hbm, 630, rfl⟩
abbrev main_v359 : Ref sig .tc := ⟨.hbm, 631, rfl⟩
abbrev main_v360 : Ref sig .tc := ⟨.hbm, 632, rfl⟩
abbrev main_v361 : Ref sig .tc := ⟨.hbm, 633, rfl⟩
abbrev main_v362 : Ref sig .tc := ⟨.hbm, 634, rfl⟩
abbrev main_v363 : Ref sig .tc := ⟨.hbm, 635, rfl⟩
abbrev main_v364 : Ref sig .tc := ⟨.hbm, 636, rfl⟩
abbrev main_cst_74 : Ref sig .tc := ⟨.hbm, 637, rfl⟩
abbrev main_v365 : Ref sig .tc := ⟨.hbm, 638, rfl⟩
abbrev main_v366 : Ref sig .tc := ⟨.hbm, 639, rfl⟩
abbrev main_v367 : Ref sig .tc := ⟨.hbm, 640, rfl⟩
abbrev main_call20_c : Ref sig .tc := ⟨.hbm, 641, rfl⟩
abbrev main_call20_v0 : Ref sig .tc := ⟨.hbm, 642, rfl⟩
abbrev main_call20_v1 : Ref sig .tc := ⟨.hbm, 643, rfl⟩
abbrev main_call20_c_0 : Ref sig .tc := ⟨.hbm, 644, rfl⟩
abbrev main_call20_v2 : Ref sig .tc := ⟨.hbm, 645, rfl⟩
abbrev main_call20_v3 : Ref sig .tc := ⟨.hbm, 646, rfl⟩
abbrev main_call20_v4 : Ref sig .tc := ⟨.hbm, 647, rfl⟩
abbrev main_call20_c_1 : Ref sig .tc := ⟨.hbm, 648, rfl⟩
abbrev main_call20_c_2 : Ref sig .tc := ⟨.hbm, 649, rfl⟩
abbrev main_call20_v5 : Ref sig .tc := ⟨.hbm, 650, rfl⟩
abbrev main_call20_v6 : Ref sig .tc := ⟨.hbm, 651, rfl⟩
abbrev main_call20_v7 : Ref sig .tc := ⟨.hbm, 652, rfl⟩
abbrev main_call20_v8 : Ref sig .tc := ⟨.hbm, 653, rfl⟩
abbrev main_call20_v9 : Ref sig .tc := ⟨.hbm, 654, rfl⟩
abbrev main_call20_v10 : Ref sig .tc := ⟨.hbm, 655, rfl⟩
abbrev main_call20_c_3 : Ref sig .tc := ⟨.hbm, 656, rfl⟩
abbrev main_call20_v11 : Ref sig .tc := ⟨.hbm, 657, rfl⟩
abbrev main_call20_v12 : Ref sig .tc := ⟨.hbm, 658, rfl⟩
abbrev main_call20_v13 : Ref sig .tc := ⟨.hbm, 659, rfl⟩
abbrev main_call20_cst : Ref sig .tc := ⟨.hbm, 660, rfl⟩
abbrev main_call20_v14 : Ref sig .tc := ⟨.hbm, 661, rfl⟩
abbrev main_v368 : Ref sig .tc := ⟨.hbm, 662, rfl⟩
abbrev main_v369 : Ref sig .tc := ⟨.hbm, 663, rfl⟩
abbrev main_v370 : Ref sig .tc := ⟨.hbm, 664, rfl⟩
abbrev main_call21_c : Ref sig .tc := ⟨.hbm, 665, rfl⟩
abbrev main_call21_v0 : Ref sig .tc := ⟨.hbm, 666, rfl⟩
abbrev main_call21_v1 : Ref sig .tc := ⟨.hbm, 667, rfl⟩
abbrev main_call21_c_0 : Ref sig .tc := ⟨.hbm, 668, rfl⟩
abbrev main_call21_v2 : Ref sig .tc := ⟨.hbm, 669, rfl⟩
abbrev main_call21_v3 : Ref sig .tc := ⟨.hbm, 670, rfl⟩
abbrev main_call21_v4 : Ref sig .tc := ⟨.hbm, 671, rfl⟩
abbrev main_call21_c_1 : Ref sig .tc := ⟨.hbm, 672, rfl⟩
abbrev main_call21_c_2 : Ref sig .tc := ⟨.hbm, 673, rfl⟩
abbrev main_call21_v5 : Ref sig .tc := ⟨.hbm, 674, rfl⟩
abbrev main_call21_v6 : Ref sig .tc := ⟨.hbm, 675, rfl⟩
abbrev main_call21_v7 : Ref sig .tc := ⟨.hbm, 676, rfl⟩
abbrev main_call21_v8 : Ref sig .tc := ⟨.hbm, 677, rfl⟩
abbrev main_call21_v9 : Ref sig .tc := ⟨.hbm, 678, rfl⟩
abbrev main_call21_v10 : Ref sig .tc := ⟨.hbm, 679, rfl⟩
abbrev main_call21_c_3 : Ref sig .tc := ⟨.hbm, 680, rfl⟩
abbrev main_call21_v11 : Ref sig .tc := ⟨.hbm, 681, rfl⟩
abbrev main_call21_v12 : Ref sig .tc := ⟨.hbm, 682, rfl⟩
abbrev main_call21_v13 : Ref sig .tc := ⟨.hbm, 683, rfl⟩
abbrev main_call21_cst : Ref sig .tc := ⟨.hbm, 684, rfl⟩
abbrev main_call21_v14 : Ref sig .tc := ⟨.hbm, 685, rfl⟩
abbrev main_v371 : Ref sig .tc := ⟨.hbm, 686, rfl⟩
abbrev main_v372 : Ref sig .tc := ⟨.hbm, 687, rfl⟩
abbrev main_cst_75 : Ref sig .tc := ⟨.hbm, 688, rfl⟩
abbrev main_v373 : Ref sig .tc := ⟨.hbm, 689, rfl⟩
abbrev main_cst_76 : Ref sig .tc := ⟨.hbm, 690, rfl⟩
abbrev main_v374 : Ref sig .tc := ⟨.hbm, 691, rfl⟩
abbrev main_v375 : Ref sig .tc := ⟨.hbm, 692, rfl⟩
abbrev main_v376 : Ref sig .tc := ⟨.hbm, 693, rfl⟩
abbrev main_v377 : Ref sig .tc := ⟨.hbm, 694, rfl⟩
abbrev main_v378 : Ref sig .tc := ⟨.hbm, 695, rfl⟩
abbrev main_v379 : Ref sig .tc := ⟨.hbm, 696, rfl⟩
abbrev main_cst_77 : Ref sig .tc := ⟨.hbm, 697, rfl⟩
abbrev main_v380 : Ref sig .tc := ⟨.hbm, 698, rfl⟩
abbrev main_v381 : Ref sig .tc := ⟨.hbm, 699, rfl⟩
abbrev main_v382 : Ref sig .tc := ⟨.hbm, 700, rfl⟩
abbrev main_v383 : Ref sig .tc := ⟨.hbm, 701, rfl⟩
abbrev main_v384 : Ref sig .tc := ⟨.hbm, 702, rfl⟩
abbrev main_v385 : Ref sig .tc := ⟨.hbm, 703, rfl⟩
abbrev main_v386 : Ref sig .tc := ⟨.hbm, 704, rfl⟩
abbrev main_cst_78 : Ref sig .tc := ⟨.hbm, 705, rfl⟩
abbrev main_v387 : Ref sig .tc := ⟨.hbm, 706, rfl⟩
abbrev main_v388 : Ref sig .tc := ⟨.hbm, 707, rfl⟩
abbrev main_call22_c : Ref sig .tc := ⟨.hbm, 708, rfl⟩
abbrev main_call22_v0 : Ref sig .tc := ⟨.hbm, 709, rfl⟩
abbrev main_call22_v1 : Ref sig .tc := ⟨.hbm, 710, rfl⟩
abbrev main_call22_c_0 : Ref sig .tc := ⟨.hbm, 711, rfl⟩
abbrev main_call22_v2 : Ref sig .tc := ⟨.hbm, 712, rfl⟩
abbrev main_call22_v3 : Ref sig .tc := ⟨.hbm, 713, rfl⟩
abbrev main_call22_v4 : Ref sig .tc := ⟨.hbm, 714, rfl⟩
abbrev main_call22_v5 : Ref sig .tc := ⟨.hbm, 715, rfl⟩
abbrev main_call22_c_1 : Ref sig .tc := ⟨.hbm, 716, rfl⟩
abbrev main_call22_c_2 : Ref sig .tc := ⟨.hbm, 717, rfl⟩
abbrev main_call22_v6 : Ref sig .tc := ⟨.hbm, 718, rfl⟩
abbrev main_call22_v7 : Ref sig .tc := ⟨.hbm, 719, rfl⟩
abbrev main_call22_v8 : Ref sig .tc := ⟨.hbm, 720, rfl⟩
abbrev main_call22_v9 : Ref sig .tc := ⟨.hbm, 721, rfl⟩
abbrev main_call22_v10 : Ref sig .tc := ⟨.hbm, 722, rfl⟩
abbrev main_call22_v11 : Ref sig .tc := ⟨.hbm, 723, rfl⟩
abbrev main_call22_c_3 : Ref sig .tc := ⟨.hbm, 724, rfl⟩
abbrev main_call22_v12 : Ref sig .tc := ⟨.hbm, 725, rfl⟩
abbrev main_call22_v13 : Ref sig .tc := ⟨.hbm, 726, rfl⟩
abbrev main_call22_cst : Ref sig .tc := ⟨.hbm, 727, rfl⟩
abbrev main_call22_v14 : Ref sig .tc := ⟨.hbm, 728, rfl⟩
abbrev main_v389 : Ref sig .tc := ⟨.hbm, 729, rfl⟩
abbrev main_v390 : Ref sig .tc := ⟨.hbm, 730, rfl⟩
abbrev main_v391 : Ref sig .tc := ⟨.hbm, 731, rfl⟩
abbrev main_v392 : Ref sig .tc := ⟨.hbm, 732, rfl⟩
abbrev main_v393 : Ref sig .tc := ⟨.hbm, 733, rfl⟩
abbrev main_v394 : Ref sig .tc := ⟨.hbm, 734, rfl⟩
abbrev main_v395 : Ref sig .tc := ⟨.hbm, 735, rfl⟩
abbrev main_v396 : Ref sig .tc := ⟨.hbm, 736, rfl⟩
abbrev main_v397 : Ref sig .tc := ⟨.hbm, 737, rfl⟩
abbrev main_v398 : Ref sig .tc := ⟨.hbm, 738, rfl⟩
abbrev main_v399 : Ref sig .tc := ⟨.hbm, 739, rfl⟩
abbrev main_v400 : Ref sig .tc := ⟨.hbm, 740, rfl⟩
abbrev main_v401 : Ref sig .tc := ⟨.hbm, 741, rfl⟩
abbrev main_v402 : Ref sig .tc := ⟨.hbm, 742, rfl⟩
abbrev main_v403 : Ref sig .tc := ⟨.hbm, 743, rfl⟩
abbrev main_cst_79 : Ref sig .tc := ⟨.hbm, 744, rfl⟩
abbrev main_v404 : Ref sig .tc := ⟨.hbm, 745, rfl⟩
abbrev main_v405 : Ref sig .tc := ⟨.hbm, 746, rfl⟩
abbrev main_cst_80 : Ref sig .tc := ⟨.hbm, 747, rfl⟩
abbrev main_v406 : Ref sig .tc := ⟨.hbm, 748, rfl⟩
abbrev main_v407 : Ref sig .tc := ⟨.hbm, 749, rfl⟩
abbrev main_c_81 : Ref sig .tc := ⟨.hbm, 750, rfl⟩
abbrev main_call23_cst : Ref sig .tc := ⟨.hbm, 751, rfl⟩
abbrev main_call23_v0 : Ref sig .tc := ⟨.hbm, 752, rfl⟩
abbrev main_call23_v1 : Ref sig .tc := ⟨.hbm, 753, rfl⟩
abbrev main_call23_cst_0 : Ref sig .tc := ⟨.hbm, 754, rfl⟩
abbrev main_call23_v2 : Ref sig .tc := ⟨.hbm, 755, rfl⟩
abbrev main_call23_v3 : Ref sig .tc := ⟨.hbm, 756, rfl⟩
abbrev main_call23_v4 : Ref sig .tc := ⟨.hbm, 757, rfl⟩
abbrev main_call23_v5 : Ref sig .tc := ⟨.hbm, 758, rfl⟩
abbrev main_call23_v6 : Ref sig .tc := ⟨.hbm, 759, rfl⟩
abbrev main_call23_v7 : Ref sig .tc := ⟨.hbm, 760, rfl⟩
abbrev main_call23_cst_1 : Ref sig .tc := ⟨.hbm, 761, rfl⟩
abbrev main_call23_v8 : Ref sig .tc := ⟨.hbm, 762, rfl⟩
abbrev main_call23_cst_2 : Ref sig .tc := ⟨.hbm, 763, rfl⟩
abbrev main_call23_v9 : Ref sig .tc := ⟨.hbm, 764, rfl⟩
abbrev main_call23_v10 : Ref sig .tc := ⟨.hbm, 765, rfl⟩
abbrev main_call23_v11 : Ref sig .tc := ⟨.hbm, 766, rfl⟩
abbrev main_call23_v12 : Ref sig .tc := ⟨.hbm, 767, rfl⟩
abbrev main_call23_cst_3 : Ref sig .tc := ⟨.hbm, 768, rfl⟩
abbrev main_call23_v13 : Ref sig .tc := ⟨.hbm, 769, rfl⟩
abbrev main_call23_cst_4 : Ref sig .tc := ⟨.hbm, 770, rfl⟩
abbrev main_call23_call0_v0 : Ref sig .tc := ⟨.hbm, 771, rfl⟩
abbrev main_call23_call0_v1 : Ref sig .tc := ⟨.hbm, 772, rfl⟩
abbrev main_v408 : Ref sig .tc := ⟨.hbm, 773, rfl⟩
abbrev main_v409 : Ref sig .tc := ⟨.hbm, 774, rfl⟩
abbrev main_v410 : Ref sig .tc := ⟨.hbm, 775, rfl⟩
abbrev main_cst_82 : Ref sig .tc := ⟨.hbm, 776, rfl⟩
abbrev main_v411 : Ref sig .tc := ⟨.hbm, 777, rfl⟩
abbrev main_v412 : Ref sig .tc := ⟨.hbm, 778, rfl⟩
abbrev main_v413 : Ref sig .tc := ⟨.hbm, 779, rfl⟩
abbrev main_v414 : Ref sig .tc := ⟨.hbm, 780, rfl⟩
abbrev main_v415 : Ref sig .tc := ⟨.hbm, 781, rfl⟩
abbrev main_v416 : Ref sig .tc := ⟨.hbm, 782, rfl⟩
abbrev main_v417 : Ref sig .tc := ⟨.hbm, 783, rfl⟩
abbrev main_v418 : Ref sig .tc := ⟨.hbm, 784, rfl⟩
abbrev main_v419 : Ref sig .tc := ⟨.hbm, 785, rfl⟩
abbrev main_v420 : Ref sig .tc := ⟨.hbm, 786, rfl⟩
abbrev main_v421 : Ref sig .tc := ⟨.hbm, 787, rfl⟩
abbrev main_v422 : Ref sig .tc := ⟨.hbm, 788, rfl⟩
abbrev main_v423 : Ref sig .tc := ⟨.hbm, 789, rfl⟩
abbrev main_v424 : Ref sig .tc := ⟨.hbm, 790, rfl⟩
abbrev main_v425 : Ref sig .tc := ⟨.hbm, 791, rfl⟩
abbrev main_cst_83 : Ref sig .tc := ⟨.hbm, 792, rfl⟩
abbrev main_v426 : Ref sig .tc := ⟨.hbm, 793, rfl⟩
abbrev main_v427 : Ref sig .tc := ⟨.hbm, 794, rfl⟩
abbrev main_v428 : Ref sig .tc := ⟨.hbm, 795, rfl⟩
abbrev main_cst_84 : Ref sig .tc := ⟨.hbm, 796, rfl⟩
abbrev main_v429 : Ref sig .tc := ⟨.hbm, 797, rfl⟩
abbrev main_v430 : Ref sig .tc := ⟨.hbm, 798, rfl⟩
abbrev main_v431 : Ref sig .tc := ⟨.hbm, 799, rfl⟩
abbrev main_v432 : Ref sig .tc := ⟨.hbm, 800, rfl⟩
abbrev main_v433 : Ref sig .tc := ⟨.hbm, 801, rfl⟩
abbrev main_v434 : Ref sig .tc := ⟨.hbm, 802, rfl⟩
abbrev main_v435 : Ref sig .tc := ⟨.hbm, 803, rfl⟩
abbrev main_v436 : Ref sig .tc := ⟨.hbm, 804, rfl⟩
abbrev main_v437 : Ref sig .tc := ⟨.hbm, 805, rfl⟩
abbrev main_v438 : Ref sig .tc := ⟨.hbm, 806, rfl⟩
abbrev main_v439 : Ref sig .tc := ⟨.hbm, 807, rfl⟩
abbrev main_v440 : Ref sig .tc := ⟨.hbm, 808, rfl⟩
abbrev main_cst_85 : Ref sig .tc := ⟨.hbm, 809, rfl⟩
abbrev main_v441 : Ref sig .tc := ⟨.hbm, 810, rfl⟩
abbrev main_v442 : Ref sig .tc := ⟨.hbm, 811, rfl⟩
abbrev main_cst_86 : Ref sig .tc := ⟨.hbm, 812, rfl⟩
abbrev main_v443 : Ref sig .tc := ⟨.hbm, 813, rfl⟩
abbrev main_v444 : Ref sig .tc := ⟨.hbm, 814, rfl⟩
abbrev main_v445 : Ref sig .tc := ⟨.hbm, 815, rfl⟩
abbrev main_v446 : Ref sig .tc := ⟨.hbm, 816, rfl⟩
abbrev main_cst_87 : Ref sig .tc := ⟨.hbm, 817, rfl⟩
abbrev main_v447 : Ref sig .tc := ⟨.hbm, 818, rfl⟩
abbrev main_cst_88 : Ref sig .tc := ⟨.hbm, 819, rfl⟩
abbrev main_v448 : Ref sig .tc := ⟨.hbm, 820, rfl⟩
abbrev main_v449 : Ref sig .tc := ⟨.hbm, 821, rfl⟩
abbrev main_v450 : Ref sig .tc := ⟨.hbm, 822, rfl⟩
abbrev main_v451 : Ref sig .tc := ⟨.hbm, 823, rfl⟩
abbrev main_v452 : Ref sig .tc := ⟨.hbm, 824, rfl⟩
abbrev main_v453 : Ref sig .tc := ⟨.hbm, 825, rfl⟩
abbrev main_cst_89 : Ref sig .tc := ⟨.hbm, 826, rfl⟩
abbrev main_v454 : Ref sig .tc := ⟨.hbm, 827, rfl⟩
abbrev main_v455 : Ref sig .tc := ⟨.hbm, 828, rfl⟩
abbrev main_v456 : Ref sig .tc := ⟨.hbm, 829, rfl⟩
abbrev main_v457 : Ref sig .tc := ⟨.hbm, 830, rfl⟩
abbrev main_v458 : Ref sig .tc := ⟨.hbm, 831, rfl⟩
abbrev main_v459 : Ref sig .tc := ⟨.hbm, 832, rfl⟩
abbrev main_call24_v0 : Ref sig .tc := ⟨.hbm, 833, rfl⟩
abbrev main_call24_cst : Ref sig .tc := ⟨.hbm, 834, rfl⟩
abbrev main_call24_v1 : Ref sig .tc := ⟨.hbm, 835, rfl⟩
abbrev main_call24_v2 : Ref sig .tc := ⟨.hbm, 836, rfl⟩
abbrev main_v460 : Ref sig .tc := ⟨.hbm, 837, rfl⟩
abbrev main_cst_90 : Ref sig .tc := ⟨.hbm, 838, rfl⟩
abbrev main_v461 : Ref sig .tc := ⟨.hbm, 839, rfl⟩
abbrev main_v462 : Ref sig .tc := ⟨.hbm, 840, rfl⟩
abbrev main_v463 : Ref sig .tc := ⟨.hbm, 841, rfl⟩
abbrev main_v464 : Ref sig .tc := ⟨.hbm, 842, rfl⟩
abbrev main_call25_v0 : Ref sig .tc := ⟨.hbm, 843, rfl⟩
abbrev main_call25_cst : Ref sig .tc := ⟨.hbm, 844, rfl⟩
abbrev main_call25_v1 : Ref sig .tc := ⟨.hbm, 845, rfl⟩
abbrev main_call25_v2 : Ref sig .tc := ⟨.hbm, 846, rfl⟩
abbrev main_v465 : Ref sig .tc := ⟨.hbm, 847, rfl⟩
abbrev main_cst_91 : Ref sig .tc := ⟨.hbm, 848, rfl⟩
abbrev main_v466 : Ref sig .tc := ⟨.hbm, 849, rfl⟩
abbrev main_v467 : Ref sig .tc := ⟨.hbm, 850, rfl⟩
abbrev main_v468 : Ref sig .tc := ⟨.hbm, 851, rfl⟩
abbrev main_v469 : Ref sig .tc := ⟨.hbm, 852, rfl⟩
abbrev main_v470 : Ref sig .tc := ⟨.hbm, 853, rfl⟩
abbrev main_v471 : Ref sig .tc := ⟨.hbm, 854, rfl⟩
abbrev main_v472 : Ref sig .tc := ⟨.hbm, 855, rfl⟩
abbrev main_cst_92 : Ref sig .tc := ⟨.hbm, 856, rfl⟩
abbrev main_v473 : Ref sig .tc := ⟨.hbm, 857, rfl⟩
abbrev main_call26_v0 : Ref sig .tc := ⟨.hbm, 858, rfl⟩
abbrev main_call26_cst : Ref sig .tc := ⟨.hbm, 859, rfl⟩
abbrev main_call26_v1 : Ref sig .tc := ⟨.hbm, 860, rfl⟩
abbrev main_call26_v2 : Ref sig .tc := ⟨.hbm, 861, rfl⟩
abbrev main_v474 : Ref sig .tc := ⟨.hbm, 862, rfl⟩
abbrev main_cst_93 : Ref sig .tc := ⟨.hbm, 863, rfl⟩
abbrev main_v475 : Ref sig .tc := ⟨.hbm, 864, rfl⟩
abbrev main_v476 : Ref sig .tc := ⟨.hbm, 865, rfl⟩
abbrev main_v477 : Ref sig .tc := ⟨.hbm, 866, rfl⟩
abbrev main_v478 : Ref sig .tc := ⟨.hbm, 867, rfl⟩
abbrev main_call27_v0 : Ref sig .tc := ⟨.hbm, 868, rfl⟩
abbrev main_call27_cst : Ref sig .tc := ⟨.hbm, 869, rfl⟩
abbrev main_call27_v1 : Ref sig .tc := ⟨.hbm, 870, rfl⟩
abbrev main_call27_v2 : Ref sig .tc := ⟨.hbm, 871, rfl⟩
abbrev main_v479 : Ref sig .tc := ⟨.hbm, 872, rfl⟩
abbrev main_cst_94 : Ref sig .tc := ⟨.hbm, 873, rfl⟩
abbrev main_v480 : Ref sig .tc := ⟨.hbm, 874, rfl⟩
abbrev main_v481 : Ref sig .tc := ⟨.hbm, 875, rfl⟩
abbrev main_v482 : Ref sig .tc := ⟨.hbm, 876, rfl⟩
abbrev main_v483 : Ref sig .tc := ⟨.hbm, 877, rfl⟩
abbrev main_v484 : Ref sig .tc := ⟨.hbm, 878, rfl⟩
abbrev main_v485 : Ref sig .tc := ⟨.hbm, 879, rfl⟩
abbrev main_v486 : Ref sig .tc := ⟨.hbm, 880, rfl⟩
abbrev main_cst_95 : Ref sig .tc := ⟨.hbm, 881, rfl⟩
abbrev main_v487 : Ref sig .tc := ⟨.hbm, 882, rfl⟩
abbrev main_call28_v0 : Ref sig .tc := ⟨.hbm, 883, rfl⟩
abbrev main_call28_cst : Ref sig .tc := ⟨.hbm, 884, rfl⟩
abbrev main_call28_v1 : Ref sig .tc := ⟨.hbm, 885, rfl⟩
abbrev main_call28_v2 : Ref sig .tc := ⟨.hbm, 886, rfl⟩
abbrev main_v488 : Ref sig .tc := ⟨.hbm, 887, rfl⟩
abbrev main_cst_96 : Ref sig .tc := ⟨.hbm, 888, rfl⟩
abbrev main_v489 : Ref sig .tc := ⟨.hbm, 889, rfl⟩
abbrev main_v490 : Ref sig .tc := ⟨.hbm, 890, rfl⟩
abbrev main_v491 : Ref sig .tc := ⟨.hbm, 891, rfl⟩
abbrev main_v492 : Ref sig .tc := ⟨.hbm, 892, rfl⟩
abbrev main_call29_v0 : Ref sig .tc := ⟨.hbm, 893, rfl⟩
abbrev main_call29_cst : Ref sig .tc := ⟨.hbm, 894, rfl⟩
abbrev main_call29_v1 : Ref sig .tc := ⟨.hbm, 895, rfl⟩
abbrev main_call29_v2 : Ref sig .tc := ⟨.hbm, 896, rfl⟩
abbrev main_v493 : Ref sig .tc := ⟨.hbm, 897, rfl⟩
abbrev main_cst_97 : Ref sig .tc := ⟨.hbm, 898, rfl⟩
abbrev main_v494 : Ref sig .tc := ⟨.hbm, 899, rfl⟩
abbrev main_v495 : Ref sig .tc := ⟨.hbm, 900, rfl⟩
abbrev main_v496 : Ref sig .tc := ⟨.hbm, 901, rfl⟩
abbrev main_v497 : Ref sig .tc := ⟨.hbm, 902, rfl⟩
abbrev main_v498 : Ref sig .tc := ⟨.hbm, 903, rfl⟩
abbrev main_v499 : Ref sig .tc := ⟨.hbm, 904, rfl⟩
abbrev main_v500 : Ref sig .tc := ⟨.hbm, 905, rfl⟩
abbrev main_cst_98 : Ref sig .tc := ⟨.hbm, 906, rfl⟩
abbrev main_v501 : Ref sig .tc := ⟨.hbm, 907, rfl⟩
abbrev main_v502 : Ref sig .tc := ⟨.hbm, 908, rfl⟩
abbrev main_v503 : Ref sig .tc := ⟨.hbm, 909, rfl⟩
abbrev main_v504 : Ref sig .tc := ⟨.hbm, 910, rfl⟩
abbrev main_v505 : Ref sig .tc := ⟨.hbm, 911, rfl⟩
abbrev main_v506 : Ref sig .tc := ⟨.hbm, 912, rfl⟩
abbrev main_v507 : Ref sig .tc := ⟨.hbm, 913, rfl⟩
abbrev main_v508 : Ref sig .tc := ⟨.hbm, 914, rfl⟩
abbrev main_v509 : Ref sig .tc := ⟨.hbm, 915, rfl⟩
abbrev main_v510 : Ref sig .tc := ⟨.hbm, 916, rfl⟩
abbrev main_v511 : Ref sig .tc := ⟨.hbm, 917, rfl⟩
abbrev main_v512 : Ref sig .tc := ⟨.hbm, 918, rfl⟩
abbrev main_v513 : Ref sig .tc := ⟨.hbm, 919, rfl⟩
abbrev main_cst_99 : Ref sig .tc := ⟨.hbm, 920, rfl⟩
abbrev main_v514 : Ref sig .tc := ⟨.hbm, 921, rfl⟩
abbrev main_v515 : Ref sig .tc := ⟨.hbm, 922, rfl⟩
abbrev main_v516 : Ref sig .tc := ⟨.hbm, 923, rfl⟩
abbrev main_cst_100 : Ref sig .tc := ⟨.hbm, 924, rfl⟩
abbrev main_v517 : Ref sig .tc := ⟨.hbm, 925, rfl⟩
abbrev main_v518 : Ref sig .tc := ⟨.hbm, 926, rfl⟩
abbrev main_v519 : Ref sig .tc := ⟨.hbm, 927, rfl⟩
abbrev main_v520 : Ref sig .tc := ⟨.hbm, 928, rfl⟩
abbrev main_v521 : Ref sig .tc := ⟨.hbm, 929, rfl⟩
abbrev main_v522 : Ref sig .tc := ⟨.hbm, 930, rfl⟩
abbrev main_v523 : Ref sig .tc := ⟨.hbm, 931, rfl⟩
abbrev main_v524 : Ref sig .tc := ⟨.hbm, 932, rfl⟩
abbrev main_v525 : Ref sig .tc := ⟨.hbm, 933, rfl⟩
abbrev main_v526 : Ref sig .tc := ⟨.hbm, 934, rfl⟩
abbrev main_cst_101 : Ref sig .tc := ⟨.hbm, 935, rfl⟩
abbrev main_v527 : Ref sig .tc := ⟨.hbm, 936, rfl⟩
abbrev main_v528 : Ref sig .tc := ⟨.hbm, 937, rfl⟩
abbrev main_cst_102 : Ref sig .tc := ⟨.hbm, 938, rfl⟩
abbrev main_v529 : Ref sig .tc := ⟨.hbm, 939, rfl⟩
abbrev main_v530 : Ref sig .tc := ⟨.hbm, 940, rfl⟩
abbrev main_v531 : Ref sig .tc := ⟨.hbm, 941, rfl⟩
abbrev main_cst_103 : Ref sig .tc := ⟨.hbm, 942, rfl⟩
abbrev main_v532 : Ref sig .tc := ⟨.hbm, 943, rfl⟩
abbrev main_v533 : Ref sig .tc := ⟨.hbm, 944, rfl⟩
abbrev main_cst_104 : Ref sig .tc := ⟨.hbm, 945, rfl⟩
abbrev main_v534 : Ref sig .tc := ⟨.hbm, 946, rfl⟩
abbrev main_v535 : Ref sig .tc := ⟨.hbm, 947, rfl⟩
abbrev main_cst_105 : Ref sig .tc := ⟨.hbm, 948, rfl⟩
abbrev main_v536 : Ref sig .tc := ⟨.hbm, 949, rfl⟩
abbrev main_v537 : Ref sig .tc := ⟨.hbm, 950, rfl⟩
abbrev main_v538 : Ref sig .tc := ⟨.hbm, 951, rfl⟩
abbrev main_v539 : Ref sig .tc := ⟨.hbm, 952, rfl⟩
abbrev main_v540 : Ref sig .tc := ⟨.hbm, 953, rfl⟩
abbrev main_cst_106 : Ref sig .tc := ⟨.hbm, 954, rfl⟩
abbrev main_v541 : Ref sig .tc := ⟨.hbm, 955, rfl⟩
abbrev main_v542 : Ref sig .tc := ⟨.hbm, 956, rfl⟩
abbrev main_v543 : Ref sig .tc := ⟨.hbm, 957, rfl⟩
abbrev main_v544 : Ref sig .tc := ⟨.hbm, 958, rfl⟩
abbrev main_cst_107 : Ref sig .tc := ⟨.hbm, 959, rfl⟩
abbrev main_v545 : Ref sig .tc := ⟨.hbm, 960, rfl⟩
abbrev main_v546 : Ref sig .tc := ⟨.hbm, 961, rfl⟩
abbrev main_cst_108 : Ref sig .tc := ⟨.hbm, 962, rfl⟩
abbrev main_v547 : Ref sig .tc := ⟨.hbm, 963, rfl⟩
abbrev main_v548 : Ref sig .tc := ⟨.hbm, 964, rfl⟩
abbrev main_v549 : Ref sig .tc := ⟨.hbm, 965, rfl⟩
abbrev main_v550 : Ref sig .tc := ⟨.hbm, 966, rfl⟩
abbrev main_v551 : Ref sig .tc := ⟨.hbm, 967, rfl⟩
abbrev main_cst_109 : Ref sig .tc := ⟨.hbm, 968, rfl⟩
abbrev main_v552 : Ref sig .tc := ⟨.hbm, 969, rfl⟩
abbrev main_v553 : Ref sig .tc := ⟨.hbm, 970, rfl⟩
abbrev main_v554 : Ref sig .tc := ⟨.hbm, 971, rfl⟩
abbrev main_v555 : Ref sig .tc := ⟨.hbm, 972, rfl⟩
abbrev main_v556 : Ref sig .tc := ⟨.hbm, 973, rfl⟩
abbrev main_cst_110 : Ref sig .tc := ⟨.hbm, 974, rfl⟩
abbrev main_v557 : Ref sig .tc := ⟨.hbm, 975, rfl⟩
abbrev main_v558 : Ref sig .tc := ⟨.hbm, 976, rfl⟩
abbrev main_cst_111 : Ref sig .tc := ⟨.hbm, 977, rfl⟩
abbrev main_v559 : Ref sig .tc := ⟨.hbm, 978, rfl⟩
abbrev main_v560 : Ref sig .tc := ⟨.hbm, 979, rfl⟩
abbrev main_v561 : Ref sig .tc := ⟨.hbm, 980, rfl⟩
abbrev main_v562 : Ref sig .tc := ⟨.hbm, 981, rfl⟩
abbrev main_v563 : Ref sig .tc := ⟨.hbm, 982, rfl⟩
abbrev main_cst_112 : Ref sig .tc := ⟨.hbm, 983, rfl⟩
abbrev main_v564 : Ref sig .tc := ⟨.hbm, 984, rfl⟩
abbrev main_v565 : Ref sig .tc := ⟨.hbm, 985, rfl⟩
abbrev main_v566 : Ref sig .tc := ⟨.hbm, 986, rfl⟩
abbrev main_v567 : Ref sig .tc := ⟨.hbm, 987, rfl⟩
abbrev main_cst_113 : Ref sig .tc := ⟨.hbm, 988, rfl⟩
abbrev main_v568 : Ref sig .tc := ⟨.hbm, 989, rfl⟩
abbrev main_v569 : Ref sig .tc := ⟨.hbm, 990, rfl⟩
abbrev main_v570 : Ref sig .tc := ⟨.hbm, 991, rfl⟩
abbrev main_cst_114 : Ref sig .tc := ⟨.hbm, 992, rfl⟩
abbrev main_v571 : Ref sig .tc := ⟨.hbm, 993, rfl⟩
abbrev main_v572 : Ref sig .tc := ⟨.hbm, 994, rfl⟩
abbrev main_v573 : Ref sig .tc := ⟨.hbm, 995, rfl⟩
abbrev main_v574 : Ref sig .tc := ⟨.hbm, 996, rfl⟩
abbrev main_call30_v0 : Ref sig .tc := ⟨.hbm, 997, rfl⟩
abbrev main_call30_v1_0 : Ref sig .tc := ⟨.hbm, 998, rfl⟩
abbrev main_v575 : Ref sig .tc := ⟨.hbm, 999, rfl⟩
abbrev main_call31_c : Ref sig .tc := ⟨.hbm, 1000, rfl⟩
abbrev main_call31_v0 : Ref sig .tc := ⟨.hbm, 1001, rfl⟩
abbrev main_call31_v1 : Ref sig .tc := ⟨.hbm, 1002, rfl⟩
abbrev main_call31_c_0 : Ref sig .tc := ⟨.hbm, 1003, rfl⟩
abbrev main_call31_v2 : Ref sig .tc := ⟨.hbm, 1004, rfl⟩
abbrev main_call31_v3 : Ref sig .tc := ⟨.hbm, 1005, rfl⟩
abbrev main_call31_v4 : Ref sig .tc := ⟨.hbm, 1006, rfl⟩
abbrev main_call31_v5 : Ref sig .tc := ⟨.hbm, 1007, rfl⟩
abbrev main_call31_c_1 : Ref sig .tc := ⟨.hbm, 1008, rfl⟩
abbrev main_call31_c_2 : Ref sig .tc := ⟨.hbm, 1009, rfl⟩
abbrev main_call31_v6 : Ref sig .tc := ⟨.hbm, 1010, rfl⟩
abbrev main_call31_v7 : Ref sig .tc := ⟨.hbm, 1011, rfl⟩
abbrev main_call31_v8 : Ref sig .tc := ⟨.hbm, 1012, rfl⟩
abbrev main_call31_v9 : Ref sig .tc := ⟨.hbm, 1013, rfl⟩
abbrev main_call31_v10 : Ref sig .tc := ⟨.hbm, 1014, rfl⟩
abbrev main_call31_v11 : Ref sig .tc := ⟨.hbm, 1015, rfl⟩
abbrev main_call31_c_3 : Ref sig .tc := ⟨.hbm, 1016, rfl⟩
abbrev main_call31_v12 : Ref sig .tc := ⟨.hbm, 1017, rfl⟩
abbrev main_call31_v13 : Ref sig .tc := ⟨.hbm, 1018, rfl⟩
abbrev main_call31_cst : Ref sig .tc := ⟨.hbm, 1019, rfl⟩
abbrev main_call31_v14 : Ref sig .tc := ⟨.hbm, 1020, rfl⟩
abbrev main_v576 : Ref sig .tc := ⟨.hbm, 1021, rfl⟩
abbrev main_v577 : Ref sig .tc := ⟨.hbm, 1022, rfl⟩
abbrev main_v578 : Ref sig .tc := ⟨.hbm, 1023, rfl⟩
abbrev main_v579 : Ref sig .tc := ⟨.hbm, 1024, rfl⟩
abbrev main_cst_115 : Ref sig .tc := ⟨.hbm, 1025, rfl⟩
abbrev main_v580 : Ref sig .tc := ⟨.hbm, 1026, rfl⟩
abbrev main_c_116 : Ref sig .tc := ⟨.hbm, 1027, rfl⟩
abbrev main_v581 : Ref sig .tc := ⟨.hbm, 1028, rfl⟩
abbrev main_v582 : Ref sig .tc := ⟨.hbm, 1029, rfl⟩
abbrev main_c_117 : Ref sig .tc := ⟨.hbm, 1030, rfl⟩
abbrev main_v583 : Ref sig .tc := ⟨.hbm, 1031, rfl⟩
abbrev main_v584 : Ref sig .tc := ⟨.hbm, 1032, rfl⟩
abbrev main_v585 : Ref sig .tc := ⟨.hbm, 1033, rfl⟩
abbrev main_c_118 : Ref sig .tc := ⟨.hbm, 1034, rfl⟩
abbrev main_v586 : Ref sig .tc := ⟨.hbm, 1035, rfl⟩
abbrev main_v587 : Ref sig .tc := ⟨.hbm, 1036, rfl⟩
abbrev main_c_119 : Ref sig .tc := ⟨.hbm, 1037, rfl⟩
abbrev main_v588 : Ref sig .tc := ⟨.hbm, 1038, rfl⟩
abbrev main_v589 : Ref sig .tc := ⟨.hbm, 1039, rfl⟩
abbrev main_v590 : Ref sig .tc := ⟨.hbm, 1040, rfl⟩
abbrev main_v591 : Ref sig .tc := ⟨.hbm, 1041, rfl⟩
abbrev main_v592 : Ref sig .tc := ⟨.hbm, 1042, rfl⟩
abbrev main_v593 : Ref sig .tc := ⟨.hbm, 1043, rfl⟩
abbrev main_v594 : Ref sig .tc := ⟨.hbm, 1044, rfl⟩
abbrev main_cst_120 : Ref sig .tc := ⟨.hbm, 1045, rfl⟩
abbrev main_v595 : Ref sig .tc := ⟨.hbm, 1046, rfl⟩
abbrev main_v596 : Ref sig .tc := ⟨.hbm, 1047, rfl⟩
abbrev main_v597 : Ref sig .tc := ⟨.hbm, 1048, rfl⟩
abbrev main_call32_c : Ref sig .tc := ⟨.hbm, 1049, rfl⟩
abbrev main_call32_v0 : Ref sig .tc := ⟨.hbm, 1050, rfl⟩
abbrev main_call32_v1 : Ref sig .tc := ⟨.hbm, 1051, rfl⟩
abbrev main_call32_c_0 : Ref sig .tc := ⟨.hbm, 1052, rfl⟩
abbrev main_call32_v2 : Ref sig .tc := ⟨.hbm, 1053, rfl⟩
abbrev main_call32_v3 : Ref sig .tc := ⟨.hbm, 1054, rfl⟩
abbrev main_call32_v4 : Ref sig .tc := ⟨.hbm, 1055, rfl⟩
abbrev main_call32_c_1 : Ref sig .tc := ⟨.hbm, 1056, rfl⟩
abbrev main_call32_c_2 : Ref sig .tc := ⟨.hbm, 1057, rfl⟩
abbrev main_call32_v5 : Ref sig .tc := ⟨.hbm, 1058, rfl⟩
abbrev main_call32_v6 : Ref sig .tc := ⟨.hbm, 1059, rfl⟩
abbrev main_call32_v7 : Ref sig .tc := ⟨.hbm, 1060, rfl⟩
abbrev main_call32_v8 : Ref sig .tc := ⟨.hbm, 1061, rfl⟩
abbrev main_call32_v9 : Ref sig .tc := ⟨.hbm, 1062, rfl⟩
abbrev main_call32_v10 : Ref sig .tc := ⟨.hbm, 1063, rfl⟩
abbrev main_call32_c_3 : Ref sig .tc := ⟨.hbm, 1064, rfl⟩
abbrev main_call32_v11 : Ref sig .tc := ⟨.hbm, 1065, rfl⟩
abbrev main_call32_v12 : Ref sig .tc := ⟨.hbm, 1066, rfl⟩
abbrev main_call32_v13 : Ref sig .tc := ⟨.hbm, 1067, rfl⟩
abbrev main_call32_cst : Ref sig .tc := ⟨.hbm, 1068, rfl⟩
abbrev main_call32_v14 : Ref sig .tc := ⟨.hbm, 1069, rfl⟩
abbrev main_v598 : Ref sig .tc := ⟨.hbm, 1070, rfl⟩
abbrev main_v599 : Ref sig .tc := ⟨.hbm, 1071, rfl⟩
abbrev main_v600 : Ref sig .tc := ⟨.hbm, 1072, rfl⟩
abbrev main_call33_c : Ref sig .tc := ⟨.hbm, 1073, rfl⟩
abbrev main_call33_v0 : Ref sig .tc := ⟨.hbm, 1074, rfl⟩
abbrev main_call33_v1 : Ref sig .tc := ⟨.hbm, 1075, rfl⟩
abbrev main_call33_c_0 : Ref sig .tc := ⟨.hbm, 1076, rfl⟩
abbrev main_call33_v2 : Ref sig .tc := ⟨.hbm, 1077, rfl⟩
abbrev main_call33_v3 : Ref sig .tc := ⟨.hbm, 1078, rfl⟩
abbrev main_call33_v4 : Ref sig .tc := ⟨.hbm, 1079, rfl⟩
abbrev main_call33_c_1 : Ref sig .tc := ⟨.hbm, 1080, rfl⟩
abbrev main_call33_c_2 : Ref sig .tc := ⟨.hbm, 1081, rfl⟩
abbrev main_call33_v5 : Ref sig .tc := ⟨.hbm, 1082, rfl⟩
abbrev main_call33_v6 : Ref sig .tc := ⟨.hbm, 1083, rfl⟩
abbrev main_call33_v7 : Ref sig .tc := ⟨.hbm, 1084, rfl⟩
abbrev main_call33_v8 : Ref sig .tc := ⟨.hbm, 1085, rfl⟩
abbrev main_call33_v9 : Ref sig .tc := ⟨.hbm, 1086, rfl⟩
abbrev main_call33_v10 : Ref sig .tc := ⟨.hbm, 1087, rfl⟩
abbrev main_call33_c_3 : Ref sig .tc := ⟨.hbm, 1088, rfl⟩
abbrev main_call33_v11 : Ref sig .tc := ⟨.hbm, 1089, rfl⟩
abbrev main_call33_v12 : Ref sig .tc := ⟨.hbm, 1090, rfl⟩
abbrev main_call33_v13 : Ref sig .tc := ⟨.hbm, 1091, rfl⟩
abbrev main_call33_cst : Ref sig .tc := ⟨.hbm, 1092, rfl⟩
abbrev main_call33_v14 : Ref sig .tc := ⟨.hbm, 1093, rfl⟩
abbrev main_v601 : Ref sig .tc := ⟨.hbm, 1094, rfl⟩
abbrev main_v602 : Ref sig .tc := ⟨.hbm, 1095, rfl⟩
abbrev main_cst_121 : Ref sig .tc := ⟨.hbm, 1096, rfl⟩
abbrev main_v603 : Ref sig .tc := ⟨.hbm, 1097, rfl⟩
abbrev main_cst_122 : Ref sig .tc := ⟨.hbm, 1098, rfl⟩
abbrev main_v604 : Ref sig .tc := ⟨.hbm, 1099, rfl⟩
abbrev main_v605 : Ref sig .tc := ⟨.hbm, 1100, rfl⟩
abbrev main_v606 : Ref sig .tc := ⟨.hbm, 1101, rfl⟩
abbrev main_v607 : Ref sig .tc := ⟨.hbm, 1102, rfl⟩
abbrev main_v608 : Ref sig .tc := ⟨.hbm, 1103, rfl⟩
abbrev main_v609 : Ref sig .tc := ⟨.hbm, 1104, rfl⟩
abbrev main_cst_123 : Ref sig .tc := ⟨.hbm, 1105, rfl⟩
abbrev main_v610 : Ref sig .tc := ⟨.hbm, 1106, rfl⟩
abbrev main_v611 : Ref sig .tc := ⟨.hbm, 1107, rfl⟩
abbrev main_v612 : Ref sig .tc := ⟨.hbm, 1108, rfl⟩
abbrev main_v613 : Ref sig .tc := ⟨.hbm, 1109, rfl⟩
abbrev main_v614 : Ref sig .tc := ⟨.hbm, 1110, rfl⟩
abbrev main_v615 : Ref sig .tc := ⟨.hbm, 1111, rfl⟩
abbrev main_v616 : Ref sig .tc := ⟨.hbm, 1112, rfl⟩
abbrev main_cst_124 : Ref sig .tc := ⟨.hbm, 1113, rfl⟩
abbrev main_v617 : Ref sig .tc := ⟨.hbm, 1114, rfl⟩
abbrev main_v618 : Ref sig .tc := ⟨.hbm, 1115, rfl⟩
abbrev main_call34_c : Ref sig .tc := ⟨.hbm, 1116, rfl⟩
abbrev main_call34_v0 : Ref sig .tc := ⟨.hbm, 1117, rfl⟩
abbrev main_call34_v1 : Ref sig .tc := ⟨.hbm, 1118, rfl⟩
abbrev main_call34_c_0 : Ref sig .tc := ⟨.hbm, 1119, rfl⟩
abbrev main_call34_v2 : Ref sig .tc := ⟨.hbm, 1120, rfl⟩
abbrev main_call34_v3 : Ref sig .tc := ⟨.hbm, 1121, rfl⟩
abbrev main_call34_v4 : Ref sig .tc := ⟨.hbm, 1122, rfl⟩
abbrev main_call34_v5 : Ref sig .tc := ⟨.hbm, 1123, rfl⟩
abbrev main_call34_c_1 : Ref sig .tc := ⟨.hbm, 1124, rfl⟩
abbrev main_call34_c_2 : Ref sig .tc := ⟨.hbm, 1125, rfl⟩
abbrev main_call34_v6 : Ref sig .tc := ⟨.hbm, 1126, rfl⟩
abbrev main_call34_v7 : Ref sig .tc := ⟨.hbm, 1127, rfl⟩
abbrev main_call34_v8 : Ref sig .tc := ⟨.hbm, 1128, rfl⟩
abbrev main_call34_v9 : Ref sig .tc := ⟨.hbm, 1129, rfl⟩
abbrev main_call34_v10 : Ref sig .tc := ⟨.hbm, 1130, rfl⟩
abbrev main_call34_v11 : Ref sig .tc := ⟨.hbm, 1131, rfl⟩
abbrev main_call34_c_3 : Ref sig .tc := ⟨.hbm, 1132, rfl⟩
abbrev main_call34_v12 : Ref sig .tc := ⟨.hbm, 1133, rfl⟩
abbrev main_call34_v13 : Ref sig .tc := ⟨.hbm, 1134, rfl⟩
abbrev main_call34_cst : Ref sig .tc := ⟨.hbm, 1135, rfl⟩
abbrev main_call34_v14 : Ref sig .tc := ⟨.hbm, 1136, rfl⟩
abbrev main_v619 : Ref sig .tc := ⟨.hbm, 1137, rfl⟩
abbrev main_v620 : Ref sig .tc := ⟨.hbm, 1138, rfl⟩
abbrev main_v621 : Ref sig .tc := ⟨.hbm, 1139, rfl⟩
abbrev main_v622 : Ref sig .tc := ⟨.hbm, 1140, rfl⟩
abbrev main_v623 : Ref sig .tc := ⟨.hbm, 1141, rfl⟩
abbrev main_v624 : Ref sig .tc := ⟨.hbm, 1142, rfl⟩
abbrev main_v625 : Ref sig .tc := ⟨.hbm, 1143, rfl⟩
abbrev main_v626 : Ref sig .tc := ⟨.hbm, 1144, rfl⟩
abbrev main_v627 : Ref sig .tc := ⟨.hbm, 1145, rfl⟩
abbrev main_v628 : Ref sig .tc := ⟨.hbm, 1146, rfl⟩
abbrev main_v629 : Ref sig .tc := ⟨.hbm, 1147, rfl⟩
abbrev main_v630 : Ref sig .tc := ⟨.hbm, 1148, rfl⟩
abbrev main_v631 : Ref sig .tc := ⟨.hbm, 1149, rfl⟩
abbrev main_v632 : Ref sig .tc := ⟨.hbm, 1150, rfl⟩
abbrev main_v633 : Ref sig .tc := ⟨.hbm, 1151, rfl⟩
abbrev main_cst_125 : Ref sig .tc := ⟨.hbm, 1152, rfl⟩
abbrev main_v634 : Ref sig .tc := ⟨.hbm, 1153, rfl⟩
abbrev main_v635 : Ref sig .tc := ⟨.hbm, 1154, rfl⟩
abbrev main_cst_126 : Ref sig .tc := ⟨.hbm, 1155, rfl⟩
abbrev main_v636 : Ref sig .tc := ⟨.hbm, 1156, rfl⟩
abbrev main_v637 : Ref sig .tc := ⟨.hbm, 1157, rfl⟩
abbrev main_c_127 : Ref sig .tc := ⟨.hbm, 1158, rfl⟩
abbrev main_call35_cst : Ref sig .tc := ⟨.hbm, 1159, rfl⟩
abbrev main_call35_v0 : Ref sig .tc := ⟨.hbm, 1160, rfl⟩
abbrev main_call35_v1 : Ref sig .tc := ⟨.hbm, 1161, rfl⟩
abbrev main_call35_cst_0 : Ref sig .tc := ⟨.hbm, 1162, rfl⟩
abbrev main_call35_v2 : Ref sig .tc := ⟨.hbm, 1163, rfl⟩
abbrev main_call35_v3 : Ref sig .tc := ⟨.hbm, 1164, rfl⟩
abbrev main_call35_v4 : Ref sig .tc := ⟨.hbm, 1165, rfl⟩
abbrev main_call35_v5 : Ref sig .tc := ⟨.hbm, 1166, rfl⟩
abbrev main_call35_v6 : Ref sig .tc := ⟨.hbm, 1167, rfl⟩
abbrev main_call35_v7 : Ref sig .tc := ⟨.hbm, 1168, rfl⟩
abbrev main_call35_cst_1 : Ref sig .tc := ⟨.hbm, 1169, rfl⟩
abbrev main_call35_v8 : Ref sig .tc := ⟨.hbm, 1170, rfl⟩
abbrev main_call35_cst_2 : Ref sig .tc := ⟨.hbm, 1171, rfl⟩
abbrev main_call35_v9 : Ref sig .tc := ⟨.hbm, 1172, rfl⟩
abbrev main_call35_v10 : Ref sig .tc := ⟨.hbm, 1173, rfl⟩
abbrev main_call35_v11 : Ref sig .tc := ⟨.hbm, 1174, rfl⟩
abbrev main_call35_v12 : Ref sig .tc := ⟨.hbm, 1175, rfl⟩
abbrev main_call35_cst_3 : Ref sig .tc := ⟨.hbm, 1176, rfl⟩
abbrev main_call35_v13 : Ref sig .tc := ⟨.hbm, 1177, rfl⟩
abbrev main_call35_cst_4 : Ref sig .tc := ⟨.hbm, 1178, rfl⟩
abbrev main_call35_call0_v0 : Ref sig .tc := ⟨.hbm, 1179, rfl⟩
abbrev main_call35_call0_v1 : Ref sig .tc := ⟨.hbm, 1180, rfl⟩
abbrev main_v638 : Ref sig .tc := ⟨.hbm, 1181, rfl⟩
abbrev main_v639 : Ref sig .tc := ⟨.hbm, 1182, rfl⟩
abbrev main_v640 : Ref sig .tc := ⟨.hbm, 1183, rfl⟩
abbrev main_cst_128 : Ref sig .tc := ⟨.hbm, 1184, rfl⟩
abbrev main_v641 : Ref sig .tc := ⟨.hbm, 1185, rfl⟩
abbrev main_v642 : Ref sig .tc := ⟨.hbm, 1186, rfl⟩
abbrev main_v643 : Ref sig .tc := ⟨.hbm, 1187, rfl⟩
abbrev main_v644 : Ref sig .tc := ⟨.hbm, 1188, rfl⟩
abbrev main_v645 : Ref sig .tc := ⟨.hbm, 1189, rfl⟩
abbrev main_v646 : Ref sig .tc := ⟨.hbm, 1190, rfl⟩
abbrev main_v647 : Ref sig .tc := ⟨.hbm, 1191, rfl⟩
abbrev main_v648 : Ref sig .tc := ⟨.hbm, 1192, rfl⟩
abbrev main_v649 : Ref sig .tc := ⟨.hbm, 1193, rfl⟩
abbrev main_v650 : Ref sig .tc := ⟨.hbm, 1194, rfl⟩
abbrev main_v651 : Ref sig .tc := ⟨.hbm, 1195, rfl⟩
abbrev main_v652 : Ref sig .tc := ⟨.hbm, 1196, rfl⟩
abbrev main_v653 : Ref sig .tc := ⟨.hbm, 1197, rfl⟩
abbrev main_v654 : Ref sig .tc := ⟨.hbm, 1198, rfl⟩
abbrev main_v655 : Ref sig .tc := ⟨.hbm, 1199, rfl⟩
abbrev main_cst_129 : Ref sig .tc := ⟨.hbm, 1200, rfl⟩
abbrev main_v656 : Ref sig .tc := ⟨.hbm, 1201, rfl⟩
abbrev main_v657 : Ref sig .tc := ⟨.hbm, 1202, rfl⟩
abbrev main_v658 : Ref sig .tc := ⟨.hbm, 1203, rfl⟩
abbrev main_cst_130 : Ref sig .tc := ⟨.hbm, 1204, rfl⟩
abbrev main_v659 : Ref sig .tc := ⟨.hbm, 1205, rfl⟩
abbrev main_v660 : Ref sig .tc := ⟨.hbm, 1206, rfl⟩
abbrev main_v661 : Ref sig .tc := ⟨.hbm, 1207, rfl⟩
abbrev main_v662 : Ref sig .tc := ⟨.hbm, 1208, rfl⟩
abbrev main_v663 : Ref sig .tc := ⟨.hbm, 1209, rfl⟩
abbrev main_v664 : Ref sig .tc := ⟨.hbm, 1210, rfl⟩
abbrev main_v665 : Ref sig .tc := ⟨.hbm, 1211, rfl⟩
abbrev main_v666 : Ref sig .tc := ⟨.hbm, 1212, rfl⟩
abbrev main_v667 : Ref sig .tc := ⟨.hbm, 1213, rfl⟩
abbrev main_v668 : Ref sig .tc := ⟨.hbm, 1214, rfl⟩
abbrev main_v669 : Ref sig .tc := ⟨.hbm, 1215, rfl⟩
abbrev main_v670 : Ref sig .tc := ⟨.hbm, 1216, rfl⟩
abbrev main_cst_131 : Ref sig .tc := ⟨.hbm, 1217, rfl⟩
abbrev main_v671 : Ref sig .tc := ⟨.hbm, 1218, rfl⟩
abbrev main_v672 : Ref sig .tc := ⟨.hbm, 1219, rfl⟩
abbrev main_cst_132 : Ref sig .tc := ⟨.hbm, 1220, rfl⟩
abbrev main_v673 : Ref sig .tc := ⟨.hbm, 1221, rfl⟩
abbrev main_v674 : Ref sig .tc := ⟨.hbm, 1222, rfl⟩
abbrev main_v675 : Ref sig .tc := ⟨.hbm, 1223, rfl⟩
abbrev main_v676 : Ref sig .tc := ⟨.hbm, 1224, rfl⟩
abbrev main_cst_133 : Ref sig .tc := ⟨.hbm, 1225, rfl⟩
abbrev main_v677 : Ref sig .tc := ⟨.hbm, 1226, rfl⟩
abbrev main_cst_134 : Ref sig .tc := ⟨.hbm, 1227, rfl⟩
abbrev main_v678 : Ref sig .tc := ⟨.hbm, 1228, rfl⟩
abbrev main_v679 : Ref sig .tc := ⟨.hbm, 1229, rfl⟩
abbrev main_v680 : Ref sig .tc := ⟨.hbm, 1230, rfl⟩
abbrev main_v681 : Ref sig .tc := ⟨.hbm, 1231, rfl⟩
abbrev main_v682 : Ref sig .tc := ⟨.hbm, 1232, rfl⟩
abbrev main_v683 : Ref sig .tc := ⟨.hbm, 1233, rfl⟩
abbrev main_cst_135 : Ref sig .tc := ⟨.hbm, 1234, rfl⟩
abbrev main_v684 : Ref sig .tc := ⟨.hbm, 1235, rfl⟩
abbrev main_v685 : Ref sig .tc := ⟨.hbm, 1236, rfl⟩
abbrev main_v686 : Ref sig .tc := ⟨.hbm, 1237, rfl⟩
abbrev main_v687 : Ref sig .tc := ⟨.hbm, 1238, rfl⟩
abbrev main_v688 : Ref sig .tc := ⟨.hbm, 1239, rfl⟩
abbrev main_v689 : Ref sig .tc := ⟨.hbm, 1240, rfl⟩

abbrev nD : Nat := 1
abbrev τ : Topo := Topo.v7x

variable {F : FTy → Type} [FloatOps F]
-- ==== Proof.Spec.lean ====
module

public import Idealize.ShloMosaic.Lib.Pointwise
public import Idealize.ShloMosaic.Lib.IdealHost

@[expose] public section

noncomputable section

/-! The mathematics of one modality and one batch entry, over the extended reals: the scores of the 576
tokens, the logits of a token for each of the 115 aggregated tokens, and the two weighted sums as the kernel
writes them (over all tokens, the dropped ones masked) and as the reference writes them (over the tokens in
sorted order, the first 288 kept). -/

namespace Cert.Spec

open Idealize.ShloMosaic
open scoped BigOperators

/-- An f32 literal of the two programs, as an extended real. -/
abbrev lit (b : BitVec 32) : EReal := Ideal.ofBits .f32 b

/-- The length a vector is divided by: its Euclidean norm, kept away from zero. -/
def den (v : Fin 512 → EReal) : EReal := max (Ideal.sqrt (∑ k, v k * v k)) (lit 0x2B8CBCCC#32)

/-- The cosine of two vectors of 512 entries. -/
def cosv (x g : Fin 512 → EReal) : EReal := ∑ k, Ideal.div (x k) (den x) * Ideal.div (g k) (den g)

/-- The exact GELU, by the error function. -/
def gelu (v : EReal) : EReal :=
  lit 0x3F000000#32 * v * (1 + Ideal.erf (v * lit 0x3F3504F3#32))

/-- The parameters of one modality: the score predictor's two layers, then the aggregation's LayerNorm, its
two layers and its scale. -/
structure Par where
  w1 : Fin 512 → Fin 128 → EReal
  b1 : Fin 128 → EReal
  w2 : Fin 128 → EReal
  b2 : EReal
  lg : Fin 512 → EReal
  lb : Fin 512 → EReal
  a1 : Fin 512 → Fin 102 → EReal
  c1 : Fin 102 → EReal
  a2 : Fin 102 → Fin 115 → EReal
  c2 : Fin 115 → EReal
  sc : EReal

/-- The predicted score of a token. -/
def pred (p : Par) (v : Fin 512 → EReal) : EReal :=
  Ideal.logistic ((∑ h, gelu ((∑ c, v c * p.w1 c h) + p.b1 h) * p.w2 h) + p.b2)

/-- The least of 576 scores. -/
def vmin (s : Fin 576 → EReal) : EReal := Finset.univ.fold min (lit 0x7F800000#32) s

/-- The greatest of 576 scores. -/
def vmax (s : Fin 576 → EReal) : EReal := Finset.univ.fold max (lit 0xFF800000#32) s

/-- The scores rescaled between their least and their greatest. -/
def minmax (s : Fin 576 → EReal) (n : Fin 576) : EReal :=
  Ideal.div (s n - vmin s) (vmax s - vmin s + lit 0x322BCC77#32)

/-- The score of a token: half its predicted score, and a quarter of its three rescaled cosines. -/
def score (p : Par) (x : Fin 576 → Fin 512 → EReal) (g1 g2 g3 : Fin 512 → EReal) (n : Fin 576) : EReal :=
  lit 0x3F000000#32 * pred p (x n) + lit 0x3E800000#32 *
    (minmax (fun i => cosv (x i) g2) n + minmax (fun i => cosv (x i) g3) n
      + lit 0x40000000#32 * minmax (fun i => cosv (x i) g1) n)

/-- Token `j` comes before token `n` in the descending stable order of the scores. -/
def beats (s : Fin 576 → EReal) (j n : Fin 576) : Prop := s n < s j ∨ (s j = s n ∧ j < n)

open Classical in
/-- How many tokens come before token `n`. -/
def rank (s : Fin 576 → EReal) (n : Fin 576) : ℕ := (Finset.univ.filter fun j => beats s j n).card

/-- One for a token that is dropped, zero for one that is kept. -/
def nk (s : Fin 576 → EReal) (n : Fin 576) : EReal := if rank s n < 288 then 0 else 1

/-- The mean of a vector. -/
def mean (v : Fin 512 → EReal) : EReal := Ideal.div (∑ c, v c) (lit 0x44000000#32)

/-- The variance of a vector. -/
def var (v : Fin 512 → EReal) : EReal :=
  Ideal.div (∑ c, (v c - mean v) * (v c - mean v)) (lit 0x44000000#32)

/-- The vector, centred and divided by its standard deviation. -/
def nrm (v : Fin 512 → EReal) (c : Fin 512) : EReal :=
  Ideal.div (v c - mean v) (Ideal.sqrt (var v + lit 0x3727C5AC#32))

/-- The logit of a token for the aggregated token `k`. -/
def logit (p : Par) (v : Fin 512 → EReal) (k : Fin 115) : EReal :=
  ((∑ h, gelu ((∑ c, (nrm v c * p.lg c + p.lb c) * p.a1 c h) + p.c1 h) * p.a2 h k) + p.c2 k) * p.sc

/-- The greatest of finitely many values, from minus infinity. -/
def top {n : ℕ} (f : Fin n → EReal) : EReal := Finset.univ.fold max (lit 0xFF800000#32) f

/-- The softmax weight of entry `i`. -/
def soft {n : ℕ} (f : Fin n → EReal) (i : Fin n) : EReal :=
  Ideal.div (Ideal.exp (f i - top f)) (∑ j, Ideal.exp (f j - top f))

/-- The kernel's aggregated token: a softmax over all tokens, the dropped ones' logits at minus infinity. -/
def aggrK (s : Fin 576 → EReal) (l : Fin 576 → EReal) (y : Fin 576 → EReal) : EReal :=
  ∑ n, soft (fun i => l i - nk s i * ⊤) n * y n

/-- The greatest score of a dropped token. -/
def topDrop (s : Fin 576 → EReal) : EReal := top fun n => if 0 < nk s n then s n else ⊥

/-- The kernel's extra token: the dropped tokens weighted by their scores' softmax. -/
def extraK (s : Fin 576 → EReal) (y : Fin 576 → EReal) : EReal :=
  ∑ n, Ideal.div (Ideal.exp (s n - topDrop s) * nk s n)
    (∑ j, Ideal.exp (s j - topDrop s) * nk s j) * y n

end Cert.Spec
-- ==== Proof.RDef.lean ====
module

public import proofs.«01_k».proof.Proof.Spec
public import proofs.«01_k».proof.Proof.Gen.ReferenceIdeal

@[expose] public section

set_option maxRecDepth 8192

noncomputable section

/-! The stages of the reference, as functions of the arrays they read: one modality, all 64 batch entries. -/

namespace Cert.RRow

open Idealize.ShloMosaic Cert.ReferenceIdeal Cert.ReferenceIdeal.Gen Cert.Spec
open scoped BigOperators

/-- The cosine of every token with its batch entry's global vector. -/
def cosR (X : FVec Ideal S64x576x512 .f32) (G : FVec Ideal S64x512 .f32) : FVec Ideal S64x576 .f32 :=
  Host.reduceAdd (mulf
    (Host.divf X (broadcastInDim S64x576x512 ![0, 1, 2] bcast_S64x576x1_S64x576x512_0_1_2
      (maximumf (Host.sqrt (broadcastInDim S64x576x1 ![0, 1] bcast_S64x576_S64x576x1_0_1
        (Host.reduceAdd (mulf X X) (constant S_ .f32 0x00000000#32) reducesTo_S64x576x512_S64x576_d2 h_S_)))
        (broadcastInDim S64x576x1 ![] bcast_S_S64x576x1 (constant S_ .f32 0x2B8CBCCC#32)))))
    (broadcastInDim S64x576x512 ![0, 1, 2] bcast_S64x1x512_S64x576x512_0_1_2
      (broadcastInDim S64x1x512 ![0, 2] bcast_S64x512_S64x1x512_0_2
        (Host.divf G (broadcastInDim S64x512 ![0, 1] bcast_S64x1_S64x512_0_1
          (maximumf (Host.sqrt (broadcastInDim S64x1 ![0] bcast_S64_S64x1_0
            (Host.reduceAdd (mulf G G) (constant S_ .f32 0x00000000#32) reducesTo_S64x512_S64_d1 h_S_)))
            (broadcastInDim S64x1 ![] bcast_S_S64x1 (constant S_ .f32 0x2B8CBCCC#32))))))))
    (constant S_ .f32 0x00000000#32) reducesTo_S64x576x512_S64x576_d2 h_S_

/-- Each batch entry's least score. -/
def minR (s : FVec Ideal S64x576 .f32) : FVec Ideal S64x1 .f32 :=
  broadcastInDim S64x1 ![0] bcast_S64_S64x1_0
    (Host.reduce FloatOps.minimumf s (constant S_ .f32 0x7F800000#32) reducesTo_S64x576_S64_d1 h_S_)

/-- The scores rescaled between their least and their greatest. -/
def mmR (s : FVec Ideal S64x576 .f32) : FVec Ideal S64x576 .f32 :=
  Host.divf (subf s (broadcastInDim S64x576 ![0, 1] bcast_S64x1_S64x576_0_1 (minR s)))
    (broadcastInDim S64x576 ![0, 1] bcast_S64x1_S64x576_0_1
      (addf (subf (broadcastInDim S64x1 ![0] bcast_S64_S64x1_0
        (Host.reduce FloatOps.maximumf s (constant S_ .f32 0xFF800000#32) reducesTo_S64x576_S64_d1 h_S_)) (minR s))
        (broadcastInDim S64x1 ![] bcast_S_S64x1 (constant S_ .f32 0x322BCC77#32))))

/-- The score predictor's first layer. -/
def hidR (X : FVec Ideal S64x576x512 .f32) (W1 : FVec Ideal S512x128 .f32) (B1 : FVec Ideal S128 .f32) :
    FVec Ideal S64x576x128 .f32 :=
  addf (Host.dotGeneral dot_S64x576x512_S512x128_S64x576x128_2_0_01_1_n_n none X W1)
    (broadcastInDim S64x576x128 ![0, 1, 2] bcast_S1x1x128_S64x576x128_0_1_2
      (broadcastInDim S1x1x128 ![2] bcast_S128_S1x1x128_2 B1))

/-- The predicted score. -/
def predR (H : FVec Ideal S64x576x128 .f32) (W2 : FVec Ideal S128x1 .f32) (B2 : FVec Ideal S1 .f32) :
    FVec Ideal S64x576 .f32 :=
  shapeCast _ (Host.divf (broadcastInDim S64x576x1 ![] bcast_S_S64x576x1 (constant S_ .f32 0x3F800000#32))
    (addf (broadcastInDim S64x576x1 ![] bcast_S_S64x576x1 (constant S_ .f32 0x3F800000#32))
      (Host.exp (Host.negf (addf (Host.dotGeneral dot_S64x576x128_S128x1_S64x576x1_2_0_01_1_n_n none
        (mulf (mulf (broadcastInDim S64x576x128 ![] bcast_S_S64x576x128 (constant S_ .f32 0x3F000000#32)) H)
          (Host.erfc (mulf (Host.negf H)
            (broadcastInDim S64x576x128 ![] bcast_S_S64x576x128 (constant S_ .f32 0x3F3504F3#32))))) W2)
        (broadcastInDim S64x576x1 ![0, 1, 2] bcast_S1x1x1_S64x576x1_0_1_2
          (broadcastInDim S1x1x1 ![2] bcast_S1_S1x1x1_2 B2))))))) shapeCasts_S64x576x1_S64x576

/-- The score, from the predicted score and the three cosines. -/
def scoreR (P s1 s2 s3 : FVec Ideal S64x576 .f32) : FVec Ideal S64x576 .f32 :=
  addf (mulf (broadcastInDim S64x576 ![] bcast_S_S64x576 (constant S_ .f32 0x3F000000#32)) P)
    (mulf (broadcastInDim S64x576 ![] bcast_S_S64x576 (constant S_ .f32 0x3E800000#32))
      (addf (addf (mmR s2) (mmR s3))
        (mulf (broadcastInDim S64x576 ![] bcast_S_S64x576 (constant S_ .f32 0x40000000#32)) (mmR s1))))

/-- The tokens' positions in descending order of the scores. -/
def ordR (s : FVec Ideal S64x576 .f32) : IVec S64x576 32 :=
  (Host.sort2 S64x576 1 comparator_f32_i32_d1 (Host.negf s) (iotaInDim S64x576 32 1)).2

/-- The kept tokens' positions. -/
def keepR (o : IVec S64x576 32) : IVec S64x288 32 :=
  extractStridedSlice S64x288 ![0, 0] o slices_S64x576_S64x288_0_0

/-- The dropped tokens' positions. -/
def dropR (o : IVec S64x576 32) : IVec S64x288 32 :=
  extractStridedSlice S64x288 ![0, 288] o slices_S64x576_S64x288_0_288

/-- The positions as a column, a negative one counted from the end. -/
def wrapR (p : IVec S64x288 32) : IVec S64x288x1 32 :=
  let q := broadcastInDim S64x288x1 ![0, 1] bcast_S64x288_S64x288x1_0_1 p
  select (cmpi .slt q (broadcastInDim S64x288x1 ![] bcast_S_S64x288x1 (constantI S_ 32 0#32)))
    (addi q (broadcastInDim S64x288x1 ![] bcast_S_S64x288x1 (constantI S_ 32 576#32))) q

/-- The same, wrapped before it is made a column. -/
def wrapR' (p : IVec S64x288 32) : IVec S64x288x1 32 :=
  shapeCast _ (select (cmpi .slt p (broadcastInDim S64x288 ![] bcast_S_S64x288 (constantI S_ 32 0#32)))
    (addi p (broadcastInDim S64x288 ![] bcast_S_S64x288 (constantI S_ 32 576#32))) p) shapeCasts_S64x288_S64x288x1

/-- All positions, wrapped and made a column. -/
def wrapAll (p : IVec S64x576 32) : IVec S64x576x1 32 :=
  shapeCast _ (select (cmpi .slt p (broadcastInDim S64x576 ![] bcast_S_S64x576 (constantI S_ 32 0#32)))
    (addi p (broadcastInDim S64x576 ![] bcast_S_S64x576 (constantI S_ 32 576#32))) p) shapeCasts_S64x576_S64x576x1

/-- Which of the 288 positions lie in range. -/
def okR (q : IVec S64x288x1 32) : IVec S64x288 1 :=
  Host.reduce IntOp.andi (andi
    (cmpi .sge q (broadcastInDim S64x288x1 ![] bcast_S_S64x288x1 (constantI S_ 32 0#32)))
    (cmpi .sle q (broadcastInDim S64x288x1 ![0, 1, 2] bcast_S1x1x1_S64x288x1_0_1_2
      (broadcastInDim S1x1x1 ![2] bcast_S1_S1x1x1_2 (constantI S1 32 575#32)))))
    (constantI S_ 1 1#1) reducesTo_S64x288x1_S64x288_d2 h_S_

/-- Which of all 576 positions lie in range. -/
def okAll (q : IVec S64x576x1 32) : IVec S64x576 1 :=
  Host.reduce IntOp.andi (andi
    (cmpi .sge q (broadcastInDim S64x576x1 ![] bcast_S_S64x576x1 (constantI S_ 32 0#32)))
    (cmpi .sle q (broadcastInDim S64x576x1 ![0, 1, 2] bcast_S1x1x1_S64x576x1_0_1_2
      (broadcastInDim S1x1x1 ![2] bcast_S1_S1x1x1_2 (constantI S1 32 575#32)))))
    (constantI S_ 1 1#1) reducesTo_S64x576x1_S64x576_d2 h_S_

/-- The tokens at the given positions. -/
def takeTok (X : FVec Ideal S64x576x512 .f32) (q : IVec S64x288x1 32) : FVec Ideal S64x288x512 .f32 :=
  select (broadcastInDim S64x288x512 ![0, 1] bcast_S64x288_S64x288x512_0_1 (okR q))
    (Host.gather gather_S64x576x512_S64x288x1_S64x288x512_2_1_0_0_1_2_11512 X q)
    (broadcastInDim S64x288x512 ![] bcast_S_S64x288x512 (constant S_ .f32 0x7FC00000#32))

/-- The scores in sorted order. -/
def takeAll (s : FVec Ideal S64x576 .f32) (q : IVec S64x576x1 32) : FVec Ideal S64x576 .f32 :=
  select (okAll q) (Host.gather gather_S64x576_S64x576x1_S64x576_n_1_0_0_1_2_11 s q)
    (broadcastInDim S64x576 ![] bcast_S_S64x576 (constant S_ .f32 0x7FC00000#32))

/-- The dropped tokens' scores. -/
def dropScore (s : FVec Ideal S64x576 .f32) (o : IVec S64x576 32) : FVec Ideal S64x288 .f32 :=
  extractStridedSlice S64x288 ![0, 288] (takeAll s (wrapAll o)) slices_S64x576_S64x288_0_288

/-- The unnormalised softmax weights of 288 scores. -/
def expR (s : FVec Ideal S64x288 .f32) : FVec Ideal S64x288 .f32 :=
  Host.exp (subf s (broadcastInDim S64x288 ![0, 1] bcast_S64x1_S64x288_0_1
    (broadcastInDim S64x1 ![0] bcast_S64_S64x1_0
      (maximumf (broadcastInDim S64 ![] bcast_S_S64 (constant S_ .f32 0xFF800000#32))
        (Host.reduce FloatOps.maximumf s (constant S_ .f32 0xFF800000#32) reducesTo_S64x288_S64_d1 h_S_)))))

/-- The extra token. -/
def extraR (Y : FVec Ideal S64x288x512 .f32) (E : FVec Ideal S64x288 .f32) : FVec Ideal S64x1x512 .f32 :=
  broadcastInDim S64x1x512 ![0, 2] bcast_S64x512_S64x1x512_0_2
    (Host.reduceAdd (mulf Y (broadcastInDim S64x288x512 ![0, 1, 2] bcast_S64x288x1_S64x288x512_0_1_2
      (broadcastInDim S64x288x1 ![0, 1] bcast_S64x288_S64x288x1_0_1
        (Host.divf E (broadcastInDim S64x288 ![0, 1] bcast_S64x1_S64x288_0_1
          (broadcastInDim S64x1 ![0] bcast_S64_S64x1_0
            (Host.reduceAdd E (constant S_ .f32 0x00000000#32) reducesTo_S64x288_S64_d1 h_S_)))))))
      (constant S_ .f32 0x00000000#32) reducesTo_S64x288x512_S64x512_d1 h_S_)

/-- The kept tokens' means. -/
def meanR (Y : FVec Ideal S64x288x512 .f32) : FVec Ideal S64x288x1 .f32 :=
  Host.divf (broadcastInDim S64x288x1 ![0, 1] bcast_S64x288_S64x288x1_0_1
    (Host.reduceAdd Y (constant S_ .f32 0x00000000#32) reducesTo_S64x288x512_S64x288_d2 h_S_))
    (broadcastInDim S64x288x1 ![] bcast_S_S64x288x1 (constant S_ .f32 0x44000000#32))

/-- The kept tokens, centred. -/
def cenR (Y : FVec Ideal S64x288x512 .f32) : FVec Ideal S64x288x512 .f32 :=
  subf Y (broadcastInDim S64x288x512 ![0, 1, 2] bcast_S64x288x1_S64x288x512_0_1_2 (meanR Y))

/-- The number of entries the variance divides by. -/
def cntR : FVec Ideal S_ .f32 := subf (constant S_ .f32 0x44000000#32) (sitofp .f32 (constantI S_ 32 0#32))

/-- The kept tokens' variances. -/
def varR (Y : FVec Ideal S64x288x512 .f32) : FVec Ideal S64x288x1 .f32 :=
  select (broadcastInDim S64x288x1 ![] bcast_S_S64x288x1 (cmpf .ogt cntR (constant S_ .f32 0x00000000#32)))
    (Host.divf (broadcastInDim S64x288x1 ![0, 1] bcast_S64x288_S64x288x1_0_1
      (Host.reduceAdd (mulf (cenR Y) (cenR Y)) (constant S_ .f32 0x00000000#32) reducesTo_S64x288x512_S64x288_d2 h_S_))
      (broadcastInDim S64x288x1 ![] bcast_S_S64x288x1 cntR))
    (broadcastInDim S64x288x1 ![] bcast_S_S64x288x1 (id (constant S_ .f32 0x7FC00000#32)))

/-- The kept tokens, normalised. -/
def nrmR (Y : FVec Ideal S64x288x512 .f32) : FVec Ideal S64x288x512 .f32 :=
  Host.divf (cenR Y) (broadcastInDim S64x288x512 ![0, 1, 2] bcast_S64x288x1_S64x288x512_0_1_2
    (Host.sqrt (addf (varR Y) (broadcastInDim S64x288x1 ![] bcast_S_S64x288x1 (constant S_ .f32 0x3727C5AC#32)))))

/-- The aggregation's first layer, after the LayerNorm. -/
def hid2R (Y : FVec Ideal S64x288x512 .f32) (LG LB : FVec Ideal S512 .f32) (A1 : FVec Ideal S512x102 .f32)
    (C1 : FVec Ideal S102 .f32) : FVec Ideal S64x288x102 .f32 :=
  addf (Host.dotGeneral dot_S64x288x512_S512x102_S64x288x102_2_0_01_1_n_n none
    (addf (mulf (nrmR Y) (broadcastInDim S64x288x512 ![0, 1, 2] bcast_S1x1x512_S64x288x512_0_1_2
      (broadcastInDim S1x1x512 ![2] bcast_S512_S1x1x512_2 LG)))
      (broadcastInDim S64x288x512 ![0, 1, 2] bcast_S1x1x512_S64x288x512_0_1_2
        (broadcastInDim S1x1x512 ![2] bcast_S512_S1x1x512_2 LB))) A1)
    (broadcastInDim S64x288x102 ![0, 1, 2] bcast_S1x1x102_S64x288x102_0_1_2
      (broadcastInDim S1x1x102 ![2] bcast_S102_S1x1x102_2 C1))

/-- The scaled logits, one row per aggregated token. -/
def logR (H : FVec Ideal S64x288x102 .f32) (A2 : FVec Ideal S102x115 .f32) (C2 : FVec Ideal S115 .f32)
    (SC : FVec Ideal S1x1x1 .f32) : FVec Ideal S64x115x288 .f32 :=
  mulf (transpose S64x115x288 [0, 2, 1]
    (addf (Host.dotGeneral dot_S64x288x102_S102x115_S64x288x115_2_0_01_1_n_n none
      (mulf (mulf (broadcastInDim S64x288x102 ![] bcast_S_S64x288x102 (constant S_ .f32 0x3F000000#32)) H)
        (Host.erfc (mulf (Host.negf H)
          (broadcastInDim S64x288x102 ![] bcast_S_S64x288x102 (constant S_ .f32 0x3F3504F3#32))))) A2)
      (broadcastInDim S64x288x115 ![0, 1, 2] bcast_S1x1x115_S64x288x115_0_1_2
        (broadcastInDim S1x1x115 ![2] bcast_S115_S1x1x115_2 C2))) transposes_S64x288x115_S64x115x288_0_2_1)
    (broadcastInDim S64x115x288 ![0, 1, 2] bcast_S1x1x1_S64x115x288_0_1_2 SC)

/-- The batch entries' numbers, a negative one counted from the end. -/
def rowsR : IVec S64x1 32 :=
  let q := broadcastInDim S64x1 ![0] bcast_S64_S64x1_0 (iotaInDim S64 32 0)
  select (cmpi .slt q (broadcastInDim S64x1 ![] bcast_S_S64x1 (constantI S_ 32 0#32)))
    (addi q (broadcastInDim S64x1 ![] bcast_S_S64x1 (constantI S_ 32 64#32))) q

/-- The places the mask is set at: batch entry and position. -/
def atR (p : IVec S64x288 32) : IVec S64x288x2 32 :=
  concatenate S64x288x2 2 [⟨S64x288x1, (broadcastInDim S64x288x1 ![0, 1] bcast_S64x288_S64x288x1_0_1
      (broadcastInDim S64x288 ![0, 1] bcast_S64x1_S64x288_0_1 rowsR))⟩,
    ⟨S64x288x1, (broadcastInDim S64x288x1 ![0, 1] bcast_S64x288_S64x288x1_0_1
      (select (cmpi .slt p (broadcastInDim S64x288 ![] bcast_S_S64x288 (constantI S_ 32 0#32)))
        (addi p (broadcastInDim S64x288 ![] bcast_S_S64x288 (constantI S_ 32 576#32))) p))⟩]
    concatenates_S64x288x1_S64x288x1_S64x288x2_d2

/-- The mask: one at every kept token. -/
def maskR (p : IVec S64x288 32) : FVec Ideal S64x576 .f32 :=
  Host.scatter scatter_S64x576_S64x288x2_S64x288_n_01_01_2 (fun _ b => b)
    (broadcastInDim S64x576 ![] bcast_S_S64x576 (constant S_ .f32 0x00000000#32)) (atR p)
    (broadcastInDim S64x288 ![] bcast_S_S64x288 (constant S_ .f32 0x3F800000#32))

/-- The mask read at the kept tokens. -/
def selR (p : IVec S64x288 32) : FVec Ideal S64x288 .f32 :=
  select (okR (wrapR' p)) (Host.gather gather_S64x576_S64x288x1_S64x288_n_1_0_0_1_2_11 (maskR p) (wrapR' p))
    (broadcastInDim S64x288 ![] bcast_S_S64x288 (constant S_ .f32 0x7FC00000#32))

/-- The masked logits. -/
def mlogR (L : FVec Ideal S64x115x288 .f32) (M : FVec Ideal S64x288 .f32) : FVec Ideal S64x115x288 .f32 :=
  subf L (broadcastInDim S64x115x288 ![0, 1, 2] bcast_S64x1x288_S64x115x288_0_1_2
    (mulf (subf (broadcastInDim S64x1x288 ![] bcast_S_S64x1x288 (constant S_ .f32 0x3F800000#32))
      (broadcastInDim S64x1x288 ![0, 2] bcast_S64x288_S64x1x288_0_2 M))
      (broadcastInDim S64x1x288 ![] bcast_S_S64x1x288 (constant S_ .f32 0x501502F9#32))))

/-- The unnormalised weights of the aggregation. -/
def exp2R (L : FVec Ideal S64x115x288 .f32) : FVec Ideal S64x115x288 .f32 :=
  Host.exp (subf L (broadcastInDim S64x115x288 ![0, 1, 2] bcast_S64x115x1_S64x115x288_0_1_2
    (broadcastInDim S64x115x1 ![0, 1] bcast_S64x115_S64x115x1_0_1
      (maximumf (broadcastInDim S64x115 ![] bcast_S_S64x115 (constant S_ .f32 0xFF800000#32))
        (Host.reduce FloatOps.maximumf L (constant S_ .f32 0xFF800000#32) reducesTo_S64x115x288_S64x115_d2 h_S_)))))

/-- The aggregated tokens. -/
def aggrR (Y : FVec Ideal S64x288x512 .f32) (E : FVec Ideal S64x115x288 .f32) : FVec Ideal S64x115x512 .f32 :=
  Host.dotGeneral dot_S64x115x288_S64x288x512_S64x115x512_2_1_1_2_0_0 none
    (Host.divf E (broadcastInDim S64x115x288 ![0, 1, 2] bcast_S64x115x1_S64x115x288_0_1_2
      (broadcastInDim S64x115x1 ![0, 1] bcast_S64x115_S64x115x1_0_1
        (Host.reduceAdd E (constant S_ .f32 0x00000000#32) reducesTo_S64x115x288_S64x115_d2 h_S_)))) Y

/-- One modality's result. -/
def outR (X : FVec Ideal S64x576x512 .f32) (G1 G2 G3 : FVec Ideal S64x512 .f32) (W1 : FVec Ideal S512x128 .f32)
    (B1 : FVec Ideal S128 .f32) (W2 : FVec Ideal S128x1 .f32) (B2 : FVec Ideal S1 .f32) (LG LB : FVec Ideal S512 .f32)
    (A1 : FVec Ideal S512x102 .f32) (C1 : FVec Ideal S102 .f32) (A2 : FVec Ideal S102x115 .f32)
    (C2 : FVec Ideal S115 .f32) (SC : FVec Ideal S1x1x1 .f32) : FVec Ideal S64x116x512 .f32 :=
  let s := scoreR (predR (hidR X W1 B1) W2 B2) (cosR X G1) (cosR X G2) (cosR X G3)
  let o := ordR s
  let Y := takeTok X (wrapR (keepR o))
  concatenate S64x116x512 1
    [⟨S64x115x512, aggrR Y (exp2R (mlogR (logR (hid2R Y LG LB A1 C1) A2 C2 SC) (selR (keepR o))))⟩,
     ⟨S64x1x512, extraR (takeTok X (wrapR (dropR o))) (expR (dropScore s o))⟩]
    concatenates_S64x115x512_S64x1x512_S64x116x512_d1

end Cert.RRow
-- ==== Proof.REq.lean ====
module

public import proofs.«01_k».proof.Proof.RDef
public import proofs.«01_k».proof.Proof.Gen.ReferenceIdeal.Run

@[expose] public section

set_option maxRecDepth 8192

noncomputable section

/-! The reference's results are the stages of `RDef` at its arguments. -/

namespace Cert.RRow

open Idealize.ShloMosaic Cert.ReferenceIdeal Cert.ReferenceIdeal.Gen Cert.ReferenceIdeal.Value Cert.Spec
open Idealize.ShloMosaic.TcCoe Idealize.SL.Sem Idealize.ShloMosaic.StableHlo

variable (V0 : Valuation τ sig (Elt Ideal))

/-- Modality 0: the cosines with its own global vector. -/
theorem cosa0 : res_main_v13 V0 =
    cosR (V0 (Proc.devRef .tc main_arg0)) (V0 (Proc.devRef .tc main_arg3)) := rfl

/-- Modality 0: the cosines with the first other global vector. -/
theorem cosb0 : res_main_v27 V0 =
    cosR (V0 (Proc.devRef .tc main_arg0)) (V0 (Proc.devRef .tc main_arg4)) := rfl

/-- Modality 0: the cosines with the second other global vector. -/
theorem cosc0 : res_main_v41 V0 =
    cosR (V0 (Proc.devRef .tc main_arg0)) (V0 (Proc.devRef .tc main_arg5)) := rfl

/-- Modality 0: the predictor's first layer. -/
theorem hid0 : res_main_v53 V0 =
    hidR (V0 (Proc.devRef .tc main_arg0)) (shapeCast _ (extractStridedSlice S1x512x128 ![0, 0, 0] (V0 (Proc.devRef .tc main_arg6)) slices_S3x512x128_S1x512x128_0_0_0) shapeCasts_S1x512x128_S512x128) (shapeCast _ (extractStridedSlice S1x128 ![0, 0] (V0 (Proc.devRef .tc main_arg7)) slices_S3x128_S1x128_0_0) shapeCasts_S1x128_S128) := rfl

/-- Modality 0: the scores. -/
theorem score0 : res_main_v113 V0 =
    scoreR (predR (res_main_v53 V0) (shapeCast _ (extractStridedSlice S1x128x1 ![0, 0, 0] (V0 (Proc.devRef .tc main_arg8)) slices_S3x128x1_S1x128x1_0_0_0) shapeCasts_S1x128x1_S128x1) (shapeCast _ (extractStridedSlice S1x1 ![0, 0] (V0 (Proc.devRef .tc main_arg9)) slices_S3x1_S1x1_0_0) shapeCasts_S1x1_S1)) (res_main_v13 V0) (res_main_v27 V0) (res_main_v41 V0) := rfl

/-- Modality 0: the sorted positions. -/
theorem ord0 : res_main_v115 V0 =
    ordR (res_main_v113 V0) := rfl

/-- Modality 0: the kept tokens. -/
theorem keep0 : res_main_v138 V0 =
    takeTok (V0 (Proc.devRef .tc main_arg0)) (wrapR (keepR (res_main_v115 V0))) := rfl

/-- Modality 0: the dropped tokens' scores. -/
theorem ds0 : res_main_v142 V0 =
    dropScore (res_main_v113 V0) (res_main_v115 V0) := rfl

/-- Modality 0: the dropped tokens' unnormalised weights. -/
theorem e0 : res_main_v149 V0 =
    expR (res_main_v142 V0) := rfl

/-- Modality 0: the aggregation's first layer. -/
theorem hidd0 : res_main_v195 V0 =
    hid2R (res_main_v138 V0) (shapeCast _ (extractStridedSlice S1x512 ![0, 0] (V0 (Proc.devRef .tc main_arg10)) slices_S3x512_S1x512_0_0) shapeCasts_S1x512_S512) (shapeCast _ (extractStridedSlice S1x512 ![0, 0] (V0 (Proc.devRef .tc main_arg11)) slices_S3x512_S1x512_0_0) shapeCasts_S1x512_S512) (shapeCast _ (extractStridedSlice S1x512x102 ![0, 0, 0] (V0 (Proc.devRef .tc main_arg12)) slices_S3x512x102_S1x512x102_0_0_0) shapeCasts_S1x512x102_S512x102) (shapeCast _ (extractStridedSlice S1x102 ![0, 0] (V0 (Proc.devRef .tc main_arg13)) slices_S3x102_S1x102_0_0) shapeCasts_S1x102_S102) := rfl

/-- Modality 0: the masked logits. -/
theorem mlog0 : res_main_v216 V0 =
    mlogR (logR (res_main_v195 V0) (shapeCast _ (extractStridedSlice S1x102x115 ![0, 0, 0] (V0 (Proc.devRef .tc main_arg14)) slices_S3x102x115_S1x102x115_0_0_0) shapeCasts_S1x102x115_S102x115) (shapeCast _ (extractStridedSlice S1x115 ![0, 0] (V0 (Proc.devRef .tc main_arg15)) slices_S3x115_S1x115_0_0) shapeCasts_S1x115_S115) (shapeCast _ (extractStridedSlice S1x1x1x1 ![0, 0, 0, 0] (V0 (Proc.devRef .tc main_arg16)) slices_S3x1x1x1_S1x1x1x1_0_0_0_0) shapeCasts_S1x1x1x1_S1x1x1)) (selR (keepR (res_main_v115 V0))) := rfl

/-- Modality 0: the aggregation's unnormalised weights. -/
theorem ee0 : res_main_v223 V0 =
    exp2R (res_main_v216 V0) := rfl

/-- Modality 0: the result, as a function of the arguments. -/
def ref0 : FVec Ideal S64x116x512 .f32 :=
  outR (V0 (Proc.devRef .tc main_arg0)) (V0 (Proc.devRef .tc main_arg3)) (V0 (Proc.devRef .tc main_arg4)) (V0 (Proc.devRef .tc main_arg5)) (shapeCast _ (extractStridedSlice S1x512x128 ![0, 0, 0] (V0 (Proc.devRef .tc main_arg6)) slices_S3x512x128_S1x512x128_0_0_0) shapeCasts_S1x512x128_S512x128) (shapeCast _ (extractStridedSlice S1x128 ![0, 0] (V0 (Proc.devRef .tc main_arg7)) slices_S3x128_S1x128_0_0) shapeCasts_S1x128_S128) (shapeCast _ (extractStridedSlice S1x128x1 ![0, 0, 0] (V0 (Proc.devRef .tc main_arg8)) slices_S3x128x1_S1x128x1_0_0_0) shapeCasts_S1x128x1_S128x1) (shapeCast _ (extractStridedSlice S1x1 ![0, 0] (V0 (Proc.devRef .tc main_arg9)) slices_S3x1_S1x1_0_0) shapeCasts_S1x1_S1) (shapeCast _ (extractStridedSlice S1x512 ![0, 0] (V0 (Proc.devRef .tc main_arg10)) slices_S3x512_S1x512_0_0) shapeCasts_S1x512_S512) (shapeCast _ (extractStridedSlice S1x512 ![0, 0] (V0 (Proc.devRef .tc main_arg11)) slices_S3x512_S1x512_0_0) shapeCasts_S1x512_S512) (shapeCast _ (extractStridedSlice S1x512x102 ![0, 0, 0] (V0 (Proc.devRef .tc main_arg12)) slices_S3x512x102_S1x512x102_0_0_0) shapeCasts_S1x512x102_S512x102) (shapeCast _ (extractStridedSlice S1x102 ![0, 0] (V0 (Proc.devRef .tc main_arg13)) slices_S3x102_S1x102_0_0) shapeCasts_S1x102_S102) (shapeCast _ (extractStridedSlice S1x102x115 ![0, 0, 0] (V0 (Proc.devRef .tc main_arg14)) slices_S3x102x115_S1x102x115_0_0_0) shapeCasts_S1x102x115_S102x115) (shapeCast _ (extractStridedSlice S1x115 ![0, 0] (V0 (Proc.devRef .tc main_arg15)) slices_S3x115_S1x115_0_0) shapeCasts_S1x115_S115) (shapeCast _ (extractStridedSlice S1x1x1x1 ![0, 0, 0, 0] (V0 (Proc.devRef .tc main_arg16)) slices_S3x1x1x1_S1x1x1x1_0_0_0_0) shapeCasts_S1x1x1x1_S1x1x1)

/-- Modality 0: the result the reference's operations compute. -/
theorem res0 : concatenate S64x116x512 1 [⟨S64x115x512, aggrR (res_main_v138 V0) (res_main_v223 V0)⟩,
      ⟨S64x1x512, extraR (takeTok (V0 (Proc.devRef .tc main_arg0)) (wrapR (dropR (res_main_v115 V0)))) (res_main_v149 V0)⟩]
      concatenates_S64x115x512_S64x1x512_S64x116x512_d1 = ref0 V0 := by
  rw [ee0, mlog0, hidd0, e0, ds0, keep0, ord0, score0, hid0, cosa0, cosb0, cosc0]
  rfl

/-- Modality 1: the cosines with its own global vector. -/
theorem cosa1 : res_main_v243 V0 =
    cosR (V0 (Proc.devRef .tc main_arg1)) (V0 (Proc.devRef .tc main_arg4)) := rfl

/-- Modality 1: the cosines with the first other global vector. -/
theorem cosb1 : res_main_v257 V0 =
    cosR (V0 (Proc.devRef .tc main_arg1)) (V0 (Proc.devRef .tc main_arg3)) := rfl

/-- Modality 1: the cosines with the second other global vector. -/
theorem cosc1 : res_main_v271 V0 =
    cosR (V0 (Proc.devRef .tc main_arg1)) (V0 (Proc.devRef .tc main_arg5)) := rfl

/-- Modality 1: the predictor's first layer. -/
theorem hid1 : res_main_v283 V0 =
    hidR (V0 (Proc.devRef .tc main_arg1)) (shapeCast _ (extractStridedSlice S1x512x128 ![1, 0, 0] (V0 (Proc.devRef .tc main_arg6)) slices_S3x512x128_S1x512x128_1_0_0) shapeCasts_S1x512x128_S512x128) (shapeCast _ (extractStridedSlice S1x128 ![1, 0] (V0 (Proc.devRef .tc main_arg7)) slices_S3x128_S1x128_1_0) shapeCasts_S1x128_S128) := rfl

/-- Modality 1: the scores. -/
theorem score1 : res_main_v343 V0 =
    scoreR (predR (res_main_v283 V0) (shapeCast _ (extractStridedSlice S1x128x1 ![1, 0, 0] (V0 (Proc.devRef .tc main_arg8)) slices_S3x128x1_S1x128x1_1_0_0) shapeCasts_S1x128x1_S128x1) (shapeCast _ (extractStridedSlice S1x1 ![1, 0] (V0 (Proc.devRef .tc main_arg9)) slices_S3x1_S1x1_1_0) shapeCasts_S1x1_S1)) (res_main_v243 V0) (res_main_v257 V0) (res_main_v271 V0) := rfl

/-- Modality 1: the sorted positions. -/
theorem ord1 : res_main_v345 V0 =
    ordR (res_main_v343 V0) := rfl

/-- Modality 1: the kept tokens. -/
theorem keep1 : res_main_v368 V0 =
    takeTok (V0 (Proc.devRef .tc main_arg1)) (wrapR (keepR (res_main_v345 V0))) := rfl

/-- Modality 1: the dropped tokens' scores. -/
theorem ds1 : res_main_v372 V0 =
    dropScore (res_main_v343 V0) (res_main_v345 V0) := rfl

/-- Modality 1: the dropped tokens' unnormalised weights. -/
theorem e1 : res_main_v379 V0 =
    expR (res_main_v372 V0) := rfl

/-- Modality 1: the aggregation's first layer. -/
theorem hidd1 : res_main_v425 V0 =
    hid2R (res_main_v368 V0) (shapeCast _ (extractStridedSlice S1x512 ![1, 0] (V0 (Proc.devRef .tc main_arg10)) slices_S3x512_S1x512_1_0) shapeCasts_S1x512_S512) (shapeCast _ (extractStridedSlice S1x512 ![1, 0] (V0 (Proc.devRef .tc main_arg11)) slices_S3x512_S1x512_1_0) shapeCasts_S1x512_S512) (shapeCast _ (extractStridedSlice S1x512x102 ![1, 0, 0] (V0 (Proc.devRef .tc main_arg12)) slices_S3x512x102_S1x512x102_1_0_0) shapeCasts_S1x512x102_S512x102) (shapeCast _ (extractStridedSlice S1x102 ![1, 0] (V0 (Proc.devRef .tc main_arg13)) slices_S3x102_S1x102_1_0) shapeCasts_S1x102_S102) := rfl

/-- Modality 1: the masked logits. -/
theorem mlog1 : res_main_v446 V0 =
    mlogR (logR (res_main_v425 V0) (shapeCast _ (extractStridedSlice S1x102x115 ![1, 0, 0] (V0 (Proc.devRef .tc main_arg14)) slices_S3x102x115_S1x102x115_1_0_0) shapeCasts_S1x102x115_S102x115) (shapeCast _ (extractStridedSlice S1x115 ![1, 0] (V0 (Proc.devRef .tc main_arg15)) slices_S3x115_S1x115_1_0) shapeCasts_S1x115_S115) (shapeCast _ (extractStridedSlice S1x1x1x1 ![1, 0, 0, 0] (V0 (Proc.devRef .tc main_arg16)) slices_S3x1x1x1_S1x1x1x1_1_0_0_0) shapeCasts_S1x1x1x1_S1x1x1)) (selR (keepR (res_main_v345 V0))) := rfl

/-- Modality 1: the aggregation's unnormalised weights. -/
theorem ee1 : res_main_v453 V0 =
    exp2R (res_main_v446 V0) := rfl

/-- Modality 1: the result, as a function of the arguments. -/
def ref1 : FVec Ideal S64x116x512 .f32 :=
  outR (V0 (Proc.devRef .tc main_arg1)) (V0 (Proc.devRef .tc main_arg4)) (V0 (Proc.devRef .tc main_arg3)) (V0 (Proc.devRef .tc main_arg5)) (shapeCast _ (extractStridedSlice S1x512x128 ![1, 0, 0] (V0 (Proc.devRef .tc main_arg6)) slices_S3x512x128_S1x512x128_1_0_0) shapeCasts_S1x512x128_S512x128) (shapeCast _ (extractStridedSlice S1x128 ![1, 0] (V0 (Proc.devRef .tc main_arg7)) slices_S3x128_S1x128_1_0) shapeCasts_S1x128_S128) (shapeCast _ (extractStridedSlice S1x128x1 ![1, 0, 0] (V0 (Proc.devRef .tc main_arg8)) slices_S3x128x1_S1x128x1_1_0_0) shapeCasts_S1x128x1_S128x1) (shapeCast _ (extractStridedSlice S1x1 ![1, 0] (V0 (Proc.devRef .tc main_arg9)) slices_S3x1_S1x1_1_0) shapeCasts_S1x1_S1) (shapeCast _ (extractStridedSlice S1x512 ![1, 0] (V0 (Proc.devRef .tc main_arg10)) slices_S3x512_S1x512_1_0) shapeCasts_S1x512_S512) (shapeCast _ (extractStridedSlice S1x512 ![1, 0] (V0 (Proc.devRef .tc main_arg11)) slices_S3x512_S1x512_1_0) shapeCasts_S1x512_S512) (shapeCast _ (extractStridedSlice S1x512x102 ![1, 0, 0] (V0 (Proc.devRef .tc main_arg12)) slices_S3x512x102_S1x512x102_1_0_0) shapeCasts_S1x512x102_S512x102) (shapeCast _ (extractStridedSlice S1x102 ![1, 0] (V0 (Proc.devRef .tc main_arg13)) slices_S3x102_S1x102_1_0) shapeCasts_S1x102_S102) (shapeCast _ (extractStridedSlice S1x102x115 ![1, 0, 0] (V0 (Proc.devRef .tc main_arg14)) slices_S3x102x115_S1x102x115_1_0_0) shapeCasts_S1x102x115_S102x115) (shapeCast _ (extractStridedSlice S1x115 ![1, 0] (V0 (Proc.devRef .tc main_arg15)) slices_S3x115_S1x115_1_0) shapeCasts_S1x115_S115) (shapeCast _ (extractStridedSlice S1x1x1x1 ![1, 0, 0, 0] (V0 (Proc.devRef .tc main_arg16)) slices_S3x1x1x1_S1x1x1x1_1_0_0_0) shapeCasts_S1x1x1x1_S1x1x1)

/-- Modality 1: the result the reference's operations compute. -/
theorem res1 : concatenate S64x116x512 1 [⟨S64x115x512, aggrR (res_main_v368 V0) (res_main_v453 V0)⟩,
      ⟨S64x1x512, extraR (takeTok (V0 (Proc.devRef .tc main_arg1)) (wrapR (dropR (res_main_v345 V0)))) (res_main_v379 V0)⟩]
      concatenates_S64x115x512_S64x1x512_S64x116x512_d1 = ref1 V0 := by
  rw [ee1, mlog1, hidd1, e1, ds1, keep1, ord1, score1, hid1, cosa1, cosb1, cosc1]
  rfl

/-- Modality 2: the cosines with its own global vector. -/
theorem cosa2 : res_main_v473 V0 =
    cosR (V0 (Proc.devRef .tc main_arg2)) (V0 (Proc.devRef .tc main_arg5)) := rfl

/-- Modality 2: the cosines with the first other global vector. -/
theorem cosb2 : res_main_v487 V0 =
    cosR (V0 (Proc.devRef .tc main_arg2)) (V0 (Proc.devRef .tc main_arg3)) := rfl

/-- Modality 2: the cosines with the second other global vector. -/
theorem cosc2 : res_main_v501 V0 =
    cosR (V0 (Proc.devRef .tc main_arg2)) (V0 (Proc.devRef .tc main_arg4)) := rfl

/-- Modality 2: the predictor's first layer. -/
theorem hid2 : res_main_v513 V0 =
    hidR (V0 (Proc.devRef .tc main_arg2)) (shapeCast _ (extractStridedSlice S1x512x128 ![2, 0, 0] (V0 (Proc.devRef .tc main_arg6)) slices_S3x512x128_S1x512x128_2_0_0) shapeCasts_S1x512x128_S512x128) (shapeCast _ (extractStridedSlice S1x128 ![2, 0] (V0 (Proc.devRef .tc main_arg7)) slices_S3x128_S1x128_2_0) shapeCasts_S1x128_S128) := rfl

/-- Modality 2: the scores. -/
theorem score2 : res_main_v573 V0 =
    scoreR (predR (res_main_v513 V0) (shapeCast _ (extractStridedSlice S1x128x1 ![2, 0, 0] (V0 (Proc.devRef .tc main_arg8)) slices_S3x128x1_S1x128x1_2_0_0) shapeCasts_S1x128x1_S128x1) (shapeCast _ (extractStridedSlice S1x1 ![2, 0] (V0 (Proc.devRef .tc main_arg9)) slices_S3x1_S1x1_2_0) shapeCasts_S1x1_S1)) (res_main_v473 V0) (res_main_v487 V0) (res_main_v501 V0) := rfl

/-- Modality 2: the sorted positions. -/
theorem ord2 : res_main_v575 V0 =
    ordR (res_main_v573 V0) := rfl

/-- Modality 2: the kept tokens. -/
theorem keep2 : res_main_v598 V0 =
    takeTok (V0 (Proc.devRef .tc main_arg2)) (wrapR (keepR (res_main_v575 V0))) := rfl

/-- Modality 2: the dropped tokens' scores. -/
theorem ds2 : res_main_v602 V0 =
    dropScore (res_main_v573 V0) (res_main_v575 V0) := rfl

/-- Modality 2: the dropped tokens' unnormalised weights. -/
theorem e2 : res_main_v609 V0 =
    expR (res_main_v602 V0) := rfl

/-- Modality 2: the aggregation's first layer. -/
theorem hidd2 : res_main_v655 V0 =
    hid2R (res_main_v598 V0) (shapeCast _ (extractStridedSlice S1x512 ![2, 0] (V0 (Proc.devRef .tc main_arg10)) slices_S3x512_S1x512_2_0) shapeCasts_S1x512_S512) (shapeCast _ (extractStridedSlice S1x512 ![2, 0] (V0 (Proc.devRef .tc main_arg11)) slices_S3x512_S1x512_2_0) shapeCasts_S1x512_S512) (shapeCast _ (extractStridedSlice S1x512x102 ![2, 0, 0] (V0 (Proc.devRef .tc main_arg12)) slices_S3x512x102_S1x512x102_2_0_0) shapeCasts_S1x512x102_S512x102) (shapeCast _ (extractStridedSlice S1x102 ![2, 0] (V0 (Proc.devRef .tc main_arg13)) slices_S3x102_S1x102_2_0) shapeCasts_S1x102_S102) := rfl

/-- Modality 2: the masked logits. -/
theorem mlog2 : res_main_v676 V0 =
    mlogR (logR (res_main_v655 V0) (shapeCast _ (extractStridedSlice S1x102x115 ![2, 0, 0] (V0 (Proc.devRef .tc main_arg14)) slices_S3x102x115_S1x102x115_2_0_0) shapeCasts_S1x102x115_S102x115) (shapeCast _ (extractStridedSlice S1x115 ![2, 0] (V0 (Proc.devRef .tc main_arg15)) slices_S3x115_S1x115_2_0) shapeCasts_S1x115_S115) (shapeCast _ (extractStridedSlice S1x1x1x1 ![2, 0, 0, 0] (V0 (Proc.devRef .tc main_arg16)) slices_S3x1x1x1_S1x1x1x1_2_0_0_0) shapeCasts_S1x1x1x1_S1x1x1)) (selR (keepR (res_main_v575 V0))) := rfl

/-- Modality 2: the aggregation's unnormalised weights. -/
theorem ee2 : res_main_v683 V0 =
    exp2R (res_main_v676 V0) := rfl

/-- Modality 2: the result, as a function of the arguments. -/
def ref2 : FVec Ideal S64x116x512 .f32 :=
  outR (V0 (Proc.devRef .tc main_arg2)) (V0 (Proc.devRef .tc main_arg5)) (V0 (Proc.devRef .tc main_arg3)) (V0 (Proc.devRef .tc main_arg4)) (shapeCast _ (extractStridedSlice S1x512x128 ![2, 0, 0] (V0 (Proc.devRef .tc main_arg6)) slices_S3x512x128_S1x512x128_2_0_0) shapeCasts_S1x512x128_S512x128) (shapeCast _ (extractStridedSlice S1x128 ![2, 0] (V0 (Proc.devRef .tc main_arg7)) slices_S3x128_S1x128_2_0) shapeCasts_S1x128_S128) (shapeCast _ (extractStridedSlice S1x128x1 ![2, 0, 0] (V0 (Proc.devRef .tc main_arg8)) slices_S3x128x1_S1x128x1_2_0_0) shapeCasts_S1x128x1_S128x1) (shapeCast _ (extractStridedSlice S1x1 ![2, 0] (V0 (Proc.devRef .tc main_arg9)) slices_S3x1_S1x1_2_0) shapeCasts_S1x1_S1) (shapeCast _ (extractStridedSlice S1x512 ![2, 0] (V0 (Proc.devRef .tc main_arg10)) slices_S3x512_S1x512_2_0) shapeCasts_S1x512_S512) (shapeCast _ (extractStridedSlice S1x512 ![2, 0] (V0 (Proc.devRef .tc main_arg11)) slices_S3x512_S1x512_2_0) shapeCasts_S1x512_S512) (shapeCast _ (extractStridedSlice S1x512x102 ![2, 0, 0] (V0 (Proc.devRef .tc main_arg12)) slices_S3x512x102_S1x512x102_2_0_0) shapeCasts_S1x512x102_S512x102) (shapeCast _ (extractStridedSlice S1x102 ![2, 0] (V0 (Proc.devRef .tc main_arg13)) slices_S3x102_S1x102_2_0) shapeCasts_S1x102_S102) (shapeCast _ (extractStridedSlice S1x102x115 ![2, 0, 0] (V0 (Proc.devRef .tc main_arg14)) slices_S3x102x115_S1x102x115_2_0_0) shapeCasts_S1x102x115_S102x115) (shapeCast _ (extractStridedSlice S1x115 ![2, 0] (V0 (Proc.devRef .tc main_arg15)) slices_S3x115_S1x115_2_0) shapeCasts_S1x115_S115) (shapeCast _ (extractStridedSlice S1x1x1x1 ![2, 0, 0, 0] (V0 (Proc.devRef .tc main_arg16)) slices_S3x1x1x1_S1x1x1x1_2_0_0_0) shapeCasts_S1x1x1x1_S1x1x1)

/-- Modality 2: the result the reference's operations compute. -/
theorem res2 : concatenate S64x116x512 1 [⟨S64x115x512, aggrR (res_main_v598 V0) (res_main_v683 V0)⟩,
      ⟨S64x1x512, extraR (takeTok (V0 (Proc.devRef .tc main_arg2)) (wrapR (dropR (res_main_v575 V0)))) (res_main_v609 V0)⟩]
      concatenates_S64x115x512_S64x1x512_S64x116x512_d1 = ref2 V0 := by
  rw [ee2, mlog2, hidd2, e2, ds2, keep2, ord2, score2, hid2, cosa2, cosb2, cosc2]
  rfl

/-- The reference's run: its results are `ref0`, `ref1`, `ref2` of the arguments, which it leaves unchanged. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v229) = ref0 (launchContents m c)
      ∧ r.2.mem ((c.tc : Thread nD τ).loc main_v459) = ref1 (launchContents m c)
      ∧ r.2.mem ((c.tc : Thread nD τ).loc main_v689) = ref2 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      :=
  (θ_run defs _ _).mono (fun _ h c => ⟨(h c).1.trans (res0 _), (h c).2.1.trans (res1 _), (h c).2.2.1.trans (res2 _),
    (h c).2.2.2⟩) (Value.run m ρ)

end Cert.RRow
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.Pre_ag_finite
public import proofs.«01_k».proof.Proof.REq

@[expose] public section

noncomputable section

/-! The claims that say nothing of the results: each program runs to its end, leaves its arguments unchanged and its
counters at zero; and the named constants preserve the kernel. -/

namespace Cert.Frames

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_ag_finite.Facts := Cert.Pre_ag_finite.Gen.facts

theorem kernel : Cert.quiescent_Kernel := fun m ρ _ => Cert.Kernel.Gen.frame m ρ

theorem kernelIdeal : Cert.quiescent_KernelIdeal := fun m ρ _ => Cert.KernelIdeal.Gen.frame m ρ

theorem kernelIdeal_pre : Cert.quiescent_KernelIdeal_pre_ag_finite := fun m ρ _ => Cert.KernelIdeal.Gen.frame m ρ

theorem referenceIdeal : Cert.quiescent_ReferenceIdeal := fun m ρ _ =>
  (θ_run Cert.ReferenceIdeal.defs _ _).mono (fun r h => ⟨fun c => (h c).2.2.2,
    sem_eq_zero_of_no_sems (by decide) r.2⟩) (Cert.RRow.run' m ρ)

theorem referenceIdeal_pre : Cert.quiescent_ReferenceIdeal_pre_ag_finite := fun m ρ _ =>
  (θ_run Cert.ReferenceIdeal.defs _ _).mono (fun r h => ⟨fun c => (h c).2.2.2,
    sem_eq_zero_of_no_sems (by decide) r.2⟩) (Cert.RRow.run' m ρ)

theorem preserves : Cert.preserves_Kernel_KernelIdeal := by
  refine ⟨IdealRules.named_const.statement (κ := Cert.KernelIdeal.κ) (name := "mask") .f32 _ ⊥ ?_,
    IdealRules.named_const.statement (κ := Cert.KernelIdeal.κ) (name := "big") .f32 _ ⊤ ?_⟩
  · rfl
  · rfl

end Cert.Frames
-- ==== Proof.KRow.lean ====
module

public import Idealize.ShloMosaic.Lib.WordCmp
public import proofs.«01_k».proof.Proof.Spec
public import proofs.«01_k».proof.Proof.Gen.KernelIdeal.Skeleton

@[expose] public section

noncomputable section

/-! What the kernel computes for one batch entry. -/

namespace Cert.KRow

open Idealize.ShloMosaic Cert.KernelIdeal Cert.KernelIdeal.Gen Cert.Spec
open scoped BigOperators

theorem named_big : (Named.named κ "big" 0x501502F9#32 : Ideal .f32) = ⊤ := rfl

theorem named_mask : (Named.named κ "mask" 0xF149F2CA#32 : Ideal .f32) = ⊥ := rfl

theorem pay1_at (v0 : Vec Ideal S1x576x512 .f32) (n : Fin 576) (c : Fin 512) :
    k0_pay1 v0 (ix2 n c) = v0 (ix3 0 n c) := by
  pointwise [k0_pay1]

theorem pay2_at (v0 : Vec Ideal S1x576x512 .f32) (n : Fin 576) (c : Fin 512) :
    k0_pay2 v0 (ix2 n c) = Ideal.div (v0 (ix3 0 n c)) (den fun c => v0 (ix3 0 n c)) := by
  pointwise [k0_pay2, k0_pay1, den]

theorem pay3_at (v0 : Vec Ideal S1x576x512 .f32) (g : Vec Ideal S1x1x512 .f32) (n : Fin 576) :
    k0_pay3 v0 g (ix2 n 0) = cosv (fun c => v0 (ix3 0 n c)) (fun c => g (ix3 0 0 c)) := by
  pointwise [k0_pay3, pay2_at, cosv, den]

theorem pay4_at (v0 : Vec Ideal S1x576x512 .f32) (g : Vec Ideal S1x1x512 .f32) (n : Fin 576) :
    k0_pay4 v0 g (ix2 n 0) = cosv (fun c => v0 (ix3 0 n c)) (fun c => g (ix3 0 0 c)) := by
  pointwise [k0_pay4, pay2_at, cosv, den]

theorem pay5_at (v0 : Vec Ideal S1x576x512 .f32) (g : Vec Ideal S1x1x512 .f32) (n : Fin 576) :
    k0_pay5 (k0_pay2 v0) g (ix2 n 0) = cosv (fun c => v0 (ix3 0 n c)) (fun c => g (ix3 0 0 c)) := by
  pointwise [k0_pay5, pay2_at, cosv, den]

theorem pay6_at (v1 : FVec Ideal S576x512 .f32) (w1 : Vec Ideal S512x128 .f32) (b1 : Vec Ideal S1x128 .f32)
    (w2 : Vec Ideal S128x1 .f32) (b2 : Vec Ideal S1x1 .f32) (n : Fin 576) :
    k0_pay6 v1 w1 b1 w2 b2 (ix2 n 0) = lit 0x3F000000#32 * Ideal.logistic
      ((∑ h : Fin 128, gelu ((∑ c : Fin 512, v1 (ix2 n c) * w1 (ix2 c h)) + b1 (ix2 0 h)) * w2 (ix2 h 0))
        + b2 (ix2 0 0)) := by
  pointwise [k0_pay6, gelu]
  rfl

theorem pay9_at (s1 s2 s3 p : FVec Ideal S576x1 .f32) (n : Fin 576) :
    k0_pay9 s1 s2 s3 p (k0_pay7 s2) (k0_pay8 s2) (ix2 n 0) = p (ix2 n 0) + lit 0x3E800000#32 *
      (minmax (fun i => s2 (ix2 i 0)) n + minmax (fun i => s3 (ix2 i 0)) n
        + lit 0x40000000#32 * minmax (fun i => s1 (ix2 i 0)) n) := by
  pointwise [k0_pay9, k0_pay7, k0_pay8, minmax, vmin, vmax]

theorem pay16_at (v1 : FVec Ideal S576x512 .f32) (n : Fin 576) :
    k0_pay16 v1 (ix2 n 0) = mean fun c => v1 (ix2 n c) := by
  pointwise [k0_pay16, mean]

theorem pay17_at (v1 : FVec Ideal S576x512 .f32) (n : Fin 576) :
    k0_pay17 v1 (ix2 n 0) = var fun c => v1 (ix2 n c) := by
  pointwise [k0_pay17, pay16_at, var]

theorem pay18_at (v1 : FVec Ideal S576x512 .f32) (n : Fin 576) (c : Fin 512) :
    k0_pay18 v1 (ix2 n c) = v1 (ix2 n c) - mean fun c => v1 (ix2 n c) := by
  pointwise [k0_pay18, pay16_at]

theorem pay19_at (v1 : FVec Ideal S576x512 .f32) (lg lb : Vec Ideal S1x512 .f32) (a1 : Vec Ideal S512x102 .f32)
    (c1 : Vec Ideal S1x102 .f32) (a2 : Vec Ideal S102x115 .f32) (c2 : Vec Ideal S1x115 .f32)
    (sc : Vec Ideal S1x1 .f32) (n : Fin 576) (k : Fin 115) :
    k0_pay19 (k0_pay17 v1) (k0_pay18 v1) (Scalar.ofBits .f32 0x3727C5AC#32) lg lb a1 c1 a2 c2 sc (ix2 n k) =
      ((∑ h : Fin 102, gelu ((∑ c : Fin 512, (nrm (fun c => v1 (ix2 n c)) c * lg (ix2 0 c) + lb (ix2 0 c))
        * a1 (ix2 c h)) + c1 (ix2 0 h)) * a2 (ix2 h k)) + c2 (ix2 0 k)) * sc (ix2 0 0) := by
  pointwise [k0_pay19, pay17_at, pay18_at, nrm, gelu]
  rfl

theorem pay21_at (v1 : FVec Ideal S576x512 .f32) (d : FVec Ideal S576x1 .f32) (l : FVec Ideal S576x115 .f32)
    (k : Fin 115) (c : Fin 512) :
    k0_pay21 v1 d l k0_pay20 (ix2 k c) =
      ∑ n : Fin 576, soft (fun i : Fin 576 => l (ix2 i k) - d (ix2 i 0) * ⊤) n * v1 (ix2 n c) := by
  pointwise [k0_pay21, k0_pay20, soft, top, named_big]

/-- A one-bit word, widened and converted: one or zero. -/
theorem sitofp_bit (b : BitVec 1) :
    (FloatOps.sitofp .f32 (BitVec.setWidth 32 b) : Ideal .f32) = if b = 1#1 then (1 : EReal) else 0 := by
  have h : ∀ b : BitVec 1, b = 1#1 ∨ b = 0#1 := by decide
  rcases h b with rfl | rfl
  · show (((BitVec.setWidth 32 1#1).toInt : ℝ) : EReal) = _
    have : (BitVec.setWidth 32 1#1).toInt = 1 := by decide
    rw [this]; simp
  · show (((BitVec.setWidth 32 0#1).toInt : ℝ) : EReal) = _
    have : (BitVec.setWidth 32 0#1).toInt = 0 := by decide
    rw [this]; simp

theorem iota_eq_bit (x j : Fin 576) :
    IntOp.cmpi CmpIPredicate.eq (BitVec.ofNat 32 ↑x) (BitVec.ofNat 32 ↑j) = 1#1 ↔ x = j := by
  rw [WordCmp.cmpi_eq_ofNat (by omega) (by omega), WordCmp.ofBool_decide_eq_one_iff]; omega

/-- The scores' transpose, a product with the identity matrix, read at a token. -/
theorem pay10_at (s1 s2 s3 p : FVec Ideal S576x1 .f32) (a : FVec Ideal S1x1 .f32) (b : FVec Ideal S1 .f32)
    (j : Fin 576) : k0_pay10 s1 s2 s3 p a b (ix2 0 j) = k0_pay9 s1 s2 s3 p a b (ix2 j 0) := by
  generalize h : k0_pay9 s1 s2 s3 p a b = q
  pointwise [k0_pay10, h]
  simp only [sitofp_bit, iota_eq_bit]
  simp

theorem pay13_at (n j : Fin 576) : k0_pay13 (ix2 n j) = BitVec.ofBool (decide (j < n)) := by
  pointwise [k0_pay13]
  rw [WordCmp.cmpi_slt_ofNat (by omega) (by omega)]
  rfl

theorem pay11_at (s1 s2 s3 p : FVec Ideal S576x1 .f32) (a : FVec Ideal S1x1 .f32) (b : FVec Ideal S1 .f32)
    (n j : Fin 576) : k0_pay11 s1 s2 s3 p a b (ix2 n j)
      = BitVec.ofBool (decide (k0_pay9 s1 s2 s3 p a b (ix2 n 0) < k0_pay9 s1 s2 s3 p a b (ix2 j 0))) := by
  pointwise [k0_pay11, pay10_at]

theorem pay12_at (s1 s2 s3 p : FVec Ideal S576x1 .f32) (a : FVec Ideal S1x1 .f32) (b : FVec Ideal S1 .f32)
    (n j : Fin 576) : k0_pay12 s1 s2 s3 p a b (ix2 n j)
      = BitVec.ofBool (decide (k0_pay9 s1 s2 s3 p a b (ix2 j 0) = k0_pay9 s1 s2 s3 p a b (ix2 n 0))) := by
  pointwise [k0_pay12, pay10_at]

theorem lit_288 : lit 0x43900000#32 = ((288 : ℕ) : EReal) := by
  have : ((288 : ℕ) : EReal) = ((288 : ℝ) : EReal) := by rfl
  rw [this]
  simp [lit, Ideal.ofBits, Ideal.ieee, -EReal.coe_mul]; norm_num

/-- The count of the tokens that come before token `n`, compared with 288: whether the token is dropped. -/
theorem pay14_at (a b d : IVec S576x576 1) (s : Fin 576 → EReal) (n : Fin 576)
    (ha : ∀ j, a (ix2 n j) = BitVec.ofBool (decide (s n < s j)))
    (hb : ∀ j, b (ix2 n j) = BitVec.ofBool (decide (s j = s n)))
    (hd : ∀ j, d (ix2 n j) = BitVec.ofBool (decide (j < n))) :
    k0_pay14 (F := Ideal) a b d (ix2 n 0) = nk s n := by
  pointwise [k0_pay14]
  simp only [sitofp_bit, ha, hb, hd, WordCmp.andi_ofBool, WordCmp.ori_ofBool, WordCmp.ofBool_eq_one_iff,
    WordCmp.ofBool_decide_eq_one_iff, Bool.or_eq_true, Bool.and_eq_true, decide_eq_true_eq]
  have hc : (∑ x : Fin 576, if s n < s x ∨ s x = s n ∧ x < n then (1 : EReal) else 0) = ((rank s n : ℕ) : EReal) := by
    rw [rank, Finset.sum_boole]
    congr 2
    ext x; simp only [Finset.mem_filter]; rfl
  have hl := lit_288
  rw [hc]
  simp only [lit] at hl
  rw [hl, nk]
  simp only [Nat.cast_lt]
  split <;> first | (exact EReal.sub_self (by decide) (by decide)) | simp

/-- The greatest of a column, as the maximum over both axes of the column read as a three-axis array. -/
theorem max_col (v : FVec Ideal S576x1 .f32) (h1 : S576x1.ShapeCasts S1x576x1) (h : S1x576x1.Reduces [1, 2] S1)
    (hf : FKind.Formats .f32) (he : (0xFF800000#32 : BitVec 32) = FKind.maximumf.neutral .f32 hf) :
    multiReduction .maximumf [1, 2] S1 (shapeCast S1x576x1 v h1) 0xFF800000#32 h hf he
      = fun _ => top fun n : Fin 576 => v (ix2 n 0) := by
  funext j
  rw [multiReduction_maximumf_eq_fold]
  refine (Finset.fold_filter_eq_fold_of_fiber _ _ (fun k : Fin 576 => ix3 0 k 0)
    (fun _ _ e => by have h2 := congrFun e 1; exact h2) (fun i => ?_) _ _).trans ?_
  · constructor
    · intro _
      refine ⟨i 1, ?_⟩
      funext a
      fin_cases a
      · exact Fin.ext (by have := (i 0).isLt; simp [S1x576x1] at this ⊢; omega)
      · rfl
      · exact Fin.ext (by have := (i 2).isLt; simp [S1x576x1] at this ⊢; omega)
    · intro _
      funext b
      have := (h.drop i b).isLt; have := (j b).isLt
      fin_cases b
      exact Fin.ext (by simp [S1] at *; omega)
  · unfold top
    congr 1
    funext k
    pointwise []

/-- The sum of a column, likewise. -/
theorem sum_col (v : FVec Ideal S576x1 .f32) (h1 : S576x1.ShapeCasts S1x576x1) (h : S1x576x1.Reduces [1, 2] S1)
    (hf : FKind.Formats .f32) (he : (0x00000000#32 : BitVec 32) = FKind.add.neutral .f32 hf) :
    multiReduction .add [1, 2] S1 (shapeCast S1x576x1 v h1) 0x00000000#32 h hf he
      = fun _ => ∑ n : Fin 576, v (ix2 n 0) := by
  funext j
  rw [multiReduction_add_apply]
  refine (Finset.sum_filter_eq_sum_of_fiber _ (fun k : Fin 576 => ix3 0 k 0)
    (fun _ _ e => by have h2 := congrFun e 1; exact h2) (fun i => ?_) _).trans ?_
  · constructor
    · intro _
      refine ⟨i 1, ?_⟩
      funext a
      fin_cases a
      · exact Fin.ext (by have := (i 0).isLt; simp [S1x576x1] at this ⊢; omega)
      · rfl
      · exact Fin.ext (by have := (i 2).isLt; simp [S1x576x1] at this ⊢; omega)
    · intro _
      funext b
      have := (h.drop i b).isLt; have := (j b).isLt
      fin_cases b
      exact Fin.ext (by simp [S1] at *; omega)
  · refine Finset.sum_congr rfl fun k _ => ?_
    pointwise []

/-- The greatest entry of a column, as the kernel takes it. -/
def maxCol (v : FVec Ideal S576x1 .f32) : EReal :=
  extractAt ![0, 0, 0] (shapeCast S1x1x1 (multiReduction .maximumf [1, 2] S1
    (shapeCast S1x576x1 v shapeCasts_S576x1_S1x576x1) 0xFF800000#32 reduces_S1x576x1_S1 (.inl rfl) rfl)
    shapeCasts_S1_S1x1x1) inpos_S1x1x1_p0_0_0

/-- The sum of a column, as the kernel takes it. -/
def sumCol (v : FVec Ideal S576x1 .f32) : EReal :=
  extractAt ![0, 0, 0] (shapeCast S1x1x1 (multiReduction .add [1, 2] S1
    (shapeCast S1x576x1 v shapeCasts_S576x1_S1x576x1) 0x00000000#32 reduces_S1x576x1_S1 (.inl rfl) rfl)
    shapeCasts_S1_S1x1x1) inpos_S1x1x1_p0_0_0

theorem maxCol_eq (v : FVec Ideal S576x1 .f32) : maxCol v = top fun n : Fin 576 => v (ix2 n 0) := by
  exact congrFun (max_col v shapeCasts_S576x1_S1x576x1 reduces_S1x576x1_S1 (.inl rfl) rfl) _

theorem sumCol_eq (v : FVec Ideal S576x1 .f32) : sumCol v = ∑ n : Fin 576, v (ix2 n 0) := by
  exact congrFun (sum_col v shapeCasts_S576x1_S1x576x1 reduces_S1x576x1_S1 (.inl rfl) rfl) _

/-- The scores with the kept tokens' at minus infinity. -/
def dropOnly (s q : FVec Ideal S576x1 .f32) : FVec Ideal S576x1 .f32 :=
  select (cmpf .ogt q (broadcast S576x1 (Scalar.ofBits .f32 0x00000000#32))) s
    (broadcast S576x1 (Named.named κ "mask" 0xF149F2CA#32 : Ideal .f32))

theorem dropOnly_at (s q : FVec Ideal S576x1 .f32) (n : Fin 576) :
    dropOnly s q (ix2 n 0) = if 0 < q (ix2 n 0) then s (ix2 n 0) else ⊥ := by
  pointwise [dropOnly, named_mask]

/-- The extra token's unnormalised weights. -/
def extraW (s q : FVec Ideal S576x1 .f32) : FVec Ideal S576x1 .f32 :=
  mulf (exp (subf s (broadcast S576x1 (maxCol (dropOnly s q) : Ideal .f32)))) q

theorem extraW_at (s q : FVec Ideal S576x1 .f32) (n : Fin 576) :
    extraW s q (ix2 n 0) = Ideal.exp (s (ix2 n 0) -
      top fun n : Fin 576 => if 0 < q (ix2 n 0) then s (ix2 n 0) else ⊥) * q (ix2 n 0) := by
  have h := maxCol_eq (dropOnly s q)
  simp only [dropOnly_at] at h
  rw [← h]
  pointwise [extraW]

/-- The extra token from the scores `s` and the dropped tokens' indicator `q`. -/
def extraOf (v1 : FVec Ideal S576x512 .f32) (s q : FVec Ideal S576x1 .f32) : FVec Ideal S1x512 .f32 :=
  matmul dot_S576x1_S576x512_S1x512_0_0_1_1_n_n none
    (divf (extraW s q) (broadcast S576x1 (sumCol (extraW s q) : Ideal .f32))) v1 (constant S1x512 .f32 0x00000000#32)

theorem extraOf_at (v1 : FVec Ideal S576x512 .f32) (s q : FVec Ideal S576x1 .f32) (c : Fin 512) :
    extraOf v1 s q (ix2 0 c) = ∑ n : Fin 576, Ideal.div (extraW s q (ix2 n 0))
      (∑ n : Fin 576, extraW s q (ix2 n 0)) * v1 (ix2 n c) := by
  have h := sumCol_eq (extraW s q)
  rw [← h]
  pointwise [extraOf]

theorem pay15_eq (v1 : FVec Ideal S576x512 .f32) (s : FVec Ideal S576x1 .f32) (a b d : IVec S576x576 1) :
    k0_pay15 v1 s a b d = extraOf v1 s (k0_pay14 (F := Ideal) a b d) := rfl

/-! ## One batch entry -/

section Row

variable (x : Vec Ideal S1x576x512 .f32) (g1 g2 g3 : Vec Ideal S1x1x512 .f32) (w1 : Vec Ideal S512x128 .f32)
  (b1 : Vec Ideal S1x128 .f32) (w2 : Vec Ideal S128x1 .f32) (b2 : Vec Ideal S1x1 .f32) (lg lb : Vec Ideal S1x512 .f32)
  (a1 : Vec Ideal S512x102 .f32) (c1 : Vec Ideal S1x102 .f32) (a2 : Vec Ideal S102x115 .f32)
  (c2 : Vec Ideal S1x115 .f32) (sc : Vec Ideal S1x1 .f32)

/-- The parameters a kernel body loads, as functions of their indices. -/
def parOf : Par where
  w1 c h := w1 (ix2 c h)
  b1 h := b1 (ix2 0 h)
  w2 h := w2 (ix2 h 0)
  b2 := b2 (ix2 0 0)
  lg c := lg (ix2 0 c)
  lb c := lb (ix2 0 c)
  a1 c h := a1 (ix2 c h)
  c1 h := c1 (ix2 0 h)
  a2 h k := a2 (ix2 h k)
  c2 k := c2 (ix2 0 k)
  sc := sc (ix2 0 0)

/-- The scores of one batch entry's tokens. -/
def rowScore : FVec Ideal S576x1 .f32 :=
  k0_pay9 (k0_pay3 x g1) (k0_pay4 x g2) (k0_pay5 (k0_pay2 x) g3) (k0_pay6 (k0_pay1 x) w1 b1 w2 b2)
    (k0_pay7 (k0_pay4 x g2)) (k0_pay8 (k0_pay4 x g2))

/-- Which scores are greater. -/
def rowGt : IVec S576x576 1 :=
  k0_pay11 (k0_pay3 x g1) (k0_pay4 x g2) (k0_pay5 (k0_pay2 x) g3) (k0_pay6 (k0_pay1 x) w1 b1 w2 b2)
    (k0_pay7 (k0_pay4 x g2)) (k0_pay8 (k0_pay4 x g2))

/-- Which scores are equal. -/
def rowEq : IVec S576x576 1 :=
  k0_pay12 (k0_pay3 x g1) (k0_pay4 x g2) (k0_pay5 (k0_pay2 x) g3) (k0_pay6 (k0_pay1 x) w1 b1 w2 b2)
    (k0_pay7 (k0_pay4 x g2)) (k0_pay8 (k0_pay4 x g2))

/-- Which tokens are dropped. -/
def rowDrop : FVec Ideal S576x1 .f32 :=
  k0_pay14 (rowGt x g1 g2 g3 w1 b1 w2 b2) (rowEq x g1 g2 g3 w1 b1 w2 b2) k0_pay13

/-- The extra token. -/
def rowExtra : FVec Ideal S1x512 .f32 :=
  k0_pay15 (k0_pay1 x) (rowScore x g1 g2 g3 w1 b1 w2 b2) (rowGt x g1 g2 g3 w1 b1 w2 b2)
    (rowEq x g1 g2 g3 w1 b1 w2 b2) k0_pay13

/-- The aggregated tokens. -/
def rowAggr : FVec Ideal S115x512 .f32 :=
  k0_pay21 (k0_pay1 x) (rowDrop x g1 g2 g3 w1 b1 w2 b2)
    (k0_pay19 (k0_pay17 (k0_pay1 x)) (k0_pay18 (k0_pay1 x)) (Scalar.ofBits .f32 0x3727C5AC#32) lg lb a1 c1 a2 c2 sc)
    k0_pay20

theorem rowScore_at (n : Fin 576) :
    rowScore x g1 g2 g3 w1 b1 w2 b2 (ix2 n 0) =
      score (parOf w1 b1 w2 b2 lg lb a1 c1 a2 c2 sc) (fun n c => x (ix3 0 n c)) (fun c => g1 (ix3 0 0 c))
        (fun c => g2 (ix3 0 0 c)) (fun c => g3 (ix3 0 0 c)) n := by
  unfold rowScore
  rw [pay9_at]
  simp only [pay3_at, pay4_at, pay5_at, pay6_at, pay1_at]
  rfl

theorem rowDrop_at (n : Fin 576) :
    rowDrop x g1 g2 g3 w1 b1 w2 b2 (ix2 n 0) =
      nk (score (parOf w1 b1 w2 b2 lg lb a1 c1 a2 c2 sc) (fun n c => x (ix3 0 n c)) (fun c => g1 (ix3 0 0 c))
        (fun c => g2 (ix3 0 0 c)) (fun c => g3 (ix3 0 0 c))) n := by
  unfold rowDrop
  have h := rowScore_at x g1 g2 g3 w1 b1 w2 b2 lg lb a1 c1 a2 c2 sc
  unfold rowScore at h
  refine pay14_at _ _ _ _ n (fun j => ?_) (fun j => ?_) (fun j => pay13_at n j)
  · unfold rowGt; rw [pay11_at, h, h]
  · unfold rowEq; rw [pay12_at, h, h]

/-- The extra token the kernel stores: the softmax of the dropped tokens' scores, over all tokens. -/
theorem rowExtra_at (c : Fin 512) :
    rowExtra x g1 g2 g3 w1 b1 w2 b2 (ix2 0 c) =
      extraK (score (parOf w1 b1 w2 b2 lg lb a1 c1 a2 c2 sc) (fun n c => x (ix3 0 n c)) (fun c => g1 (ix3 0 0 c))
        (fun c => g2 (ix3 0 0 c)) (fun c => g3 (ix3 0 0 c))) (fun n => x (ix3 0 n c)) := by
  unfold rowExtra
  rw [pay15_eq, extraOf_at]
  have hd := rowDrop_at x g1 g2 g3 w1 b1 w2 b2 lg lb a1 c1 a2 c2 sc
  unfold rowDrop at hd
  simp only [extraW_at, rowScore_at x g1 g2 g3 w1 b1 w2 b2 lg lb a1 c1 a2 c2 sc, hd, pay1_at]
  rfl

/-- The aggregated tokens the kernel stores: the softmax of the masked logits, over all tokens. -/
theorem rowAggr_at (k : Fin 115) (c : Fin 512) :
    rowAggr x g1 g2 g3 w1 b1 w2 b2 lg lb a1 c1 a2 c2 sc (ix2 k c) =
      aggrK (score (parOf w1 b1 w2 b2 lg lb a1 c1 a2 c2 sc) (fun n c => x (ix3 0 n c)) (fun c => g1 (ix3 0 0 c))
        (fun c => g2 (ix3 0 0 c)) (fun c => g3 (ix3 0 0 c)))
        (fun n => logit (parOf w1 b1 w2 b2 lg lb a1 c1 a2 c2 sc) (fun c => x (ix3 0 n c)) k)
        (fun n => x (ix3 0 n c)) := by
  unfold rowAggr
  rw [pay21_at]
  simp only [rowDrop_at x g1 g2 g3 w1 b1 w2 b2 lg lb a1 c1 a2 c2 sc, pay19_at, pay1_at]
  rfl

end Row

end Cert.KRow
-- ==== Proof.KPiece.lean ====
module

public import Idealize.ShloMosaic.Lib.WholeRead
public import Idealize.ShloMosaic.Lib.Writes
public import proofs.«01_k».proof.Proof.KRow

@[expose] public section

set_option maxRecDepth 8192

noncomputable section

/-! What one batch entry's two stores put in a grid point's block, as entries of the block's value. -/

namespace Cert.KPiece

open Idealize.ShloMosaic Cert.KernelIdeal Cert.KernelIdeal.Gen Cert.Spec Cert.KRow
open Idealize.ShloMosaic.TcCoe

/-- One entry of a batch entry's result: an aggregated token for the first 115 rows, then the extra one. -/
def outK (p : Par) (v : Fin 576 → Fin 512 → EReal) (g1 g2 g3 : Fin 512 → EReal) (k : ℕ) (c : Fin 512) : EReal :=
  if h : k < 115 then aggrK (score p v g1 g2 g3) (fun n => logit p (v n) ⟨k, h⟩) (fun n => v n c)
  else extraK (score p v g1 g2 g3) (fun n => v n c)

/-- The first 115 rows are the aggregated tokens. -/
theorem outK_lt (p : Par) (v : Fin 576 → Fin 512 → EReal) (g1 g2 g3 : Fin 512 → EReal) (k : Fin 115) (c : Fin 512) :
    outK p v g1 g2 g3 k.val c = aggrK (score p v g1 g2 g3) (fun n => logit p (v n) k) (fun n => v n c) :=
  dif_pos k.isLt

section

variable (x0 : Vec Ideal S8x576x512 .f32) (x1 x2 x3 : Vec Ideal S8x1x512 .f32) (x4 : Vec Ideal S512x128 .f32)
  (x5 : Vec Ideal S1x128 .f32) (x6 : Vec Ideal S128x1 .f32) (x7 : Vec Ideal S1x1 .f32) (x8 x9 : Vec Ideal S1x512 .f32)
  (x10 : Vec Ideal S512x102 .f32) (x11 : Vec Ideal S1x102 .f32) (x12 : Vec Ideal S102x115 .f32)
  (x13 : Vec Ideal S1x115 .f32) (x14 : Vec Ideal S1x1 .f32)

/-- A grid point's block: eight batch entries' results. -/
def blkVal : Vec Ideal S8x116x512 .f32 := fun y =>
  outK (parOf x4 x5 x6 x7 x8 x9 x10 x11 x12 x13 x14) (fun n c => x0 (ix3 (y 0) n c)) (fun c => x1 (ix3 (y 0) 0 c))
    (fun c => x2 (ix3 (y 0) 0 c)) (fun c => x3 (ix3 (y 0) 0 c)) (y 1).val (y 2)

variable {arg1 : Memref sig .tc .vmem S8x576x512 .f32} {arg2 arg3 arg4 : Memref sig .tc .vmem S8x1x512 .f32}
  {arg5 : Memref sig .tc .vmem S512x128 .f32} {arg6 : Memref sig .tc .vmem S1x128 .f32}
  {arg7 : Memref sig .tc .vmem S128x1 .f32} {arg8 : Memref sig .tc .vmem S1x1 .f32}
  {arg9 arg10 : Memref sig .tc .vmem S1x512 .f32} {arg11 : Memref sig .tc .vmem S512x102 .f32}
  {arg12 : Memref sig .tc .vmem S1x102 .f32} {arg13 : Memref sig .tc .vmem S102x115 .f32}
  {arg14 : Memref sig .tc .vmem S1x115 .f32} {arg15 : Memref sig .tc .vmem S1x1 .f32}

/-- A load of a whole matrix reads it. -/
theorem load_all {a b : ℕ} {m : Memref sig .tc .vmem (⟨2, ![a, b]⟩ : Shape) .f32} (h : m.IsWhole)
    (X : Vec Ideal (⟨2, ![a, b]⟩ : Shape) .f32)
    (hb : ∀ i, (![0, 0] : Fin 2 → ℕ) i + (![a, b] : Fin 2 → ℕ) i ≤ (⟨2, ![a, b]⟩ : Shape).size i) :
    View.readAt (Elt Ideal) m.view (Rect.unit (s := ⟨2, ![a, b]⟩) ![0, 0] ![a, b] hb).toLoadRect (h.unread X) = X := by
  funext x
  rw [h.readAt_unread]
  refine congrArg X (funext fun i => Fin.ext ?_)
  match i with
  | ⟨0, _⟩ => exact (Nat.zero_add _).trans (Nat.one_mul _)
  | ⟨1, _⟩ => exact (Nat.zero_add _).trans (Nat.one_mul _)

/-- A load of row `r` of a stack of matrices reads that row. -/
theorem load_row {a b c r : ℕ} {m : Memref sig .tc .vmem (⟨3, ![a, b, c]⟩ : Shape) .f32} (h : m.IsWhole)
    (X : Vec Ideal (⟨3, ![a, b, c]⟩ : Shape) .f32)
    (hb : ∀ i, (![r, 0, 0] : Fin 3 → ℕ) i + (![1, b, c] : Fin 3 → ℕ) i ≤ (⟨3, ![a, b, c]⟩ : Shape).size i) (hr : r < a)
    (j : Fin b) (k : Fin c) :
    View.readAt (Elt Ideal) m.view (Rect.unit (s := ⟨3, ![a, b, c]⟩) ![r, 0, 0] ![1, b, c] hb).toLoadRect (h.unread X)
      (ix3 0 j k) = X (ix3 ⟨r, hr⟩ j k) := by
  rw [h.readAt_unread]
  refine congrArg X (funext fun i => Fin.ext ?_)
  match i with
  | ⟨0, _⟩ => exact congrArg (r + ·) (Nat.mul_zero 1)
  | ⟨1, _⟩ => exact (Nat.zero_add _).trans (Nat.one_mul _)
  | ⟨2, _⟩ => exact (Nat.zero_add _).trans (Nat.one_mul _)

variable (harg1 : arg1.IsWhole) (harg2 : arg2.IsWhole) (harg3 : arg3.IsWhole) (harg4 : arg4.IsWhole)
  (harg5 : arg5.IsWhole) (harg6 : arg6.IsWhole) (harg7 : arg7.IsWhole) (harg8 : arg8.IsWhole)
  (harg9 : arg9.IsWhole) (harg10 : arg10.IsWhole) (harg11 : arg11.IsWhole) (harg12 : arg12.IsWhole)
  (harg13 : arg13.IsWhole) (harg14 : arg14.IsWhole) (harg15 : arg15.IsWhole)

/-- Batch entry `r`'s extra token, from the loads. -/
def extraAt (r : ℕ) (hx : ∀ i, (![r, 0, 0] : Fin 3 → ℕ) i + (![1, 576, 512] : Fin 3 → ℕ) i ≤ S8x576x512.size i)
    (hg : ∀ i, (![r, 0, 0] : Fin 3 → ℕ) i + (![1, 1, 512] : Fin 3 → ℕ) i ≤ S8x1x512.size i) : FVec Ideal S1x512 .f32 :=
  rowExtra
    (View.readAt (Elt Ideal) arg1.view (Rect.unit (s := S8x576x512) ![r, 0, 0] S1x576x512.size hx).toLoadRect (harg1.unread x0))
    (View.readAt (Elt Ideal) arg2.view (Rect.unit (s := S8x1x512) ![r, 0, 0] S1x1x512.size hg).toLoadRect (harg2.unread x1))
    (View.readAt (Elt Ideal) arg3.view (Rect.unit (s := S8x1x512) ![r, 0, 0] S1x1x512.size hg).toLoadRect (harg3.unread x2))
    (View.readAt (Elt Ideal) arg4.view (Rect.unit (s := S8x1x512) ![r, 0, 0] S1x1x512.size hg).toLoadRect (harg4.unread x3))
    (View.readAt (Elt Ideal) arg5.view (Rect.unit (s := S512x128) ![0, 0] S512x128.size inb_S512x128_S512x128_0_0).toLoadRect (harg5.unread x4))
    (View.readAt (Elt Ideal) arg6.view (Rect.unit (s := S1x128) ![0, 0] S1x128.size inb_S1x128_S1x128_0_0).toLoadRect (harg6.unread x5))
    (View.readAt (Elt Ideal) arg7.view (Rect.unit (s := S128x1) ![0, 0] S128x1.size inb_S128x1_S128x1_0_0).toLoadRect (harg7.unread x6))
    (View.readAt (Elt Ideal) arg8.view (Rect.unit (s := S1x1) ![0, 0] S1x1.size inb_S1x1_S1x1_0_0).toLoadRect (harg8.unread x7))

/-- Batch entry `r`'s aggregated tokens, from the loads. -/
def aggrAt (r : ℕ) (hx : ∀ i, (![r, 0, 0] : Fin 3 → ℕ) i + (![1, 576, 512] : Fin 3 → ℕ) i ≤ S8x576x512.size i)
    (hg : ∀ i, (![r, 0, 0] : Fin 3 → ℕ) i + (![1, 1, 512] : Fin 3 → ℕ) i ≤ S8x1x512.size i) : FVec Ideal S115x512 .f32 :=
  rowAggr
    (View.readAt (Elt Ideal) arg1.view (Rect.unit (s := S8x576x512) ![r, 0, 0] S1x576x512.size hx).toLoadRect (harg1.unread x0))
    (View.readAt (Elt Ideal) arg2.view (Rect.unit (s := S8x1x512) ![r, 0, 0] S1x1x512.size hg).toLoadRect (harg2.unread x1))
    (View.readAt (Elt Ideal) arg3.view (Rect.unit (s := S8x1x512) ![r, 0, 0] S1x1x512.size hg).toLoadRect (harg3.unread x2))
    (View.readAt (Elt Ideal) arg4.view (Rect.unit (s := S8x1x512) ![r, 0, 0] S1x1x512.size hg).toLoadRect (harg4.unread x3))
    (View.readAt (Elt Ideal) arg5.view (Rect.unit (s := S512x128) ![0, 0] S512x128.size inb_S512x128_S512x128_0_0).toLoadRect (harg5.unread x4))
    (View.readAt (Elt Ideal) arg6.view (Rect.unit (s := S1x128) ![0, 0] S1x128.size inb_S1x128_S1x128_0_0).toLoadRect (harg6.unread x5))
    (View.readAt (Elt Ideal) arg7.view (Rect.unit (s := S128x1) ![0, 0] S128x1.size inb_S128x1_S128x1_0_0).toLoadRect (harg7.unread x6))
    (View.readAt (Elt Ideal) arg8.view (Rect.unit (s := S1x1) ![0, 0] S1x1.size inb_S1x1_S1x1_0_0).toLoadRect (harg8.unread x7))
    (View.readAt (Elt Ideal) arg9.view (Rect.unit (s := S1x512) ![0, 0] S1x512.size inb_S1x512_S1x512_0_0).toLoadRect (harg9.unread x8))
    (View.readAt (Elt Ideal) arg10.view (Rect.unit (s := S1x512) ![0, 0] S1x512.size inb_S1x512_S1x512_0_0).toLoadRect (harg10.unread x9))
    (View.readAt (Elt Ideal) arg11.view (Rect.unit (s := S512x102) ![0, 0] S512x102.size inb_S512x102_S512x102_0_0).toLoadRect (harg11.unread x10))
    (View.readAt (Elt Ideal) arg12.view (Rect.unit (s := S1x102) ![0, 0] S1x102.size inb_S1x102_S1x102_0_0).toLoadRect (harg12.unread x11))
    (View.readAt (Elt Ideal) arg13.view (Rect.unit (s := S102x115) ![0, 0] S102x115.size inb_S102x115_S102x115_0_0).toLoadRect (harg13.unread x12))
    (View.readAt (Elt Ideal) arg14.view (Rect.unit (s := S1x115) ![0, 0] S1x115.size inb_S1x115_S1x115_0_0).toLoadRect (harg14.unread x13))
    (View.readAt (Elt Ideal) arg15.view (Rect.unit (s := S1x1) ![0, 0] S1x1.size inb_S1x1_S1x1_0_0).toLoadRect (harg15.unread x14))

/-- The extra token's entries are the block's. -/
theorem extraAt_eq (r : ℕ) (hr : r < 8) (hx) (hg) (c : Fin 512) :
    extraAt x0 x1 x2 x3 x4 x5 x6 x7 harg1 harg2 harg3 harg4 harg5 harg6 harg7 harg8 r hx hg (ix2 0 c) =
      blkVal x0 x1 x2 x3 x4 x5 x6 x7 x8 x9 x10 x11 x12 x13 x14 (ix3 ⟨r, hr⟩ 115 c) := by
  unfold extraAt
  rw [rowExtra_at (lg := x8) (lb := x9) (a1 := x10) (c1 := x11) (a2 := x12) (c2 := x13) (sc := x14)]
  rw [load_all harg5, load_all harg6, load_all harg7, load_all harg8]
  simp only [load_row harg1 x0 hx hr, load_row harg2 x1 hg hr, load_row harg3 x2 hg hr, load_row harg4 x3 hg hr]
  rfl

/-- The aggregated tokens' entries are the block's. -/
theorem aggrAt_eq (r : ℕ) (hr : r < 8) (hx) (hg) (k : Fin 115) (c : Fin 512) :
    aggrAt x0 x1 x2 x3 x4 x5 x6 x7 x8 x9 x10 x11 x12 x13 x14 harg1 harg2 harg3 harg4 harg5 harg6 harg7 harg8 harg9 harg10
        harg11 harg12 harg13 harg14 harg15 r hx hg (ix2 k c) =
      blkVal x0 x1 x2 x3 x4 x5 x6 x7 x8 x9 x10 x11 x12 x13 x14 (ix3 ⟨r, hr⟩ ⟨k.val, by have := k.isLt; omega⟩ c) := by
  unfold aggrAt
  rw [rowAggr_at, load_all harg5, load_all harg6, load_all harg7, load_all harg8, load_all harg9, load_all harg10,
    load_all harg11, load_all harg12, load_all harg13, load_all harg14, load_all harg15]
  simp only [load_row harg1 x0 hx hr, load_row harg2 x1 hg hr, load_row harg3 x2 hg hr, load_row harg4 x3 hg hr]
  exact (outK_lt _ _ _ _ _ k c).symm

/-- The extra token's store puts the block's values in place. -/
theorem piece_extra (r : ℕ) (hr : r < 8) (hx) (hg) (hb) (hi) (h0) (hs) (h₀) (hR : ((Rect.unit (s := S116x512) ![115, 0] S1x512.size hi).consLift ![1, 116, 512] h0 hs).shape.numel = (Rect.unit (s := S116x512) ![115, 0] S1x512.size hi).shape.numel) (w : FVec Ideal S1x512 .f32)
    (hw : w = extraAt x0 x1 x2 x3 x4 x5 x6 x7 harg1 harg2 harg3 harg4 harg5 harg6 harg7 harg8 r hx hg)
    (z : (Rect.within (Rect.unit (s := S8x116x512) ![r, 0, 0] S1x116x512.size hb)
      ((Rect.unit (s := S116x512) ![115, 0] S1x512.size hi).consLift ![1, 116, 512] h0 hs) h₀).shape.Idx) :
    Rect.payAlong hR w z = blkVal x0 x1 x2 x3 x4 x5 x6 x7 x8 x9 x10 x11 x12 x13 x14
      ((Rect.within (Rect.unit (s := S8x116x512) ![r, 0, 0] S1x116x512.size hb)
      ((Rect.unit (s := S116x512) ![115, 0] S1x512.size hi).consLift ![1, 116, 512] h0 hs) h₀).emb z) := by
  subst hw
  have h1 : (z 1).val = 0 := Nat.lt_one_iff.1 (z 1).isLt
  have hz0 : (z 0).val = 0 := Nat.lt_one_iff.1 (z 0).isLt
  refine (Rect.payAlong_consLift (Rect.unit (s := S116x512) ![115, 0] S1x512.size hi) ![1, 116, 512] h0 hs _ hR z
    (ix2 0 (z 2)) ?_).trans ?_
  · intro i
    match i with
    | ⟨0, _⟩ => exact h1.symm
    | ⟨1, _⟩ => rfl
  · refine (extraAt_eq x0 x1 x2 x3 x4 x5 x6 x7 x8 x9 x10 x11 x12 x13 x14 harg1 harg2 harg3 harg4 harg5 harg6 harg7 harg8 r hr hx hg (z 2)).trans ?_
    refine congrArg _ (funext fun i => Fin.ext ?_)
    match i with
    | ⟨0, _⟩ =>
      show r = r + 0 + 1 * (z 0).val
      omega
    | ⟨1, _⟩ =>
      show 115 = 0 + 115 + 1 * (z 1).val
      omega
    | ⟨2, _⟩ =>
      show (z 2).val = 0 + 0 + 1 * (z 2).val
      omega

/-- The aggregated tokens' store puts the block's values in place. -/
theorem piece_aggr (r : ℕ) (hr : r < 8) (hx) (hg) (hb) (hi) (h0) (hs) (h₀) (hR : ((Rect.unit (s := S116x512) ![0, 0] S115x512.size hi).consLift ![1, 116, 512] h0 hs).shape.numel = (Rect.unit (s := S116x512) ![0, 0] S115x512.size hi).shape.numel) (w : FVec Ideal S115x512 .f32)
    (hw : w = aggrAt x0 x1 x2 x3 x4 x5 x6 x7 x8 x9 x10 x11 x12 x13 x14 harg1 harg2 harg3 harg4 harg5 harg6 harg7 harg8
      harg9 harg10 harg11 harg12 harg13 harg14 harg15 r hx hg)
    (z : (Rect.within (Rect.unit (s := S8x116x512) ![r, 0, 0] S1x116x512.size hb)
      ((Rect.unit (s := S116x512) ![0, 0] S115x512.size hi).consLift ![1, 116, 512] h0 hs) h₀).shape.Idx) :
    Rect.payAlong hR w z = blkVal x0 x1 x2 x3 x4 x5 x6 x7 x8 x9 x10 x11 x12 x13 x14
      ((Rect.within (Rect.unit (s := S8x116x512) ![r, 0, 0] S1x116x512.size hb)
      ((Rect.unit (s := S116x512) ![0, 0] S115x512.size hi).consLift ![1, 116, 512] h0 hs) h₀).emb z) := by
  subst hw
  have hz0 : (z 0).val = 0 := Nat.lt_one_iff.1 (z 0).isLt
  refine (Rect.payAlong_consLift (Rect.unit (s := S116x512) ![0, 0] S115x512.size hi) ![1, 116, 512] h0 hs _ hR z
    (ix2 (z 1) (z 2)) ?_).trans ?_
  · intro i
    match i with
    | ⟨0, _⟩ => rfl
    | ⟨1, _⟩ => rfl
  · refine (aggrAt_eq x0 x1 x2 x3 x4 x5 x6 x7 x8 x9 x10 x11 x12 x13 x14 harg1 harg2 harg3 harg4 harg5 harg6 harg7 harg8
      harg9 harg10 harg11 harg12 harg13 harg14 harg15 r hr hx hg (z 1) (z 2)).trans ?_
    refine congrArg _ (funext fun i => Fin.ext ?_)
    match i with
    | ⟨0, _⟩ =>
      show r = r + 0 + 1 * (z 0).val
      omega
    | ⟨1, _⟩ =>
      show (z 1).val = 0 + 0 + 1 * (z 1).val
      omega
    | ⟨2, _⟩ =>
      show (z 2).val = 0 + 0 + 1 * (z 2).val
      omega

end

end Cert.KPiece
-- ==== Proof.KBlock0.lean ====
module

public import proofs.«01_k».proof.Proof.KPiece
public import proofs.«01_k».proof.Proof.Gen.KernelIdeal.Frame

@[expose] public section

set_option maxRecDepth 65536

noncomputable section

/-! The kernel's region 0: what one grid point leaves in the output's block. -/

namespace Cert.KBlock0

open Idealize.ShloMosaic Cert.KernelIdeal Cert.KernelIdeal.Gen Cert.Spec Cert.KRow Cert.KPiece
open Idealize.ShloMosaic.TcCoe Idealize.SL.Sem

set_option maxHeartbeats 4000000 in
/-- Region 0's block holds its eight batch entries' results. -/
theorem block (c : Dev nD) (i : grid0.Coords) (arg1 : Memref sig .tc .vmem S8x576x512 .f32) (harg1 : arg1.IsWhole) (arg2 : Memref sig .tc .vmem S8x1x512 .f32) (harg2 : arg2.IsWhole) (arg3 : Memref sig .tc .vmem S8x1x512 .f32) (harg3 : arg3.IsWhole) (arg4 : Memref sig .tc .vmem S8x1x512 .f32) (harg4 : arg4.IsWhole) (arg5 : Memref sig .tc .vmem S512x128 .f32) (harg5 : arg5.IsWhole) (arg6 : Memref sig .tc .vmem S1x128 .f32) (harg6 : arg6.IsWhole) (arg7 : Memref sig .tc .vmem S128x1 .f32) (harg7 : arg7.IsWhole) (arg8 : Memref sig .tc .vmem S1x1 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x102 .f32) (harg11 : arg11.IsWhole) (arg12 : Memref sig .tc .vmem S1x102 .f32) (harg12 : arg12.IsWhole) (arg13 : Memref sig .tc .vmem S102x115 .f32) (harg13 : arg13.IsWhole) (arg14 : Memref sig .tc .vmem S1x115 .f32) (harg14 : arg14.IsWhole) (arg15 : Memref sig .tc .vmem S1x1 .f32) (harg15 : arg15.IsWhole) (arg16 : Memref sig .tc .vmem S8x116x512 .f32) (harg16 : arg16.IsWhole)
    (x0 : Vec Ideal S8x576x512 .f32) (x1 : Vec Ideal S8x1x512 .f32) (x2 : Vec Ideal S8x1x512 .f32) (x3 : Vec Ideal S8x1x512 .f32) (x4 : Vec Ideal S512x128 .f32) (x5 : Vec Ideal S1x128 .f32) (x6 : Vec Ideal S128x1 .f32) (x7 : Vec Ideal S1x1 .f32) (x8 : Vec Ideal S1x512 .f32) (x9 : Vec Ideal S1x512 .f32) (x10 : Vec Ideal S512x102 .f32) (x11 : Vec Ideal S1x102 .f32) (x12 : Vec Ideal S102x115 .f32) (x13 : Vec Ideal S1x115 .f32) (x14 : Vec Ideal S1x1 .f32) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 = blkVal x0 x1 x2 x3 x4 x5 x6 x7 x8 x9 x10 x11 x12 x13 x14 := by
  funext y
  refine View.read_writes_apply_of_pieces (v := VO0_15) (Val := Elt Ideal) _ (blkVal x0 x1 x2 x3 x4 x5 x6 x7 x8 x9 x10 x11 x12 x13 x14) _ ?_ y (cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 y)
  refine List.forall_mem_cons.2 ⟨fun z => ?_, ?_⟩
  · exact piece_extra x0 x1 x2 x3 x4 x5 x6 x7 x8 x9 x10 x11 x12 x13 x14 harg1 harg2 harg3 harg4 harg5 harg6 harg7 harg8 7 (by decide) inb_S8x576x512_S1x576x512_7_0_0 inb_S8x1x512_S1x1x512_7_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 7 (by decide) inb_S8x576x512_S1x576x512_7_0_0 inb_S8x1x512_S1x1x512_7_0_0 _ _ _ _ (fun _ => rfl) _ _ rfl z
  refine List.forall_mem_cons.2 ⟨fun z => ?_, ?_⟩
  · exact piece_extra x0 x1 x2 x3 x4 x5 x6 x7 x8 x9 x10 x11 x12 x13 x14 harg1 harg2 harg3 harg4 harg5 harg6 harg7 harg8 6 (by decide) inb_S8x576x512_S1x576x512_6_0_0 inb_S8x1x512_S1x1x512_6_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 6 (by decide) inb_S8x576x512_S1x576x512_6_0_0 inb_S8x1x512_S1x1x512_6_0_0 _ _ _ _ (fun _ => rfl) _ _ rfl z
  refine List.forall_mem_cons.2 ⟨fun z => ?_, ?_⟩
  · exact piece_extra x0 x1 x2 x3 x4 x5 x6 x7 x8 x9 x10 x11 x12 x13 x14 harg1 harg2 harg3 harg4 harg5 harg6 harg7 harg8 5 (by decide) inb_S8x576x512_S1x576x512_5_0_0 inb_S8x1x512_S1x1x512_5_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 5 (by decide) inb_S8x576x512_S1x576x512_5_0_0 inb_S8x1x512_S1x1x512_5_0_0 _ _ _ _ (fun _ => rfl) _ _ rfl z
  refine List.forall_mem_cons.2 ⟨fun z => ?_, ?_⟩
  · exact piece_extra x0 x1 x2 x3 x4 x5 x6 x7 x8 x9 x10 x11 x12 x13 x14 harg1 harg2 harg3 harg4 harg5 harg6 harg7 harg8 4 (by decide) inb_S8x576x512_S1x576x512_4_0_0 inb_S8x1x512_S1x1x512_4_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 4 (by decide) inb_S8x576x512_S1x576x512_4_0_0 inb_S8x1x512_S1x1x512_4_0_0 _ _ _ _ (fun _ => rfl) _ _ rfl z
  refine List.forall_mem_cons.2 ⟨fun z => ?_, ?_⟩
  · exact piece_extra x0 x1 x2 x3 x4 x5 x6 x7 x8 x9 x10 x11 x12 x13 x14 harg1 harg2 harg3 harg4 harg5 harg6 harg7 harg8 3 (by decide) inb_S8x576x512_S1x576x512_3_0_0 inb_S8x1x512_S1x1x512_3_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 3 (by decide) inb_S8x576x512_S1x576x512_3_0_0 inb_S8x1x512_S1x1x512_3_0_0 _ _ _ _ (fun _ => rfl) _ _ rfl z
  refine List.forall_mem_cons.2 ⟨fun z => ?_, ?_⟩
  · exact piece_extra x0 x1 x2 x3 x4 x5 x6 x7 x8 x9 x10 x11 x12 x13 x14 harg1 harg2 harg3 harg4 harg5 harg6 harg7 harg8 2 (by decide) inb_S8x576x512_S1x576x512_2_0_0 inb_S8x1x512_S1x1x512_2_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 2 (by decide) inb_S8x576x512_S1x576x512_2_0_0 inb_S8x1x512_S1x1x512_2_0_0 _ _ _ _ (fun _ => rfl) _ _ rfl z
  refine List.forall_mem_cons.2 ⟨fun z => ?_, ?_⟩
  · exact piece_extra x0 x1 x2 x3 x4 x5 x6 x7 x8 x9 x10 x11 x12 x13 x14 harg1 harg2 harg3 harg4 harg5 harg6 harg7 harg8 1 (by decide) inb_S8x576x512_S1x576x512_1_0_0 inb_S8x1x512_S1x1x512_1_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 1 (by decide) inb_S8x576x512_S1x576x512_1_0_0 inb_S8x1x512_S1x1x512_1_0_0 _ _ _ _ (fun _ => rfl) _ _ rfl z
  refine List.forall_mem_cons.2 ⟨fun z => ?_, ?_⟩
  · exact piece_extra x0 x1 x2 x3 x4 x5 x6 x7 x8 x9 x10 x11 x12 x13 x14 harg1 harg2 harg3 harg4 harg5 harg6 harg7 harg8 0 (by decide) inb_S8x576x512_S1x576x512_0_0_0 inb_S8x1x512_S1x1x512_0_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 0 (by decide) inb_S8x576x512_S1x576x512_0_0_0 inb_S8x1x512_S1x1x512_0_0_0 _ _ _ _ (fun _ => rfl) _ _ rfl z
  exact fun p hp => absurd hp List.not_mem_nil

end Cert.KBlock0
-- ==== Proof.KArrVal.lean ====
module

public import proofs.«01_k».proof.Proof.KPiece

@[expose] public section

set_option maxRecDepth 8192

noncomputable section

/-! The kernel's output array, in terms of the arrays its windows read. -/

namespace Cert.KArr

open Idealize.ShloMosaic Cert.KernelIdeal Cert.KernelIdeal.Gen Cert.Spec Cert.KRow Cert.KPiece

/-- Batch entry `r` of grid point `t`. -/
def rowOf (t r : Fin 8) : Fin 64 := ⟨t.val * 8 + r.val, by have := t.isLt; have := r.isLt; omega⟩

/-- The output array: 64 batch entries' results. -/
def arrVal (X0 : Vec Ideal S64x576x512 .f32) (X1 X2 X3 : Vec Ideal S64x1x512 .f32)
    (X4 : Vec Ideal S512x128 .f32) (X5 : Vec Ideal S1x128 .f32) (X6 : Vec Ideal S128x1 .f32) (X7 : Vec Ideal S1x1 .f32) (X8 : Vec Ideal S1x512 .f32) (X9 : Vec Ideal S1x512 .f32) (X10 : Vec Ideal S512x102 .f32) (X11 : Vec Ideal S1x102 .f32) (X12 : Vec Ideal S102x115 .f32) (X13 : Vec Ideal S1x115 .f32) (X14 : Vec Ideal S1x1 .f32) : Vec Ideal S64x116x512 .f32 := fun y =>
  outK (parOf X4 X5 X6 X7 X8 X9 X10 X11 X12 X13 X14) (fun n c => X0 (ix3 (y 0) n c)) (fun c => X1 (ix3 (y 0) 0 c))
    (fun c => X2 (ix3 (y 0) 0 c)) (fun c => X3 (ix3 (y 0) 0 c)) (y 1).val (y 2)

/-- A grid point's block is the array's, where the point's blocks are the arrays'. -/
theorem blk_arr (x0 : Vec Ideal S8x576x512 .f32) (x1 x2 x3 : Vec Ideal S8x1x512 .f32)
    (x4 : Vec Ideal S512x128 .f32) (x5 : Vec Ideal S1x128 .f32) (x6 : Vec Ideal S128x1 .f32) (x7 : Vec Ideal S1x1 .f32) (x8 : Vec Ideal S1x512 .f32) (x9 : Vec Ideal S1x512 .f32) (x10 : Vec Ideal S512x102 .f32) (x11 : Vec Ideal S1x102 .f32) (x12 : Vec Ideal S102x115 .f32) (x13 : Vec Ideal S1x115 .f32) (x14 : Vec Ideal S1x1 .f32)
    (X0 : Vec Ideal S64x576x512 .f32) (X1 X2 X3 : Vec Ideal S64x1x512 .f32)
    (X4 : Vec Ideal S512x128 .f32) (X5 : Vec Ideal S1x128 .f32) (X6 : Vec Ideal S128x1 .f32) (X7 : Vec Ideal S1x1 .f32) (X8 : Vec Ideal S1x512 .f32) (X9 : Vec Ideal S1x512 .f32) (X10 : Vec Ideal S512x102 .f32) (X11 : Vec Ideal S1x102 .f32) (X12 : Vec Ideal S102x115 .f32) (X13 : Vec Ideal S1x115 .f32) (X14 : Vec Ideal S1x1 .f32)
    (t r : Fin 8) (k : Fin 116) (d : Fin 512)
    (h0 : ∀ n c, x0 (ix3 r n c) = X0 (ix3 (rowOf t r) n c)) (h1 : ∀ c, x1 (ix3 r 0 c) = X1 (ix3 (rowOf t r) 0 c))
    (h2 : ∀ c, x2 (ix3 r 0 c) = X2 (ix3 (rowOf t r) 0 c)) (h3 : ∀ c, x3 (ix3 r 0 c) = X3 (ix3 (rowOf t r) 0 c))
    (h4 : x4 = X4) (h5 : x5 = X5) (h6 : x6 = X6) (h7 : x7 = X7) (h8 : x8 = X8) (h9 : x9 = X9) (h10 : x10 = X10) (h11 : x11 = X11) (h12 : x12 = X12) (h13 : x13 = X13) (h14 : x14 = X14) :
    blkVal x0 x1 x2 x3 x4 x5 x6 x7 x8 x9 x10 x11 x12 x13 x14 (ix3 r k d) = arrVal X0 X1 X2 X3 X4 X5 X6 X7 X8 X9 X10 X11 X12 X13 X14 (ix3 (rowOf t r) k d) := by
  subst h4 h5 h6 h7 h8 h9 h10 h11 h12 h13 h14
  show outK _ (fun n c => x0 (ix3 r n c)) (fun c => x1 (ix3 r 0 c)) (fun c => x2 (ix3 r 0 c)) (fun c => x3 (ix3 r 0 c)) k.val d
    = outK _ (fun n c => X0 (ix3 (rowOf t r) n c)) (fun c => X1 (ix3 (rowOf t r) 0 c)) (fun c => X2 (ix3 (rowOf t r) 0 c))
      (fun c => X3 (ix3 (rowOf t r) 0 c)) k.val d
  simp only [h0, h1, h2, h3]

end Cert.KArr
-- ==== Proof.KArr0.lean ====
module

public import proofs.«01_k».proof.Proof.KBlock0
public import proofs.«01_k».proof.Proof.KArrVal

@[expose] public section

set_option maxRecDepth 65536

noncomputable section

/-! The kernel's region 0: what it leaves in its output array, in terms of the arrays its windows read. -/

namespace Cert.KArr0

open Idealize.ShloMosaic Cert.KernelIdeal Cert.KernelIdeal.Gen Cert.Spec Cert.KRow Cert.KPiece Cert.KArr
open Idealize.ShloMosaic.TcCoe Idealize.SL.Sem Idealize.ShloMosaic.Pipeline

variable (V : (c : Dev nD) → (b : Ref sig .tc) → Buf (Elt Ideal) ((c : Thread nD τ).loc b)) (c : Dev nD)

/-- Window 0's block at point `t` is the point's eight batch entries. -/
theorem idx0 (t : Fin cfg0.N) : win0_0.index t 0 = t.val ∧ win0_0.index t 1 = 0 ∧ win0_0.index t 2 = 0 := by
  rcases fin_N0 t with rfl | rfl | rfl | rfl | rfl | rfl | rfl | rfl <;> decide +kernel

/-- Window 1's block at point `t` is the point's eight batch entries. -/
theorem idx1 (t : Fin cfg0.N) : win0_1.index t 0 = t.val ∧ win0_1.index t 1 = 0 ∧ win0_1.index t 2 = 0 := by
  rcases fin_N0 t with rfl | rfl | rfl | rfl | rfl | rfl | rfl | rfl <;> decide +kernel

/-- Window 2's block at point `t` is the point's eight batch entries. -/
theorem idx2 (t : Fin cfg0.N) : win0_2.index t 0 = t.val ∧ win0_2.index t 1 = 0 ∧ win0_2.index t 2 = 0 := by
  rcases fin_N0 t with rfl | rfl | rfl | rfl | rfl | rfl | rfl | rfl <;> decide +kernel

/-- Window 3's block at point `t` is the point's eight batch entries. -/
theorem idx3 (t : Fin cfg0.N) : win0_3.index t 0 = t.val ∧ win0_3.index t 1 = 0 ∧ win0_3.index t 2 = 0 := by
  rcases fin_N0 t with rfl | rfl | rfl | rfl | rfl | rfl | rfl | rfl <;> decide +kernel

/-- Window 15's block at point `t` is the point's eight batch entries. -/
theorem idx15 (t : Fin cfg0.N) : win0_15.index t 0 = t.val ∧ win0_15.index t 1 = 0 ∧ win0_15.index t 2 = 0 := by
  rcases fin_N0 t with rfl | rfl | rfl | rfl | rfl | rfl | rfl | rfl <;> decide +kernel

/-- Window 4's block is its whole array. -/
theorem idx4 (t : Fin cfg0.N) : win0_4.index t 0 = 0 ∧ win0_4.index t 1 = 0 := by
  rcases fin_N0 t with rfl | rfl | rfl | rfl | rfl | rfl | rfl | rfl <;> decide +kernel

/-- Window 5's block is its whole array. -/
theorem idx5 (t : Fin cfg0.N) : win0_5.index t 0 = 0 ∧ win0_5.index t 1 = 0 := by
  rcases fin_N0 t with rfl | rfl | rfl | rfl | rfl | rfl | rfl | rfl <;> decide +kernel

/-- Window 6's block is its whole array. -/
theorem idx6 (t : Fin cfg0.N) : win0_6.index t 0 = 0 ∧ win0_6.index t 1 = 0 := by
  rcases fin_N0 t with rfl | rfl | rfl | rfl | rfl | rfl | rfl | rfl <;> decide +kernel

/-- Window 7's block is its whole array. -/
theorem idx7 (t : Fin cfg0.N) : win0_7.index t 0 = 0 ∧ win0_7.index t 1 = 0 := by
  rcases fin_N0 t with rfl | rfl | rfl | rfl | rfl | rfl | rfl | rfl <;> decide +kernel

/-- Window 8's block is its whole array. -/
theorem idx8 (t : Fin cfg0.N) : win0_8.index t 0 = 0 ∧ win0_8.index t 1 = 0 := by
  rcases fin_N0 t with rfl | rfl | rfl | rfl | rfl | rfl | rfl | rfl <;> decide +kernel

/-- Window 9's block is its whole array. -/
theorem idx9 (t : Fin cfg0.N) : win0_9.index t 0 = 0 ∧ win0_9.index t 1 = 0 := by
  rcases fin_N0 t with rfl | rfl | rfl | rfl | rfl | rfl | rfl | rfl <;> decide +kernel

/-- Window 10's block is its whole array. -/
theorem idx10 (t : Fin cfg0.N) : win0_10.index t 0 = 0 ∧ win0_10.index t 1 = 0 := by
  rcases fin_N0 t with rfl | rfl | rfl | rfl | rfl | rfl | rfl | rfl <;> decide +kernel

/-- Window 11's block is its whole array. -/
theorem idx11 (t : Fin cfg0.N) : win0_11.index t 0 = 0 ∧ win0_11.index t 1 = 0 := by
  rcases fin_N0 t with rfl | rfl | rfl | rfl | rfl | rfl | rfl | rfl <;> decide +kernel

/-- Window 12's block is its whole array. -/
theorem idx12 (t : Fin cfg0.N) : win0_12.index t 0 = 0 ∧ win0_12.index t 1 = 0 := by
  rcases fin_N0 t with rfl | rfl | rfl | rfl | rfl | rfl | rfl | rfl <;> decide +kernel

/-- Window 13's block is its whole array. -/
theorem idx13 (t : Fin cfg0.N) : win0_13.index t 0 = 0 ∧ win0_13.index t 1 = 0 := by
  rcases fin_N0 t with rfl | rfl | rfl | rfl | rfl | rfl | rfl | rfl <;> decide +kernel

/-- Window 14's block is its whole array. -/
theorem idx14 (t : Fin cfg0.N) : win0_14.index t 0 = 0 ∧ win0_14.index t 1 = 0 := by
  rcases fin_N0 t with rfl | rfl | rfl | rfl | rfl | rfl | rfl | rfl <;> decide +kernel

theorem lt8 (t : Fin cfg0.N) : t.val < 8 := Nat.lt_of_lt_of_eq t.isLt N_0

/-- Window 0's block, read. -/
theorem blk0 (t : Fin cfg0.N) (r : Fin 8) (n : Fin 576) (d : Fin 512) :
    iblk0 V c 0 t (ix3 r n d : S8x576x512.Idx) = V c main_arg0 (ix3 (rowOf ⟨t.val, lt8 t⟩ r) n d) := by
  refine congrArg (V c main_arg0) (funext fun a => Fin.ext ?_)
  have h := idx0 t
  match a with
  | ⟨0, _⟩ => exact (Window.rect_emb_val win0_0 t (ix3 r n d : S8x576x512.Idx) 0).trans (by rw [h.1]; rfl)
  | ⟨1, _⟩ => exact (Window.rect_emb_val win0_0 t (ix3 r n d : S8x576x512.Idx) 1).trans (by rw [h.2.1, Nat.zero_mul, Nat.zero_add]; rfl)
  | ⟨2, _⟩ => exact (Window.rect_emb_val win0_0 t (ix3 r n d : S8x576x512.Idx) 2).trans (by rw [h.2.2, Nat.zero_mul, Nat.zero_add]; rfl)

/-- Window 1's block, read. -/
theorem blk1 (t : Fin cfg0.N) (r : Fin 8) (n : Fin 1) (d : Fin 512) :
    iblk0 V c 1 t (ix3 r n d : S8x1x512.Idx) = V c main_v29 (ix3 (rowOf ⟨t.val, lt8 t⟩ r) n d) := by
  refine congrArg (V c main_v29) (funext fun a => Fin.ext ?_)
  have h := idx1 t
  match a with
  | ⟨0, _⟩ => exact (Window.rect_emb_val win0_1 t (ix3 r n d : S8x1x512.Idx) 0).trans (by rw [h.1]; rfl)
  | ⟨1, _⟩ => exact (Window.rect_emb_val win0_1 t (ix3 r n d : S8x1x512.Idx) 1).trans (by rw [h.2.1, Nat.zero_mul, Nat.zero_add]; rfl)
  | ⟨2, _⟩ => exact (Window.rect_emb_val win0_1 t (ix3 r n d : S8x1x512.Idx) 2).trans (by rw [h.2.2, Nat.zero_mul, Nat.zero_add]; rfl)

/-- Window 2's block, read. -/
theorem blk2 (t : Fin cfg0.N) (r : Fin 8) (n : Fin 1) (d : Fin 512) :
    iblk0 V c 2 t (ix3 r n d : S8x1x512.Idx) = V c main_v30 (ix3 (rowOf ⟨t.val, lt8 t⟩ r) n d) := by
  refine congrArg (V c main_v30) (funext fun a => Fin.ext ?_)
  have h := idx2 t
  match a with
  | ⟨0, _⟩ => exact (Window.rect_emb_val win0_2 t (ix3 r n d : S8x1x512.Idx) 0).trans (by rw [h.1]; rfl)
  | ⟨1, _⟩ => exact (Window.rect_emb_val win0_2 t (ix3 r n d : S8x1x512.Idx) 1).trans (by rw [h.2.1, Nat.zero_mul, Nat.zero_add]; rfl)
  | ⟨2, _⟩ => exact (Window.rect_emb_val win0_2 t (ix3 r n d : S8x1x512.Idx) 2).trans (by rw [h.2.2, Nat.zero_mul, Nat.zero_add]; rfl)

/-- Window 3's block, read. -/
theorem blk3 (t : Fin cfg0.N) (r : Fin 8) (n : Fin 1) (d : Fin 512) :
    iblk0 V c 3 t (ix3 r n d : S8x1x512.Idx) = V c main_v31 (ix3 (rowOf ⟨t.val, lt8 t⟩ r) n d) := by
  refine congrArg (V c main_v31) (funext fun a => Fin.ext ?_)
  have h := idx3 t
  match a with
  | ⟨0, _⟩ => exact (Window.rect_emb_val win0_3 t (ix3 r n d : S8x1x512.Idx) 0).trans (by rw [h.1]; rfl)
  | ⟨1, _⟩ => exact (Window.rect_emb_val win0_3 t (ix3 r n d : S8x1x512.Idx) 1).trans (by rw [h.2.1, Nat.zero_mul, Nat.zero_add]; rfl)
  | ⟨2, _⟩ => exact (Window.rect_emb_val win0_3 t (ix3 r n d : S8x1x512.Idx) 2).trans (by rw [h.2.2, Nat.zero_mul, Nat.zero_add]; rfl)

/-- Window 4's block, read. -/
theorem blk4 (t : Fin cfg0.N) : iblk0 V c 4 t = V c main_v1 := by
  funext y
  refine congrArg (V c main_v1) (funext fun a => Fin.ext ?_)
  have h := idx4 t
  match a with
  | ⟨0, _⟩ => exact (Window.rect_emb_val win0_4 t y 0).trans (by rw [h.1, Nat.zero_mul, Nat.zero_add]; rfl)
  | ⟨1, _⟩ => exact (Window.rect_emb_val win0_4 t y 1).trans (by rw [h.2, Nat.zero_mul, Nat.zero_add]; rfl)

/-- Window 5's block, read. -/
theorem blk5 (t : Fin cfg0.N) : iblk0 V c 5 t = V c main_v4 := by
  funext y
  refine congrArg (V c main_v4) (funext fun a => Fin.ext ?_)
  have h := idx5 t
  match a with
  | ⟨0, _⟩ => exact (Window.rect_emb_val win0_5 t y 0).trans (by rw [h.1, Nat.zero_mul, Nat.zero_add]; rfl)
  | ⟨1, _⟩ => exact (Window.rect_emb_val win0_5 t y 1).trans (by rw [h.2, Nat.zero_mul, Nat.zero_add]; rfl)

/-- Window 6's block, read. -/
theorem blk6 (t : Fin cfg0.N) : iblk0 V c 6 t = V c main_v6 := by
  funext y
  refine congrArg (V c main_v6) (funext fun a => Fin.ext ?_)
  have h := idx6 t
  match a with
  | ⟨0, _⟩ => exact (Window.rect_emb_val win0_6 t y 0).trans (by rw [h.1, Nat.zero_mul, Nat.zero_add]; rfl)
  | ⟨1, _⟩ => exact (Window.rect_emb_val win0_6 t y 1).trans (by rw [h.2, Nat.zero_mul, Nat.zero_add]; rfl)

/-- Window 7's block, read. -/
theorem blk7 (t : Fin cfg0.N) : iblk0 V c 7 t = V c main_v9 := by
  funext y
  refine congrArg (V c main_v9) (funext fun a => Fin.ext ?_)
  have h := idx7 t
  match a with
  | ⟨0, _⟩ => exact (Window.rect_emb_val win0_7 t y 0).trans (by rw [h.1, Nat.zero_mul, Nat.zero_add]; rfl)
  | ⟨1, _⟩ => exact (Window.rect_emb_val win0_7 t y 1).trans (by rw [h.2, Nat.zero_mul, Nat.zero_add]; rfl)

/-- Window 8's block, read. -/
theorem blk8 (t : Fin cfg0.N) : iblk0 V c 8 t = V c main_v12 := by
  funext y
  refine congrArg (V c main_v12) (funext fun a => Fin.ext ?_)
  have h := idx8 t
  match a with
  | ⟨0, _⟩ => exact (Window.rect_emb_val win0_8 t y 0).trans (by rw [h.1, Nat.zero_mul, Nat.zero_add]; rfl)
  | ⟨1, _⟩ => exact (Window.rect_emb_val win0_8 t y 1).trans (by rw [h.2, Nat.zero_mul, Nat.zero_add]; rfl)

/-- Window 9's block, read. -/
theorem blk9 (t : Fin cfg0.N) : iblk0 V c 9 t = V c main_v15 := by
  funext y
  refine congrArg (V c main_v15) (funext fun a => Fin.ext ?_)
  have h := idx9 t
  match a with
  | ⟨0, _⟩ => exact (Window.rect_emb_val win0_9 t y 0).trans (by rw [h.1, Nat.zero_mul, Nat.zero_add]; rfl)
  | ⟨1, _⟩ => exact (Window.rect_emb_val win0_9 t y 1).trans (by rw [h.2, Nat.zero_mul, Nat.zero_add]; rfl)

/-- Window 10's block, read. -/
theorem blk10 (t : Fin cfg0.N) : iblk0 V c 10 t = V c main_v17 := by
  funext y
  refine congrArg (V c main_v17) (funext fun a => Fin.ext ?_)
  have h := idx10 t
  match a with
  | ⟨0, _⟩ => exact (Window.rect_emb_val win0_10 t y 0).trans (by rw [h.1, Nat.zero_mul, Nat.zero_add]; rfl)
  | ⟨1, _⟩ => exact (Window.rect_emb_val win0_10 t y 1).trans (by rw [h.2, Nat.zero_mul, Nat.zero_add]; rfl)

/-- Window 11's block, read. -/
theorem blk11 (t : Fin cfg0.N) : iblk0 V c 11 t = V c main_v20 := by
  funext y
  refine congrArg (V c main_v20) (funext fun a => Fin.ext ?_)
  have h := idx11 t
  match a with
  | ⟨0, _⟩ => exact (Window.rect_emb_val win0_11 t y 0).trans (by rw [h.1, Nat.zero_mul, Nat.zero_add]; rfl)
  | ⟨1, _⟩ => exact (Window.rect_emb_val win0_11 t y 1).trans (by rw [h.2, Nat.zero_mul, Nat.zero_add]; rfl)

/-- Window 12's block, read. -/
theorem blk12 (t : Fin cfg0.N) : iblk0 V c 12 t = V c main_v22 := by
  funext y
  refine congrArg (V c main_v22) (funext fun a => Fin.ext ?_)
  have h := idx12 t
  match a with
  | ⟨0, _⟩ => exact (Window.rect_emb_val win0_12 t y 0).trans (by rw [h.1, Nat.zero_mul, Nat.zero_add]; rfl)
  | ⟨1, _⟩ => exact (Window.rect_emb_val win0_12 t y 1).trans (by rw [h.2, Nat.zero_mul, Nat.zero_add]; rfl)

/-- Window 13's block, read. -/
theorem blk13 (t : Fin cfg0.N) : iblk0 V c 13 t = V c main_v25 := by
  funext y
  refine congrArg (V c main_v25) (funext fun a => Fin.ext ?_)
  have h := idx13 t
  match a with
  | ⟨0, _⟩ => exact (Window.rect_emb_val win0_13 t y 0).trans (by rw [h.1, Nat.zero_mul, Nat.zero_add]; rfl)
  | ⟨1, _⟩ => exact (Window.rect_emb_val win0_13 t y 1).trans (by rw [h.2, Nat.zero_mul, Nat.zero_add]; rfl)

/-- Window 14's block, read. -/
theorem blk14 (t : Fin cfg0.N) : iblk0 V c 14 t = V c main_v28 := by
  funext y
  refine congrArg (V c main_v28) (funext fun a => Fin.ext ?_)
  have h := idx14 t
  match a with
  | ⟨0, _⟩ => exact (Window.rect_emb_val win0_14 t y 0).trans (by rw [h.1, Nat.zero_mul, Nat.zero_add]; rfl)
  | ⟨1, _⟩ => exact (Window.rect_emb_val win0_14 t y 1).trans (by rw [h.2, Nat.zero_mul, Nat.zero_add]; rfl)

/-- What the output array ends holding. -/
def val : Vec Ideal S64x116x512 .f32 :=
  arrVal (V c main_arg0) (V c main_v29) (V c main_v30) (V c main_v31) (V c main_v1) (V c main_v4) (V c main_v6) (V c main_v9) (V c main_v12) (V c main_v15) (V c main_v17) (V c main_v20) (V c main_v22) (V c main_v25) (V c main_v28)

/-- What point `t` writes back is block `t` of `val`. -/
theorem flushed_eq (t : Fin cfg0.N) :
    (dat0 V c).flushed 15 t = (win0_15.blk t).view.read (Elt Ideal) (val V c) := by
  show (cfg0.win 15).cut (grid0.coords t) ((dat0 V c).after 15 t) = _
  rw [after0_15]
  unfold outsAt0
  rw [KBlock0.block]
  funext y
  have h := idx15 t
  have e : (((win0_15.blk t).view.emb y : S64x116x512.Idx)) = ix3 (rowOf ⟨t.val, lt8 t⟩ (y 0)) (y 1) (y 2) := by
    refine funext fun a => Fin.ext ?_
    match a with
    | ⟨0, _⟩ => exact (Window.rect_emb_val win0_15 t y 0).trans (by rw [h.1]; rfl)
    | ⟨1, _⟩ => exact (Window.rect_emb_val win0_15 t y 1).trans (by rw [h.2.1, Nat.zero_mul, Nat.zero_add]; rfl)
    | ⟨2, _⟩ => exact (Window.rect_emb_val win0_15 t y 2).trans (by rw [h.2.2, Nat.zero_mul, Nat.zero_add]; rfl)
  show blkVal (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) (iblk0 V c 11 t)
    (iblk0 V c 12 t) (iblk0 V c 13 t) (iblk0 V c 14 t) (ix3 (y 0) (y 1) (y 2))
      = val V c ((win0_15.blk t).view.emb y)
  rw [e]
  exact blk_arr _ _ _ _ _ _ _ _ _ _ _ _ _ _ _ _ _ _ _ _ _ _ _ _ _ _ _ _ _ _ ⟨t.val, lt8 t⟩ (y 0) (y 1) (y 2)
    (blk0 V c t (y 0)) (blk1 V c t (y 0) 0) (blk2 V c t (y 0) 0) (blk3 V c t (y 0) 0) (blk4 V c t) (blk5 V c t)
    (blk6 V c t) (blk7 V c t) (blk8 V c t) (blk9 V c t) (blk10 V c t) (blk11 V c t) (blk12 V c t) (blk13 V c t) (blk14 V c t)

/-- The output's blocks tile its array. -/
theorem cover (i : S64x116x512.Idx) :
    ∃ t : Fin cfg0.N, (cfg0.win 15).flush t = true ∧ i ∈ ((cfg0.win 15).blk t).view.set := by
  have h0 : (i 0).val < 64 := (i 0).isLt
  have ht : (i 0).val / 8 < cfg0.N := Nat.lt_of_lt_of_eq (by omega) N_0.symm
  refine ⟨⟨(i 0).val / 8, ht⟩, flush0_15 _, ?_⟩
  have h := idx15 ⟨(i 0).val / 8, ht⟩
  have e : ((win0_15.blk ⟨(i 0).val / 8, ht⟩).view.emb
      (ix3 (⟨(i 0).val % 8, Nat.mod_lt _ (by decide)⟩ : Fin 8) (i 1) (i 2) : S8x116x512.Idx) : S64x116x512.Idx) = i := by
    refine funext fun a => Fin.ext ?_
    match a with
    | ⟨0, _⟩ => exact (Window.rect_emb_val win0_15 _ _ 0).trans (by rw [h.1]; exact Nat.div_add_mod' _ 8)
    | ⟨1, _⟩ => exact (Window.rect_emb_val win0_15 _ _ 1).trans (by rw [h.2.1, Nat.zero_mul, Nat.zero_add]; rfl)
    | ⟨2, _⟩ => exact (Window.rect_emb_val win0_15 _ _ 2).trans (by rw [h.2.2, Nat.zero_mul, Nat.zero_add]; rfl)
  have hm := (win0_15.blk ⟨(i 0).val / 8, ht⟩).view.emb_mem_set
    (ix3 (⟨(i 0).val % 8, Nat.mod_lt _ (by decide)⟩ : Fin 8) (i 1) (i 2) : S8x116x512.Idx)
  rw [e] at hm
  exact hm

/-- So the output array ends holding `val`. -/
theorem final : (dat0 V c).arrAt 15 cfg0.N = val V c :=
  (dat0 V c).arrAt_eq_of_cover 15 (val V c) (fun t _ => flushed_eq V c t) cover

end Cert.KArr0
-- ==== Proof.Val.lean ====
module

public import proofs.«01_k».proof.Proof.KPiece

@[expose] public section

set_option maxRecDepth 8192

noncomputable section

/-! The value both programs compute, as a function of the arguments. -/

namespace Cert.Val

open Idealize.ShloMosaic Cert.KernelIdeal Cert.Spec Cert.KPiece

/-- Modality `m`'s parameters, from the arguments. -/
def parArg (m : Fin 3) (A6 : FVec Ideal S3x512x128 .f32) (A7 : FVec Ideal S3x128 .f32) (A8 : FVec Ideal S3x128x1 .f32) (A9 : FVec Ideal S3x1 .f32) (A10 : FVec Ideal S3x512 .f32) (A11 : FVec Ideal S3x512 .f32) (A12 : FVec Ideal S3x512x102 .f32) (A13 : FVec Ideal S3x102 .f32) (A14 : FVec Ideal S3x102x115 .f32) (A15 : FVec Ideal S3x115 .f32) (A16 : FVec Ideal S3x1x1x1 .f32) : Par where
  w1 a h := A6 (ix3 m a h)
  b1 h := A7 (ix2 m h)
  w2 h := A8 (ix3 m h 0)
  b2 := A9 (ix2 m 0)
  lg a := A10 (ix2 m a)
  lb a := A11 (ix2 m a)
  a1 a h := A12 (ix3 m a h)
  c1 h := A13 (ix2 m h)
  a2 h k := A14 (ix3 m h k)
  c2 k := A15 (ix2 m k)
  sc := A16 (ix4 m 0 0 0)

/-- Modality `m`'s result, from its tokens, its own global vectors, the two others' and the parameters. -/
def outArg (m : Fin 3) (X : FVec Ideal S64x576x512 .f32) (G1 G2 G3 : FVec Ideal S64x512 .f32)
    (A6 : FVec Ideal S3x512x128 .f32) (A7 : FVec Ideal S3x128 .f32) (A8 : FVec Ideal S3x128x1 .f32) (A9 : FVec Ideal S3x1 .f32) (A10 : FVec Ideal S3x512 .f32) (A11 : FVec Ideal S3x512 .f32) (A12 : FVec Ideal S3x512x102 .f32) (A13 : FVec Ideal S3x102 .f32) (A14 : FVec Ideal S3x102x115 .f32) (A15 : FVec Ideal S3x115 .f32) (A16 : FVec Ideal S3x1x1x1 .f32) : FVec Ideal S64x116x512 .f32 := fun y =>
  outK (parArg m A6 A7 A8 A9 A10 A11 A12 A13 A14 A15 A16) (fun n c => X (ix3 (y 0) n c)) (fun c => G1 (ix2 (y 0) c))
    (fun c => G2 (ix2 (y 0) c)) (fun c => G3 (ix2 (y 0) c)) (y 1).val (y 2)

theorem par_congr {w1 w1' : Fin 512 → Fin 128 → EReal} {b1 b1' : Fin 128 → EReal} {w2 w2' : Fin 128 → EReal} {b2 b2' : EReal}
    {lg lg' lb lb' : Fin 512 → EReal} {a1 a1' : Fin 512 → Fin 102 → EReal} {c1 c1' : Fin 102 → EReal}
    {a2 a2' : Fin 102 → Fin 115 → EReal} {c2 c2' : Fin 115 → EReal} {sc sc' : EReal}
    (e1 : ∀ a h, w1 a h = w1' a h) (e2 : ∀ h, b1 h = b1' h) (e3 : ∀ h, w2 h = w2' h) (e4 : b2 = b2')
    (e5 : ∀ a, lg a = lg' a) (e6 : ∀ a, lb a = lb' a) (e7 : ∀ a h, a1 a h = a1' a h) (e8 : ∀ h, c1 h = c1' h)
    (e9 : ∀ h k, a2 h k = a2' h k) (e10 : ∀ k, c2 k = c2' k) (e11 : sc = sc') :
    Par.mk w1 b1 w2 b2 lg lb a1 c1 a2 c2 sc = Par.mk w1' b1' w2' b2' lg' lb' a1' c1' a2' c2' sc' := by
  obtain rfl : w1 = w1' := funext fun a => funext (e1 a)
  obtain rfl : b1 = b1' := funext e2
  obtain rfl : w2 = w2' := funext e3
  obtain rfl : lg = lg' := funext e5
  obtain rfl : lb = lb' := funext e6
  obtain rfl : a1 = a1' := funext fun a => funext (e7 a)
  obtain rfl : c1 = c1' := funext e8
  obtain rfl : a2 = a2' := funext fun a => funext (e9 a)
  obtain rfl : c2 = c2' := funext e10
  subst e4 e11
  rfl

theorem outK_congr {p : Par} {v v' : Fin 576 → Fin 512 → EReal} {g1 g1' g2 g2' g3 g3' : Fin 512 → EReal} {k : ℕ} {c : Fin 512}
    (e0 : ∀ n a, v n a = v' n a) (e1 : ∀ a, g1 a = g1' a) (e2 : ∀ a, g2 a = g2' a) (e3 : ∀ a, g3 a = g3' a) :
    outK p v g1 g2 g3 k c = outK p v' g1' g2' g3' k c := by
  obtain rfl : v = v' := funext fun n => funext (e0 n)
  obtain rfl : g1 = g1' := funext e1
  obtain rfl : g2 = g2' := funext e2
  obtain rfl : g3 = g3' := funext e3
  rfl

end Cert.Val
-- ==== Proof.KHost0.lean ====
module

public import proofs.«01_k».proof.Proof.KArr0
public import proofs.«01_k».proof.Proof.Val
public import Idealize.ShloMosaic.Lib.StableHlo.ReadAt

@[expose] public section

set_option maxRecDepth 65536

noncomputable section

/-! What the host operations before region 0 leave in the arrays its windows read, and so the region's result as a
function of the arguments. -/

namespace Cert.KHost0

open Idealize.ShloMosaic Cert.KernelIdeal Cert.KernelIdeal.Gen Cert.Spec Cert.KRow Cert.KPiece Cert.KArr Cert.Val
open Idealize.ShloMosaic.TcCoe

variable (V0 : Valuation τ sig (Elt Ideal))

theorem read4 (a : Fin 512) (h : Fin 128) : StableHlo.after hostOps0 V0 (Proc.devRef .tc main_v1) (ix2 a h : S512x128.Idx)
    = V0 (Proc.devRef .tc main_arg6) (ix3 0 a h : S3x512x128.Idx) := by
  after_reads_at

theorem read5 (h : Fin 128) : StableHlo.after hostOps0 V0 (Proc.devRef .tc main_v4) (ix2 0 h : S1x128.Idx)
    = V0 (Proc.devRef .tc main_arg7) (ix2 0 h : S3x128.Idx) := by
  after_reads_at

theorem read6 (h : Fin 128) : StableHlo.after hostOps0 V0 (Proc.devRef .tc main_v6) (ix2 h 0 : S128x1.Idx)
    = V0 (Proc.devRef .tc main_arg8) (ix3 0 h 0 : S3x128x1.Idx) := by
  after_reads_at

theorem read7  : StableHlo.after hostOps0 V0 (Proc.devRef .tc main_v9) (ix2 0 0 : S1x1.Idx)
    = V0 (Proc.devRef .tc main_arg9) (ix2 0 0 : S3x1.Idx) := by
  after_reads_at

theorem read8 (a : Fin 512) : StableHlo.after hostOps0 V0 (Proc.devRef .tc main_v12) (ix2 0 a : S1x512.Idx)
    = V0 (Proc.devRef .tc main_arg10) (ix2 0 a : S3x512.Idx) := by
  after_reads_at

theorem read9 (a : Fin 512) : StableHlo.after hostOps0 V0 (Proc.devRef .tc main_v15) (ix2 0 a : S1x512.Idx)
    = V0 (Proc.devRef .tc main_arg11) (ix2 0 a : S3x512.Idx) := by
  after_reads_at

theorem read10 (a : Fin 512) (h : Fin 102) : StableHlo.after hostOps0 V0 (Proc.devRef .tc main_v17) (ix2 a h : S512x102.Idx)
    = V0 (Proc.devRef .tc main_arg12) (ix3 0 a h : S3x512x102.Idx) := by
  after_reads_at

theorem read11 (h : Fin 102) : StableHlo.after hostOps0 V0 (Proc.devRef .tc main_v20) (ix2 0 h : S1x102.Idx)
    = V0 (Proc.devRef .tc main_arg13) (ix2 0 h : S3x102.Idx) := by
  after_reads_at

theorem read12 (h : Fin 102) (k : Fin 115) : StableHlo.after hostOps0 V0 (Proc.devRef .tc main_v22) (ix2 h k : S102x115.Idx)
    = V0 (Proc.devRef .tc main_arg14) (ix3 0 h k : S3x102x115.Idx) := by
  after_reads_at

theorem read13 (k : Fin 115) : StableHlo.after hostOps0 V0 (Proc.devRef .tc main_v25) (ix2 0 k : S1x115.Idx)
    = V0 (Proc.devRef .tc main_arg15) (ix2 0 k : S3x115.Idx) := by
  after_reads_at

theorem read14  : StableHlo.after hostOps0 V0 (Proc.devRef .tc main_v28) (ix2 0 0 : S1x1.Idx)
    = V0 (Proc.devRef .tc main_arg16) (ix4 0 0 0 0 : S3x1x1x1.Idx) := by
  after_reads_at

theorem read1 (b : Fin 64) (a : Fin 512) : StableHlo.after hostOps0 V0 (Proc.devRef .tc main_v29) (ix3 b 0 a : S64x1x512.Idx)
    = V0 (Proc.devRef .tc main_arg3) (ix2 b a : S64x512.Idx) := by
  after_reads_at

theorem read2 (b : Fin 64) (a : Fin 512) : StableHlo.after hostOps0 V0 (Proc.devRef .tc main_v30) (ix3 b 0 a : S64x1x512.Idx)
    = V0 (Proc.devRef .tc main_arg4) (ix2 b a : S64x512.Idx) := by
  after_reads_at

theorem read3 (b : Fin 64) (a : Fin 512) : StableHlo.after hostOps0 V0 (Proc.devRef .tc main_v31) (ix3 b 0 a : S64x1x512.Idx)
    = V0 (Proc.devRef .tc main_arg5) (ix2 b a : S64x512.Idx) := by
  after_reads_at

theorem read0 : StableHlo.after hostOps0 V0 (Proc.devRef .tc main_arg0) = V0 (Proc.devRef .tc main_arg0) :=
  StableHlo.after_of_writes_sub hostOps0 _ hostOps0_writes (by decide +kernel)

/-- The region's output array, from the arguments as the host operations before it find them. -/
theorem val_eq (c : Dev nD) (V : (c : Dev nD) → (b : Ref sig .tc) → Buf (Elt Ideal) ((c : Thread nD τ).loc b))
    (hV : ∀ b, V c b = StableHlo.after hostOps0 V0 (Proc.devRef .tc b)) :
    KArr0.val V c = outArg 0 (V0 (Proc.devRef .tc main_arg0)) (V0 (Proc.devRef .tc main_arg3))
      (V0 (Proc.devRef .tc main_arg4)) (V0 (Proc.devRef .tc main_arg5))
      (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  unfold KArr0.val
  rw [hV main_arg0, hV main_v29, hV main_v30, hV main_v31, hV main_v1, hV main_v4, hV main_v6, hV main_v9, hV main_v12, hV main_v15, hV main_v17, hV main_v20, hV main_v22, hV main_v25, hV main_v28, read0]
  funext y
  unfold arrVal outArg
  have hp : parOf (StableHlo.after hostOps0 V0 (Proc.devRef .tc main_v1)) (StableHlo.after hostOps0 V0 (Proc.devRef .tc main_v4)) (StableHlo.after hostOps0 V0 (Proc.devRef .tc main_v6)) (StableHlo.after hostOps0 V0 (Proc.devRef .tc main_v9)) (StableHlo.after hostOps0 V0 (Proc.devRef .tc main_v12)) (StableHlo.after hostOps0 V0 (Proc.devRef .tc main_v15)) (StableHlo.after hostOps0 V0 (Proc.devRef .tc main_v17)) (StableHlo.after hostOps0 V0 (Proc.devRef .tc main_v20)) (StableHlo.after hostOps0 V0 (Proc.devRef .tc main_v22)) (StableHlo.after hostOps0 V0 (Proc.devRef .tc main_v25)) (StableHlo.after hostOps0 V0 (Proc.devRef .tc main_v28))
      = parArg 0 (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
    unfold parOf parArg
    exact par_congr (fun a h => read4 V0 a h) (fun h => read5 V0 h) (fun h => read6 V0 h) (read7 V0) (fun a => read8 V0 a) (fun a => read9 V0 a) (fun a h => read10 V0 a h) (fun h => read11 V0 h) (fun h k => read12 V0 h k) (fun k => read13 V0 k) (read14 V0)
  have h1 := fun a => read1 V0 (y 0) a
  have h2 := fun a => read2 V0 (y 0) a
  have h3 := fun a => read3 V0 (y 0) a
  rw [hp]
  exact outK_congr (fun _ _ => rfl) h1 h2 h3

end Cert.KHost0
-- ==== Proof.KBlock1.lean ====
module

public import proofs.«01_k».proof.Proof.KPiece
public import proofs.«01_k».proof.Proof.Gen.KernelIdeal.Frame

@[expose] public section

set_option maxRecDepth 65536

noncomputable section

/-! The kernel's region 1: what one grid point leaves in the output's block. -/

namespace Cert.KBlock1

open Idealize.ShloMosaic Cert.KernelIdeal Cert.KernelIdeal.Gen Cert.Spec Cert.KRow Cert.KPiece
open Idealize.ShloMosaic.TcCoe Idealize.SL.Sem

set_option maxHeartbeats 4000000 in
/-- Region 1's block holds its eight batch entries' results. -/
theorem block (c : Dev nD) (i : grid1.Coords) (arg1 : Memref sig .tc .vmem S8x576x512 .f32) (harg1 : arg1.IsWhole) (arg2 : Memref sig .tc .vmem S8x1x512 .f32) (harg2 : arg2.IsWhole) (arg3 : Memref sig .tc .vmem S8x1x512 .f32) (harg3 : arg3.IsWhole) (arg4 : Memref sig .tc .vmem S8x1x512 .f32) (harg4 : arg4.IsWhole) (arg5 : Memref sig .tc .vmem S512x128 .f32) (harg5 : arg5.IsWhole) (arg6 : Memref sig .tc .vmem S1x128 .f32) (harg6 : arg6.IsWhole) (arg7 : Memref sig .tc .vmem S128x1 .f32) (harg7 : arg7.IsWhole) (arg8 : Memref sig .tc .vmem S1x1 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x102 .f32) (harg11 : arg11.IsWhole) (arg12 : Memref sig .tc .vmem S1x102 .f32) (harg12 : arg12.IsWhole) (arg13 : Memref sig .tc .vmem S102x115 .f32) (harg13 : arg13.IsWhole) (arg14 : Memref sig .tc .vmem S1x115 .f32) (harg14 : arg14.IsWhole) (arg15 : Memref sig .tc .vmem S1x1 .f32) (harg15 : arg15.IsWhole) (arg16 : Memref sig .tc .vmem S8x116x512 .f32) (harg16 : arg16.IsWhole)
    (x0 : Vec Ideal S8x576x512 .f32) (x1 : Vec Ideal S8x1x512 .f32) (x2 : Vec Ideal S8x1x512 .f32) (x3 : Vec Ideal S8x1x512 .f32) (x4 : Vec Ideal S512x128 .f32) (x5 : Vec Ideal S1x128 .f32) (x6 : Vec Ideal S128x1 .f32) (x7 : Vec Ideal S1x1 .f32) (x8 : Vec Ideal S1x512 .f32) (x9 : Vec Ideal S1x512 .f32) (x10 : Vec Ideal S512x102 .f32) (x11 : Vec Ideal S1x102 .f32) (x12 : Vec Ideal S102x115 .f32) (x13 : Vec Ideal S1x115 .f32) (x14 : Vec Ideal S1x1 .f32) :
    out1_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 = blkVal x0 x1 x2 x3 x4 x5 x6 x7 x8 x9 x10 x11 x12 x13 x14 := by
  funext y
  refine View.read_writes_apply_of_pieces (v := VO1_15) (Val := Elt Ideal) _ (blkVal x0 x1 x2 x3 x4 x5 x6 x7 x8 x9 x10 x11 x12 x13 x14) _ ?_ y (cover1_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 y)
  refine List.forall_mem_cons.2 ⟨fun z => ?_, ?_⟩
  · exact piece_extra x0 x1 x2 x3 x4 x5 x6 x7 x8 x9 x10 x11 x12 x13 x14 harg1 harg2 harg3 harg4 harg5 harg6 harg7 harg8 7 (by decide) inb_S8x576x512_S1x576x512_7_0_0 inb_S8x1x512_S1x1x512_7_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 7 (by decide) inb_S8x576x512_S1x576x512_7_0_0 inb_S8x1x512_S1x1x512_7_0_0 _ _ _ _ (fun _ => rfl) _ _ rfl z
  refine List.forall_mem_cons.2 ⟨fun z => ?_, ?_⟩
  · exact piece_extra x0 x1 x2 x3 x4 x5 x6 x7 x8 x9 x10 x11 x12 x13 x14 harg1 harg2 harg3 harg4 harg5 harg6 harg7 harg8 6 (by decide) inb_S8x576x512_S1x576x512_6_0_0 inb_S8x1x512_S1x1x512_6_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 6 (by decide) inb_S8x576x512_S1x576x512_6_0_0 inb_S8x1x512_S1x1x512_6_0_0 _ _ _ _ (fun _ => rfl) _ _ rfl z
  refine List.forall_mem_cons.2 ⟨fun z => ?_, ?_⟩
  · exact piece_extra x0 x1 x2 x3 x4 x5 x6 x7 x8 x9 x10 x11 x12 x13 x14 harg1 harg2 harg3 harg4 harg5 harg6 harg7 harg8 5 (by decide) inb_S8x576x512_S1x576x512_5_0_0 inb_S8x1x512_S1x1x512_5_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 5 (by decide) inb_S8x576x512_S1x576x512_5_0_0 inb_S8x1x512_S1x1x512_5_0_0 _ _ _ _ (fun _ => rfl) _ _ rfl z
  refine List.forall_mem_cons.2 ⟨fun z => ?_, ?_⟩
  · exact piece_extra x0 x1 x2 x3 x4 x5 x6 x7 x8 x9 x10 x11 x12 x13 x14 harg1 harg2 harg3 harg4 harg5 harg6 harg7 harg8 4 (by decide) inb_S8x576x512_S1x576x512_4_0_0 inb_S8x1x512_S1x1x512_4_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 4 (by decide) inb_S8x576x512_S1x576x512_4_0_0 inb_S8x1x512_S1x1x512_4_0_0 _ _ _ _ (fun _ => rfl) _ _ rfl z
  refine List.forall_mem_cons.2 ⟨fun z => ?_, ?_⟩
  · exact piece_extra x0 x1 x2 x3 x4 x5 x6 x7 x8 x9 x10 x11 x12 x13 x14 harg1 harg2 harg3 harg4 harg5 harg6 harg7 harg8 3 (by decide) inb_S8x576x512_S1x576x512_3_0_0 inb_S8x1x512_S1x1x512_3_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 3 (by decide) inb_S8x576x512_S1x576x512_3_0_0 inb_S8x1x512_S1x1x512_3_0_0 _ _ _ _ (fun _ => rfl) _ _ rfl z
  refine List.forall_mem_cons.2 ⟨fun z => ?_, ?_⟩
  · exact piece_extra x0 x1 x2 x3 x4 x5 x6 x7 x8 x9 x10 x11 x12 x13 x14 harg1 harg2 harg3 harg4 harg5 harg6 harg7 harg8 2 (by decide) inb_S8x576x512_S1x576x512_2_0_0 inb_S8x1x512_S1x1x512_2_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 2 (by decide) inb_S8x576x512_S1x576x512_2_0_0 inb_S8x1x512_S1x1x512_2_0_0 _ _ _ _ (fun _ => rfl) _ _ rfl z
  refine List.forall_mem_cons.2 ⟨fun z => ?_, ?_⟩
  · exact piece_extra x0 x1 x2 x3 x4 x5 x6 x7 x8 x9 x10 x11 x12 x13 x14 harg1 harg2 harg3 harg4 harg5 harg6 harg7 harg8 1 (by decide) inb_S8x576x512_S1x576x512_1_0_0 inb_S8x1x512_S1x1x512_1_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 1 (by decide) inb_S8x576x512_S1x576x512_1_0_0 inb_S8x1x512_S1x1x512_1_0_0 _ _ _ _ (fun _ => rfl) _ _ rfl z
  refine List.forall_mem_cons.2 ⟨fun z => ?_, ?_⟩
  · exact piece_extra x0 x1 x2 x3 x4 x5 x6 x7 x8 x9 x10 x11 x12 x13 x14 harg1 harg2 harg3 harg4 harg5 harg6 harg7 harg8 0 (by decide) inb_S8x576x512_S1x576x512_0_0_0 inb_S8x1x512_S1x1x512_0_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 0 (by decide) inb_S8x576x512_S1x576x512_0_0_0 inb_S8x1x512_S1x1x512_0_0_0 _ _ _ _ (fun _ => rfl) _ _ rfl z
  exact fun p hp => absurd hp List.not_mem_nil

end Cert.KBlock1
-- ==== Proof.KArr1.lean ====
module

public import proofs.«01_k».proof.Proof.KBlock1
public import proofs.«01_k».proof.Proof.KArrVal

@[expose] public section

set_option maxRecDepth 65536

noncomputable section

/-! The kernel's region 1: what it leaves in its output array, in terms of the arrays its windows read. -/

namespace Cert.KArr1

open Idealize.ShloMosaic Cert.KernelIdeal Cert.KernelIdeal.Gen Cert.Spec Cert.KRow Cert.KPiece Cert.KArr
open Idealize.ShloMosaic.TcCoe Idealize.SL.Sem Idealize.ShloMosaic.Pipeline

variable (V : (c : Dev nD) → (b : Ref sig .tc) → Buf (Elt Ideal) ((c : Thread nD τ).loc b)) (c : Dev nD)

/-- Window 0's block at point `t` is the point's eight batch entries. -/
theorem idx0 (t : Fin cfg1.N) : win1_0.index t 0 = t.val ∧ win1_0.index t 1 = 0 ∧ win1_0.index t 2 = 0 := by
  rcases fin_N1 t with rfl | rfl | rfl | rfl | rfl | rfl | rfl | rfl <;> decide +kernel

/-- Window 1's block at point `t` is the point's eight batch entries. -/
theorem idx1 (t : Fin cfg1.N) : win1_1.index t 0 = t.val ∧ win1_1.index t 1 = 0 ∧ win1_1.index t 2 = 0 := by
  rcases fin_N1 t with rfl | rfl | rfl | rfl | rfl | rfl | rfl | rfl <;> decide +kernel

/-- Window 2's block at point `t` is the point's eight batch entries. -/
theorem idx2 (t : Fin cfg1.N) : win1_2.index t 0 = t.val ∧ win1_2.index t 1 = 0 ∧ win1_2.index t 2 = 0 := by
  rcases fin_N1 t with rfl | rfl | rfl | rfl | rfl | rfl | rfl | rfl <;> decide +kernel

/-- Window 3's block at point `t` is the point's eight batch entries. -/
theorem idx3 (t : Fin cfg1.N) : win1_3.index t 0 = t.val ∧ win1_3.index t 1 = 0 ∧ win1_3.index t 2 = 0 := by
  rcases fin_N1 t with rfl | rfl | rfl | rfl | rfl | rfl | rfl | rfl <;> decide +kernel

/-- Window 15's block at point `t` is the point's eight batch entries. -/
theorem idx15 (t : Fin cfg1.N) : win1_15.index t 0 = t.val ∧ win1_15.index t 1 = 0 ∧ win1_15.index t 2 = 0 := by
  rcases fin_N1 t with rfl | rfl | rfl | rfl | rfl | rfl | rfl | rfl <;> decide +kernel

/-- Window 4's block is its whole array. -/
theorem idx4 (t : Fin cfg1.N) : win1_4.index t 0 = 0 ∧ win1_4.index t 1 = 0 := by
  rcases fin_N1 t with rfl | rfl | rfl | rfl | rfl | rfl | rfl | rfl <;> decide +kernel

/-- Window 5's block is its whole array. -/
theorem idx5 (t : Fin cfg1.N) : win1_5.index t 0 = 0 ∧ win1_5.index t 1 = 0 := by
  rcases fin_N1 t with rfl | rfl | rfl | rfl | rfl | rfl | rfl | rfl <;> decide +kernel

/-- Window 6's block is its whole array. -/
theorem idx6 (t : Fin cfg1.N) : win1_6.index t 0 = 0 ∧ win1_6.index t 1 = 0 := by
  rcases fin_N1 t with rfl | rfl | rfl | rfl | rfl | rfl | rfl | rfl <;> decide +kernel

/-- Window 7's block is its whole array. -/
theorem idx7 (t : Fin cfg1.N) : win1_7.index t 0 = 0 ∧ win1_7.index t 1 = 0 := by
  rcases fin_N1 t with rfl | rfl | rfl | rfl | rfl | rfl | rfl | rfl <;> decide +kernel

/-- Window 8's block is its whole array. -/
theorem idx8 (t : Fin cfg1.N) : win1_8.index t 0 = 0 ∧ win1_8.index t 1 = 0 := by
  rcases fin_N1 t with rfl | rfl | rfl | rfl | rfl | rfl | rfl | rfl <;> decide +kernel

/-- Window 9's block is its whole array. -/
theorem idx9 (t : Fin cfg1.N) : win1_9.index t 0 = 0 ∧ win1_9.index t 1 = 0 := by
  rcases fin_N1 t with rfl | rfl | rfl | rfl | rfl | rfl | rfl | rfl <;> decide +kernel

/-- Window 10's block is its whole array. -/
theorem idx10 (t : Fin cfg1.N) : win1_10.index t 0 = 0 ∧ win1_10.index t 1 = 0 := by
  rcases fin_N1 t with rfl | rfl | rfl | rfl | rfl | rfl | rfl | rfl <;> decide +kernel

/-- Window 11's block is its whole array. -/
theorem idx11 (t : Fin cfg1.N) : win1_11.index t 0 = 0 ∧ win1_11.index t 1 = 0 := by
  rcases fin_N1 t with rfl | rfl | rfl | rfl | rfl | rfl | rfl | rfl <;> decide +kernel

/-- Window 12's block is its whole array. -/
theorem idx12 (t : Fin cfg1.N) : win1_12.index t 0 = 0 ∧ win1_12.index t 1 = 0 := by
  rcases fin_N1 t with rfl | rfl | rfl | rfl | rfl | rfl | rfl | rfl <;> decide +kernel

/-- Window 13's block is its whole array. -/
theorem idx13 (t : Fin cfg1.N) : win1_13.index t 0 = 0 ∧ win1_13.index t 1 = 0 := by
  rcases fin_N1 t with rfl | rfl | rfl | rfl | rfl | rfl | rfl | rfl <;> decide +kernel

/-- Window 14's block is its whole array. -/
theorem idx14 (t : Fin cfg1.N) : win1_14.index t 0 = 0 ∧ win1_14.index t 1 = 0 := by
  rcases fin_N1 t with rfl | rfl | rfl | rfl | rfl | rfl | rfl | rfl <;> decide +kernel

theorem lt8 (t : Fin cfg1.N) : t.val < 8 := Nat.lt_of_lt_of_eq t.isLt N_1

/-- Window 0's block, read. -/
theorem blk0 (t : Fin cfg1.N) (r : Fin 8) (n : Fin 576) (d : Fin 512) :
    iblk1 V c 0 t (ix3 r n d : S8x576x512.Idx) = V c main_arg1 (ix3 (rowOf ⟨t.val, lt8 t⟩ r) n d) := by
  refine congrArg (V c main_arg1) (funext fun a => Fin.ext ?_)
  have h := idx0 t
  match a with
  | ⟨0, _⟩ => exact (Window.rect_emb_val win1_0 t (ix3 r n d : S8x576x512.Idx) 0).trans (by rw [h.1]; rfl)
  | ⟨1, _⟩ => exact (Window.rect_emb_val win1_0 t (ix3 r n d : S8x576x512.Idx) 1).trans (by rw [h.2.1, Nat.zero_mul, Nat.zero_add]; rfl)
  | ⟨2, _⟩ => exact (Window.rect_emb_val win1_0 t (ix3 r n d : S8x576x512.Idx) 2).trans (by rw [h.2.2, Nat.zero_mul, Nat.zero_add]; rfl)

/-- Window 1's block, read. -/
theorem blk1 (t : Fin cfg1.N) (r : Fin 8) (n : Fin 1) (d : Fin 512) :
    iblk1 V c 1 t (ix3 r n d : S8x1x512.Idx) = V c main_v62 (ix3 (rowOf ⟨t.val, lt8 t⟩ r) n d) := by
  refine congrArg (V c main_v62) (funext fun a => Fin.ext ?_)
  have h := idx1 t
  match a with
  | ⟨0, _⟩ => exact (Window.rect_emb_val win1_1 t (ix3 r n d : S8x1x512.Idx) 0).trans (by rw [h.1]; rfl)
  | ⟨1, _⟩ => exact (Window.rect_emb_val win1_1 t (ix3 r n d : S8x1x512.Idx) 1).trans (by rw [h.2.1, Nat.zero_mul, Nat.zero_add]; rfl)
  | ⟨2, _⟩ => exact (Window.rect_emb_val win1_1 t (ix3 r n d : S8x1x512.Idx) 2).trans (by rw [h.2.2, Nat.zero_mul, Nat.zero_add]; rfl)

/-- Window 2's block, read. -/
theorem blk2 (t : Fin cfg1.N) (r : Fin 8) (n : Fin 1) (d : Fin 512) :
    iblk1 V c 2 t (ix3 r n d : S8x1x512.Idx) = V c main_v63 (ix3 (rowOf ⟨t.val, lt8 t⟩ r) n d) := by
  refine congrArg (V c main_v63) (funext fun a => Fin.ext ?_)
  have h := idx2 t
  match a with
  | ⟨0, _⟩ => exact (Window.rect_emb_val win1_2 t (ix3 r n d : S8x1x512.Idx) 0).trans (by rw [h.1]; rfl)
  | ⟨1, _⟩ => exact (Window.rect_emb_val win1_2 t (ix3 r n d : S8x1x512.Idx) 1).trans (by rw [h.2.1, Nat.zero_mul, Nat.zero_add]; rfl)
  | ⟨2, _⟩ => exact (Window.rect_emb_val win1_2 t (ix3 r n d : S8x1x512.Idx) 2).trans (by rw [h.2.2, Nat.zero_mul, Nat.zero_add]; rfl)

/-- Window 3's block, read. -/
theorem blk3 (t : Fin cfg1.N) (r : Fin 8) (n : Fin 1) (d : Fin 512) :
    iblk1 V c 3 t (ix3 r n d : S8x1x512.Idx) = V c main_v64 (ix3 (rowOf ⟨t.val, lt8 t⟩ r) n d) := by
  refine congrArg (V c main_v64) (funext fun a => Fin.ext ?_)
  have h := idx3 t
  match a with
  | ⟨0, _⟩ => exact (Window.rect_emb_val win1_3 t (ix3 r n d : S8x1x512.Idx) 0).trans (by rw [h.1]; rfl)
  | ⟨1, _⟩ => exact (Window.rect_emb_val win1_3 t (ix3 r n d : S8x1x512.Idx) 1).trans (by rw [h.2.1, Nat.zero_mul, Nat.zero_add]; rfl)
  | ⟨2, _⟩ => exact (Window.rect_emb_val win1_3 t (ix3 r n d : S8x1x512.Idx) 2).trans (by rw [h.2.2, Nat.zero_mul, Nat.zero_add]; rfl)

/-- Window 4's block, read. -/
theorem blk4 (t : Fin cfg1.N) : iblk1 V c 4 t = V c main_v34 := by
  funext y
  refine congrArg (V c main_v34) (funext fun a => Fin.ext ?_)
  have h := idx4 t
  match a with
  | ⟨0, _⟩ => exact (Window.rect_emb_val win1_4 t y 0).trans (by rw [h.1, Nat.zero_mul, Nat.zero_add]; rfl)
  | ⟨1, _⟩ => exact (Window.rect_emb_val win1_4 t y 1).trans (by rw [h.2, Nat.zero_mul, Nat.zero_add]; rfl)

/-- Window 5's block, read. -/
theorem blk5 (t : Fin cfg1.N) : iblk1 V c 5 t = V c main_v37 := by
  funext y
  refine congrArg (V c main_v37) (funext fun a => Fin.ext ?_)
  have h := idx5 t
  match a with
  | ⟨0, _⟩ => exact (Window.rect_emb_val win1_5 t y 0).trans (by rw [h.1, Nat.zero_mul, Nat.zero_add]; rfl)
  | ⟨1, _⟩ => exact (Window.rect_emb_val win1_5 t y 1).trans (by rw [h.2, Nat.zero_mul, Nat.zero_add]; rfl)

/-- Window 6's block, read. -/
theorem blk6 (t : Fin cfg1.N) : iblk1 V c 6 t = V c main_v39 := by
  funext y
  refine congrArg (V c main_v39) (funext fun a => Fin.ext ?_)
  have h := idx6 t
  match a with
  | ⟨0, _⟩ => exact (Window.rect_emb_val win1_6 t y 0).trans (by rw [h.1, Nat.zero_mul, Nat.zero_add]; rfl)
  | ⟨1, _⟩ => exact (Window.rect_emb_val win1_6 t y 1).trans (by rw [h.2, Nat.zero_mul, Nat.zero_add]; rfl)

/-- Window 7's block, read. -/
theorem blk7 (t : Fin cfg1.N) : iblk1 V c 7 t = V c main_v42 := by
  funext y
  refine congrArg (V c main_v42) (funext fun a => Fin.ext ?_)
  have h := idx7 t
  match a with
  | ⟨0, _⟩ => exact (Window.rect_emb_val win1_7 t y 0).trans (by rw [h.1, Nat.zero_mul, Nat.zero_add]; rfl)
  | ⟨1, _⟩ => exact (Window.rect_emb_val win1_7 t y 1).trans (by rw [h.2, Nat.zero_mul, Nat.zero_add]; rfl)

/-- Window 8's block, read. -/
theorem blk8 (t : Fin cfg1.N) : iblk1 V c 8 t = V c main_v45 := by
  funext y
  refine congrArg (V c main_v45) (funext fun a => Fin.ext ?_)
  have h := idx8 t
  match a with
  | ⟨0, _⟩ => exact (Window.rect_emb_val win1_8 t y 0).trans (by rw [h.1, Nat.zero_mul, Nat.zero_add]; rfl)
  | ⟨1, _⟩ => exact (Window.rect_emb_val win1_8 t y 1).trans (by rw [h.2, Nat.zero_mul, Nat.zero_add]; rfl)

/-- Window 9's block, read. -/
theorem blk9 (t : Fin cfg1.N) : iblk1 V c 9 t = V c main_v48 := by
  funext y
  refine congrArg (V c main_v48) (funext fun a => Fin.ext ?_)
  have h := idx9 t
  match a with
  | ⟨0, _⟩ => exact (Window.rect_emb_val win1_9 t y 0).trans (by rw [h.1, Nat.zero_mul, Nat.zero_add]; rfl)
  | ⟨1, _⟩ => exact (Window.rect_emb_val win1_9 t y 1).trans (by rw [h.2, Nat.zero_mul, Nat.zero_add]; rfl)

/-- Window 10's block, read. -/
theorem blk10 (t : Fin cfg1.N) : iblk1 V c 10 t = V c main_v50 := by
  funext y
  refine congrArg (V c main_v50) (funext fun a => Fin.ext ?_)
  have h := idx10 t
  match a with
  | ⟨0, _⟩ => exact (Window.rect_emb_val win1_10 t y 0).trans (by rw [h.1, Nat.zero_mul, Nat.zero_add]; rfl)
  | ⟨1, _⟩ => exact (Window.rect_emb_val win1_10 t y 1).trans (by rw [h.2, Nat.zero_mul, Nat.zero_add]; rfl)

/-- Window 11's block, read. -/
theorem blk11 (t : Fin cfg1.N) : iblk1 V c 11 t = V c main_v53 := by
  funext y
  refine congrArg (V c main_v53) (funext fun a => Fin.ext ?_)
  have h := idx11 t
  match a with
  | ⟨0, _⟩ => exact (Window.rect_emb_val win1_11 t y 0).trans (by rw [h.1, Nat.zero_mul, Nat.zero_add]; rfl)
  | ⟨1, _⟩ => exact (Window.rect_emb_val win1_11 t y 1).trans (by rw [h.2, Nat.zero_mul, Nat.zero_add]; rfl)

/-- Window 12's block, read. -/
theorem blk12 (t : Fin cfg1.N) : iblk1 V c 12 t = V c main_v55 := by
  funext y
  refine congrArg (V c main_v55) (funext fun a => Fin.ext ?_)
  have h := idx12 t
  match a with
  | ⟨0, _⟩ => exact (Window.rect_emb_val win1_12 t y 0).trans (by rw [h.1, Nat.zero_mul, Nat.zero_add]; rfl)
  | ⟨1, _⟩ => exact (Window.rect_emb_val win1_12 t y 1).trans (by rw [h.2, Nat.zero_mul, Nat.zero_add]; rfl)

/-- Window 13's block, read. -/
theorem blk13 (t : Fin cfg1.N) : iblk1 V c 13 t = V c main_v58 := by
  funext y
  refine congrArg (V c main_v58) (funext fun a => Fin.ext ?_)
  have h := idx13 t
  match a with
  | ⟨0, _⟩ => exact (Window.rect_emb_val win1_13 t y 0).trans (by rw [h.1, Nat.zero_mul, Nat.zero_add]; rfl)
  | ⟨1, _⟩ => exact (Window.rect_emb_val win1_13 t y 1).trans (by rw [h.2, Nat.zero_mul, Nat.zero_add]; rfl)

/-- Window 14's block, read. -/
theorem blk14 (t : Fin cfg1.N) : iblk1 V c 14 t = V c main_v61 := by
  funext y
  refine congrArg (V c main_v61) (funext fun a => Fin.ext ?_)
  have h := idx14 t
  match a with
  | ⟨0, _⟩ => exact (Window.rect_emb_val win1_14 t y 0).trans (by rw [h.1, Nat.zero_mul, Nat.zero_add]; rfl)
  | ⟨1, _⟩ => exact (Window.rect_emb_val win1_14 t y 1).trans (by rw [h.2, Nat.zero_mul, Nat.zero_add]; rfl)

/-- What the output array ends holding. -/
def val : Vec Ideal S64x116x512 .f32 :=
  arrVal (V c main_arg1) (V c main_v62) (V c main_v63) (V c main_v64) (V c main_v34) (V c main_v37) (V c main_v39) (V c main_v42) (V c main_v45) (V c main_v48) (V c main_v50) (V c main_v53) (V c main_v55) (V c main_v58) (V c main_v61)

/-- What point `t` writes back is block `t` of `val`. -/
theorem flushed_eq (t : Fin cfg1.N) :
    (dat1 V c).flushed 15 t = (win1_15.blk t).view.read (Elt Ideal) (val V c) := by
  show (cfg1.win 15).cut (grid1.coords t) ((dat1 V c).after 15 t) = _
  rw [after1_15]
  unfold outsAt1
  rw [KBlock1.block]
  funext y
  have h := idx15 t
  have e : (((win1_15.blk t).view.emb y : S64x116x512.Idx)) = ix3 (rowOf ⟨t.val, lt8 t⟩ (y 0)) (y 1) (y 2) := by
    refine funext fun a => Fin.ext ?_
    match a with
    | ⟨0, _⟩ => exact (Window.rect_emb_val win1_15 t y 0).trans (by rw [h.1]; rfl)
    | ⟨1, _⟩ => exact (Window.rect_emb_val win1_15 t y 1).trans (by rw [h.2.1, Nat.zero_mul, Nat.zero_add]; rfl)
    | ⟨2, _⟩ => exact (Window.rect_emb_val win1_15 t y 2).trans (by rw [h.2.2, Nat.zero_mul, Nat.zero_add]; rfl)
  show blkVal (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t)
    (iblk1 V c 12 t) (iblk1 V c 13 t) (iblk1 V c 14 t) (ix3 (y 0) (y 1) (y 2))
      = val V c ((win1_15.blk t).view.emb y)
  rw [e]
  exact blk_arr _ _ _ _ _ _ _ _ _ _ _ _ _ _ _ _ _ _ _ _ _ _ _ _ _ _ _ _ _ _ ⟨t.val, lt8 t⟩ (y 0) (y 1) (y 2)
    (blk0 V c t (y 0)) (blk1 V c t (y 0) 0) (blk2 V c t (y 0) 0) (blk3 V c t (y 0) 0) (blk4 V c t) (blk5 V c t)
    (blk6 V c t) (blk7 V c t) (blk8 V c t) (blk9 V c t) (blk10 V c t) (blk11 V c t) (blk12 V c t) (blk13 V c t) (blk14 V c t)

/-- The output's blocks tile its array. -/
theorem cover (i : S64x116x512.Idx) :
    ∃ t : Fin cfg1.N, (cfg1.win 15).flush t = true ∧ i ∈ ((cfg1.win 15).blk t).view.set := by
  have h0 : (i 0).val < 64 := (i 0).isLt
  have ht : (i 0).val / 8 < cfg1.N := Nat.lt_of_lt_of_eq (by omega) N_1.symm
  refine ⟨⟨(i 0).val / 8, ht⟩, flush1_15 _, ?_⟩
  have h := idx15 ⟨(i 0).val / 8, ht⟩
  have e : ((win1_15.blk ⟨(i 0).val / 8, ht⟩).view.emb
      (ix3 (⟨(i 0).val % 8, Nat.mod_lt _ (by decide)⟩ : Fin 8) (i 1) (i 2) : S8x116x512.Idx) : S64x116x512.Idx) = i := by
    refine funext fun a => Fin.ext ?_
    match a with
    | ⟨0, _⟩ => exact (Window.rect_emb_val win1_15 _ _ 0).trans (by rw [h.1]; exact Nat.div_add_mod' _ 8)
    | ⟨1, _⟩ => exact (Window.rect_emb_val win1_15 _ _ 1).trans (by rw [h.2.1, Nat.zero_mul, Nat.zero_add]; rfl)
    | ⟨2, _⟩ => exact (Window.rect_emb_val win1_15 _ _ 2).trans (by rw [h.2.2, Nat.zero_mul, Nat.zero_add]; rfl)
  have hm := (win1_15.blk ⟨(i 0).val / 8, ht⟩).view.emb_mem_set
    (ix3 (⟨(i 0).val % 8, Nat.mod_lt _ (by decide)⟩ : Fin 8) (i 1) (i 2) : S8x116x512.Idx)
  rw [e] at hm
  exact hm

/-- So the output array ends holding `val`. -/
theorem final : (dat1 V c).arrAt 15 cfg1.N = val V c :=
  (dat1 V c).arrAt_eq_of_cover 15 (val V c) (fun t _ => flushed_eq V c t) cover

end Cert.KArr1
-- ==== Proof.KHost1.lean ====
module

public import proofs.«01_k».proof.Proof.KArr1
public import proofs.«01_k».proof.Proof.Val
public import Idealize.ShloMosaic.Lib.StableHlo.ReadAt

@[expose] public section

set_option maxRecDepth 65536

noncomputable section

/-! What the host operations before region 1 leave in the arrays its windows read, and so the region's result as a
function of the arguments. -/

namespace Cert.KHost1

open Idealize.ShloMosaic Cert.KernelIdeal Cert.KernelIdeal.Gen Cert.Spec Cert.KRow Cert.KPiece Cert.KArr Cert.Val
open Idealize.ShloMosaic.TcCoe

variable (V0 : Valuation τ sig (Elt Ideal))

theorem read4 (a : Fin 512) (h : Fin 128) : StableHlo.after hostOps1 V0 (Proc.devRef .tc main_v34) (ix2 a h : S512x128.Idx)
    = V0 (Proc.devRef .tc main_arg6) (ix3 1 a h : S3x512x128.Idx) := by
  after_reads_at

theorem read5 (h : Fin 128) : StableHlo.after hostOps1 V0 (Proc.devRef .tc main_v37) (ix2 0 h : S1x128.Idx)
    = V0 (Proc.devRef .tc main_arg7) (ix2 1 h : S3x128.Idx) := by
  after_reads_at

theorem read6 (h : Fin 128) : StableHlo.after hostOps1 V0 (Proc.devRef .tc main_v39) (ix2 h 0 : S128x1.Idx)
    = V0 (Proc.devRef .tc main_arg8) (ix3 1 h 0 : S3x128x1.Idx) := by
  after_reads_at

theorem read7  : StableHlo.after hostOps1 V0 (Proc.devRef .tc main_v42) (ix2 0 0 : S1x1.Idx)
    = V0 (Proc.devRef .tc main_arg9) (ix2 1 0 : S3x1.Idx) := by
  after_reads_at

theorem read8 (a : Fin 512) : StableHlo.after hostOps1 V0 (Proc.devRef .tc main_v45) (ix2 0 a : S1x512.Idx)
    = V0 (Proc.devRef .tc main_arg10) (ix2 1 a : S3x512.Idx) := by
  after_reads_at

theorem read9 (a : Fin 512) : StableHlo.after hostOps1 V0 (Proc.devRef .tc main_v48) (ix2 0 a : S1x512.Idx)
    = V0 (Proc.devRef .tc main_arg11) (ix2 1 a : S3x512.Idx) := by
  after_reads_at

theorem read10 (a : Fin 512) (h : Fin 102) : StableHlo.after hostOps1 V0 (Proc.devRef .tc main_v50) (ix2 a h : S512x102.Idx)
    = V0 (Proc.devRef .tc main_arg12) (ix3 1 a h : S3x512x102.Idx) := by
  after_reads_at

theorem read11 (h : Fin 102) : StableHlo.after hostOps1 V0 (Proc.devRef .tc main_v53) (ix2 0 h : S1x102.Idx)
    = V0 (Proc.devRef .tc main_arg13) (ix2 1 h : S3x102.Idx) := by
  after_reads_at

theorem read12 (h : Fin 102) (k : Fin 115) : StableHlo.after hostOps1 V0 (Proc.devRef .tc main_v55) (ix2 h k : S102x115.Idx)
    = V0 (Proc.devRef .tc main_arg14) (ix3 1 h k : S3x102x115.Idx) := by
  after_reads_at

theorem read13 (k : Fin 115) : StableHlo.after hostOps1 V0 (Proc.devRef .tc main_v58) (ix2 0 k : S1x115.Idx)
    = V0 (Proc.devRef .tc main_arg15) (ix2 1 k : S3x115.Idx) := by
  after_reads_at

theorem read14  : StableHlo.after hostOps1 V0 (Proc.devRef .tc main_v61) (ix2 0 0 : S1x1.Idx)
    = V0 (Proc.devRef .tc main_arg16) (ix4 1 0 0 0 : S3x1x1x1.Idx) := by
  after_reads_at

theorem read1 (b : Fin 64) (a : Fin 512) : StableHlo.after hostOps1 V0 (Proc.devRef .tc main_v62) (ix3 b 0 a : S64x1x512.Idx)
    = V0 (Proc.devRef .tc main_arg4) (ix2 b a : S64x512.Idx) := by
  after_reads_at

theorem read2 (b : Fin 64) (a : Fin 512) : StableHlo.after hostOps1 V0 (Proc.devRef .tc main_v63) (ix3 b 0 a : S64x1x512.Idx)
    = V0 (Proc.devRef .tc main_arg3) (ix2 b a : S64x512.Idx) := by
  after_reads_at

theorem read3 (b : Fin 64) (a : Fin 512) : StableHlo.after hostOps1 V0 (Proc.devRef .tc main_v64) (ix3 b 0 a : S64x1x512.Idx)
    = V0 (Proc.devRef .tc main_arg5) (ix2 b a : S64x512.Idx) := by
  after_reads_at

theorem read0 : StableHlo.after hostOps1 V0 (Proc.devRef .tc main_arg1) = V0 (Proc.devRef .tc main_arg1) :=
  StableHlo.after_of_writes_sub hostOps1 _ hostOps1_writes (by decide +kernel)

/-- The region's output array, from the arguments as the host operations before it find them. -/
theorem val_eq (c : Dev nD) (V : (c : Dev nD) → (b : Ref sig .tc) → Buf (Elt Ideal) ((c : Thread nD τ).loc b))
    (hV : ∀ b, V c b = StableHlo.after hostOps1 V0 (Proc.devRef .tc b)) :
    KArr1.val V c = outArg 1 (V0 (Proc.devRef .tc main_arg1)) (V0 (Proc.devRef .tc main_arg4))
      (V0 (Proc.devRef .tc main_arg3)) (V0 (Proc.devRef .tc main_arg5))
      (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  unfold KArr1.val
  rw [hV main_arg1, hV main_v62, hV main_v63, hV main_v64, hV main_v34, hV main_v37, hV main_v39, hV main_v42, hV main_v45, hV main_v48, hV main_v50, hV main_v53, hV main_v55, hV main_v58, hV main_v61, read0]
  funext y
  unfold arrVal outArg
  have hp : parOf (StableHlo.after hostOps1 V0 (Proc.devRef .tc main_v34)) (StableHlo.after hostOps1 V0 (Proc.devRef .tc main_v37)) (StableHlo.after hostOps1 V0 (Proc.devRef .tc main_v39)) (StableHlo.after hostOps1 V0 (Proc.devRef .tc main_v42)) (StableHlo.after hostOps1 V0 (Proc.devRef .tc main_v45)) (StableHlo.after hostOps1 V0 (Proc.devRef .tc main_v48)) (StableHlo.after hostOps1 V0 (Proc.devRef .tc main_v50)) (StableHlo.after hostOps1 V0 (Proc.devRef .tc main_v53)) (StableHlo.after hostOps1 V0 (Proc.devRef .tc main_v55)) (StableHlo.after hostOps1 V0 (Proc.devRef .tc main_v58)) (StableHlo.after hostOps1 V0 (Proc.devRef .tc main_v61))
      = parArg 1 (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
    unfold parOf parArg
    exact par_congr (fun a h => read4 V0 a h) (fun h => read5 V0 h) (fun h => read6 V0 h) (read7 V0) (fun a => read8 V0 a) (fun a => read9 V0 a) (fun a h => read10 V0 a h) (fun h => read11 V0 h) (fun h k => read12 V0 h k) (fun k => read13 V0 k) (read14 V0)
  have h1 := fun a => read1 V0 (y 0) a
  have h2 := fun a => read2 V0 (y 0) a
  have h3 := fun a => read3 V0 (y 0) a
  rw [hp]
  exact outK_congr (fun _ _ => rfl) h1 h2 h3

end Cert.KHost1
-- ==== Proof.KBlock2.lean ====
module

public import proofs.«01_k».proof.Proof.KPiece
public import proofs.«01_k».proof.Proof.Gen.KernelIdeal.Frame

@[expose] public section

set_option maxRecDepth 65536

noncomputable section

/-! The kernel's region 2: what one grid point leaves in the output's block. -/

namespace Cert.KBlock2

open Idealize.ShloMosaic Cert.KernelIdeal Cert.KernelIdeal.Gen Cert.Spec Cert.KRow Cert.KPiece
open Idealize.ShloMosaic.TcCoe Idealize.SL.Sem

set_option maxHeartbeats 4000000 in
/-- Region 2's block holds its eight batch entries' results. -/
theorem block (c : Dev nD) (i : grid2.Coords) (arg1 : Memref sig .tc .vmem S8x576x512 .f32) (harg1 : arg1.IsWhole) (arg2 : Memref sig .tc .vmem S8x1x512 .f32) (harg2 : arg2.IsWhole) (arg3 : Memref sig .tc .vmem S8x1x512 .f32) (harg3 : arg3.IsWhole) (arg4 : Memref sig .tc .vmem S8x1x512 .f32) (harg4 : arg4.IsWhole) (arg5 : Memref sig .tc .vmem S512x128 .f32) (harg5 : arg5.IsWhole) (arg6 : Memref sig .tc .vmem S1x128 .f32) (harg6 : arg6.IsWhole) (arg7 : Memref sig .tc .vmem S128x1 .f32) (harg7 : arg7.IsWhole) (arg8 : Memref sig .tc .vmem S1x1 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x102 .f32) (harg11 : arg11.IsWhole) (arg12 : Memref sig .tc .vmem S1x102 .f32) (harg12 : arg12.IsWhole) (arg13 : Memref sig .tc .vmem S102x115 .f32) (harg13 : arg13.IsWhole) (arg14 : Memref sig .tc .vmem S1x115 .f32) (harg14 : arg14.IsWhole) (arg15 : Memref sig .tc .vmem S1x1 .f32) (harg15 : arg15.IsWhole) (arg16 : Memref sig .tc .vmem S8x116x512 .f32) (harg16 : arg16.IsWhole)
    (x0 : Vec Ideal S8x576x512 .f32) (x1 : Vec Ideal S8x1x512 .f32) (x2 : Vec Ideal S8x1x512 .f32) (x3 : Vec Ideal S8x1x512 .f32) (x4 : Vec Ideal S512x128 .f32) (x5 : Vec Ideal S1x128 .f32) (x6 : Vec Ideal S128x1 .f32) (x7 : Vec Ideal S1x1 .f32) (x8 : Vec Ideal S1x512 .f32) (x9 : Vec Ideal S1x512 .f32) (x10 : Vec Ideal S512x102 .f32) (x11 : Vec Ideal S1x102 .f32) (x12 : Vec Ideal S102x115 .f32) (x13 : Vec Ideal S1x115 .f32) (x14 : Vec Ideal S1x1 .f32) :
    out2_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 = blkVal x0 x1 x2 x3 x4 x5 x6 x7 x8 x9 x10 x11 x12 x13 x14 := by
  funext y
  refine View.read_writes_apply_of_pieces (v := VO2_15) (Val := Elt Ideal) _ (blkVal x0 x1 x2 x3 x4 x5 x6 x7 x8 x9 x10 x11 x12 x13 x14) _ ?_ y (cover2_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14 y)
  refine List.forall_mem_cons.2 ⟨fun z => ?_, ?_⟩
  · exact piece_extra x0 x1 x2 x3 x4 x5 x6 x7 x8 x9 x10 x11 x12 x13 x14 harg1 harg2 harg3 harg4 harg5 harg6 harg7 harg8 7 (by decide) inb_S8x576x512_S1x576x512_7_0_0 inb_S8x1x512_S1x1x512_7_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 7 (by decide) inb_S8x576x512_S1x576x512_7_0_0 inb_S8x1x512_S1x1x512_7_0_0 _ _ _ _ (fun _ => rfl) _ _ rfl z
  refine List.forall_mem_cons.2 ⟨fun z => ?_, ?_⟩
  · exact piece_extra x0 x1 x2 x3 x4 x5 x6 x7 x8 x9 x10 x11 x12 x13 x14 harg1 harg2 harg3 harg4 harg5 harg6 harg7 harg8 6 (by decide) inb_S8x576x512_S1x576x512_6_0_0 inb_S8x1x512_S1x1x512_6_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 6 (by decide) inb_S8x576x512_S1x576x512_6_0_0 inb_S8x1x512_S1x1x512_6_0_0 _ _ _ _ (fun _ => rfl) _ _ rfl z
  refine List.forall_mem_cons.2 ⟨fun z => ?_, ?_⟩
  · exact piece_extra x0 x1 x2 x3 x4 x5 x6 x7 x8 x9 x10 x11 x12 x13 x14 harg1 harg2 harg3 harg4 harg5 harg6 harg7 harg8 5 (by decide) inb_S8x576x512_S1x576x512_5_0_0 inb_S8x1x512_S1x1x512_5_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 5 (by decide) inb_S8x576x512_S1x576x512_5_0_0 inb_S8x1x512_S1x1x512_5_0_0 _ _ _ _ (fun _ => rfl) _ _ rfl z
  refine List.forall_mem_cons.2 ⟨fun z => ?_, ?_⟩
  · exact piece_extra x0 x1 x2 x3 x4 x5 x6 x7 x8 x9 x10 x11 x12 x13 x14 harg1 harg2 harg3 harg4 harg5 harg6 harg7 harg8 4 (by decide) inb_S8x576x512_S1x576x512_4_0_0 inb_S8x1x512_S1x1x512_4_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 4 (by decide) inb_S8x576x512_S1x576x512_4_0_0 inb_S8x1x512_S1x1x512_4_0_0 _ _ _ _ (fun _ => rfl) _ _ rfl z
  refine List.forall_mem_cons.2 ⟨fun z => ?_, ?_⟩
  · exact piece_extra x0 x1 x2 x3 x4 x5 x6 x7 x8 x9 x10 x11 x12 x13 x14 harg1 harg2 harg3 harg4 harg5 harg6 harg7 harg8 3 (by decide) inb_S8x576x512_S1x576x512_3_0_0 inb_S8x1x512_S1x1x512_3_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 3 (by decide) inb_S8x576x512_S1x576x512_3_0_0 inb_S8x1x512_S1x1x512_3_0_0 _ _ _ _ (fun _ => rfl) _ _ rfl z
  refine List.forall_mem_cons.2 ⟨fun z => ?_, ?_⟩
  · exact piece_extra x0 x1 x2 x3 x4 x5 x6 x7 x8 x9 x10 x11 x12 x13 x14 harg1 harg2 harg3 harg4 harg5 harg6 harg7 harg8 2 (by decide) inb_S8x576x512_S1x576x512_2_0_0 inb_S8x1x512_S1x1x512_2_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 2 (by decide) inb_S8x576x512_S1x576x512_2_0_0 inb_S8x1x512_S1x1x512_2_0_0 _ _ _ _ (fun _ => rfl) _ _ rfl z
  refine List.forall_mem_cons.2 ⟨fun z => ?_, ?_⟩
  · exact piece_extra x0 x1 x2 x3 x4 x5 x6 x7 x8 x9 x10 x11 x12 x13 x14 harg1 harg2 harg3 harg4 harg5 harg6 harg7 harg8 1 (by decide) inb_S8x576x512_S1x576x512_1_0_0 inb_S8x1x512_S1x1x512_1_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 1 (by decide) inb_S8x576x512_S1x576x512_1_0_0 inb_S8x1x512_S1x1x512_1_0_0 _ _ _ _ (fun _ => rfl) _ _ rfl z
  refine List.forall_mem_cons.2 ⟨fun z => ?_, ?_⟩
  · exact piece_extra x0 x1 x2 x3 x4 x5 x6 x7 x8 x9 x10 x11 x12 x13 x14 harg1 harg2 harg3 harg4 harg5 harg6 harg7 harg8 0 (by decide) inb_S8x576x512_S1x576x512_0_0_0 inb_S8x1x512_S1x1x512_0_0_0 _ _ _ _ (fun _ => rfl) _ _ rfl z
  refine List.forall_mem_cons.2 ⟨fun z => ?_, ?_⟩
  · exact piece_aggr x0 x1 x2 x3 x4 x5 x6 x7 x8 x9 x10 x11 x12 x13 x14 harg1 harg2 harg3 harg4 harg5 harg6 harg7 harg8 harg9 harg10 harg11 harg12 harg13 harg14 harg15 0 (by decide) inb_S8x576x512_S1x576x512_0_0_0 inb_S8x1x512_S1x1x512_0_0_0 _ _ _ _ (fun _ => rfl) _ _ rfl z
  exact fun p hp => absurd hp List.not_mem_nil

end Cert.KBlock2
-- ==== Proof.KArr2.lean ====
module

public import proofs.«01_k».proof.Proof.KBlock2
public import proofs.«01_k».proof.Proof.KArrVal

@[expose] public section

set_option maxRecDepth 65536

noncomputable section

/-! The kernel's region 2: what it leaves in its output array, in terms of the arrays its windows read. -/

namespace Cert.KArr2

open Idealize.ShloMosaic Cert.KernelIdeal Cert.KernelIdeal.Gen Cert.Spec Cert.KRow Cert.KPiece Cert.KArr
open Idealize.ShloMosaic.TcCoe Idealize.SL.Sem Idealize.ShloMosaic.Pipeline

variable (V : (c : Dev nD) → (b : Ref sig .tc) → Buf (Elt Ideal) ((c : Thread nD τ).loc b)) (c : Dev nD)

/-- Window 0's block at point `t` is the point's eight batch entries. -/
theorem idx0 (t : Fin cfg2.N) : win2_0.index t 0 = t.val ∧ win2_0.index t 1 = 0 ∧ win2_0.index t 2 = 0 := by
  rcases fin_N2 t with rfl | rfl | rfl | rfl | rfl | rfl | rfl | rfl <;> decide +kernel

/-- Window 1's block at point `t` is the point's eight batch entries. -/
theorem idx1 (t : Fin cfg2.N) : win2_1.index t 0 = t.val ∧ win2_1.index t 1 = 0 ∧ win2_1.index t 2 = 0 := by
  rcases fin_N2 t with rfl | rfl | rfl | rfl | rfl | rfl | rfl | rfl <;> decide +kernel

/-- Window 2's block at point `t` is the point's eight batch entries. -/
theorem idx2 (t : Fin cfg2.N) : win2_2.index t 0 = t.val ∧ win2_2.index t 1 = 0 ∧ win2_2.index t 2 = 0 := by
  rcases fin_N2 t with rfl | rfl | rfl | rfl | rfl | rfl | rfl | rfl <;> decide +kernel

/-- Window 3's block at point `t` is the point's eight batch entries. -/
theorem idx3 (t : Fin cfg2.N) : win2_3.index t 0 = t.val ∧ win2_3.index t 1 = 0 ∧ win2_3.index t 2 = 0 := by
  rcases fin_N2 t with rfl | rfl | rfl | rfl | rfl | rfl | rfl | rfl <;> decide +kernel

/-- Window 15's block at point `t` is the point's eight batch entries. -/
theorem idx15 (t : Fin cfg2.N) : win2_15.index t 0 = t.val ∧ win2_15.index t 1 = 0 ∧ win2_15.index t 2 = 0 := by
  rcases fin_N2 t with rfl | rfl | rfl | rfl | rfl | rfl | rfl | rfl <;> decide +kernel

/-- Window 4's block is its whole array. -/
theorem idx4 (t : Fin cfg2.N) : win2_4.index t 0 = 0 ∧ win2_4.index t 1 = 0 := by
  rcases fin_N2 t with rfl | rfl | rfl | rfl | rfl | rfl | rfl | rfl <;> decide +kernel

/-- Window 5's block is its whole array. -/
theorem idx5 (t : Fin cfg2.N) : win2_5.index t 0 = 0 ∧ win2_5.index t 1 = 0 := by
  rcases fin_N2 t with rfl | rfl | rfl | rfl | rfl | rfl | rfl | rfl <;> decide +kernel

/-- Window 6's block is its whole array. -/
theorem idx6 (t : Fin cfg2.N) : win2_6.index t 0 = 0 ∧ win2_6.index t 1 = 0 := by
  rcases fin_N2 t with rfl | rfl | rfl | rfl | rfl | rfl | rfl | rfl <;> decide +kernel

/-- Window 7's block is its whole array. -/
theorem idx7 (t : Fin cfg2.N) : win2_7.index t 0 = 0 ∧ win2_7.index t 1 = 0 := by
  rcases fin_N2 t with rfl | rfl | rfl | rfl | rfl | rfl | rfl | rfl <;> decide +kernel

/-- Window 8's block is its whole array. -/
theorem idx8 (t : Fin cfg2.N) : win2_8.index t 0 = 0 ∧ win2_8.index t 1 = 0 := by
  rcases fin_N2 t with rfl | rfl | rfl | rfl | rfl | rfl | rfl | rfl <;> decide +kernel

/-- Window 9's block is its whole array. -/
theorem idx9 (t : Fin cfg2.N) : win2_9.index t 0 = 0 ∧ win2_9.index t 1 = 0 := by
  rcases fin_N2 t with rfl | rfl | rfl | rfl | rfl | rfl | rfl | rfl <;> decide +kernel

/-- Window 10's block is its whole array. -/
theorem idx10 (t : Fin cfg2.N) : win2_10.index t 0 = 0 ∧ win2_10.index t 1 = 0 := by
  rcases fin_N2 t with rfl | rfl | rfl | rfl | rfl | rfl | rfl | rfl <;> decide +kernel

/-- Window 11's block is its whole array. -/
theorem idx11 (t : Fin cfg2.N) : win2_11.index t 0 = 0 ∧ win2_11.index t 1 = 0 := by
  rcases fin_N2 t with rfl | rfl | rfl | rfl | rfl | rfl | rfl | rfl <;> decide +kernel

/-- Window 12's block is its whole array. -/
theorem idx12 (t : Fin cfg2.N) : win2_12.index t 0 = 0 ∧ win2_12.index t 1 = 0 := by
  rcases fin_N2 t with rfl | rfl | rfl | rfl | rfl | rfl | rfl | rfl <;> decide +kernel

/-- Window 13's block is its whole array. -/
theorem idx13 (t : Fin cfg2.N) : win2_13.index t 0 = 0 ∧ win2_13.index t 1 = 0 := by
  rcases fin_N2 t with rfl | rfl | rfl | rfl | rfl | rfl | rfl | rfl <;> decide +kernel

/-- Window 14's block is its whole array. -/
theorem idx14 (t : Fin cfg2.N) : win2_14.index t 0 = 0 ∧ win2_14.index t 1 = 0 := by
  rcases fin_N2 t with rfl | rfl | rfl | rfl | rfl | rfl | rfl | rfl <;> decide +kernel

theorem lt8 (t : Fin cfg2.N) : t.val < 8 := Nat.lt_of_lt_of_eq t.isLt N_2

/-- Window 0's block, read. -/
theorem blk0 (t : Fin cfg2.N) (r : Fin 8) (n : Fin 576) (d : Fin 512) :
    iblk2 V c 0 t (ix3 r n d : S8x576x512.Idx) = V c main_arg2 (ix3 (rowOf ⟨t.val, lt8 t⟩ r) n d) := by
  refine congrArg (V c main_arg2) (funext fun a => Fin.ext ?_)
  have h := idx0 t
  match a with
  | ⟨0, _⟩ => exact (Window.rect_emb_val win2_0 t (ix3 r n d : S8x576x512.Idx) 0).trans (by rw [h.1]; rfl)
  | ⟨1, _⟩ => exact (Window.rect_emb_val win2_0 t (ix3 r n d : S8x576x512.Idx) 1).trans (by rw [h.2.1, Nat.zero_mul, Nat.zero_add]; rfl)
  | ⟨2, _⟩ => exact (Window.rect_emb_val win2_0 t (ix3 r n d : S8x576x512.Idx) 2).trans (by rw [h.2.2, Nat.zero_mul, Nat.zero_add]; rfl)

/-- Window 1's block, read. -/
theorem blk1 (t : Fin cfg2.N) (r : Fin 8) (n : Fin 1) (d : Fin 512) :
    iblk2 V c 1 t (ix3 r n d : S8x1x512.Idx) = V c main_v95 (ix3 (rowOf ⟨t.val, lt8 t⟩ r) n d) := by
  refine congrArg (V c main_v95) (funext fun a => Fin.ext ?_)
  have h := idx1 t
  match a with
  | ⟨0, _⟩ => exact (Window.rect_emb_val win2_1 t (ix3 r n d : S8x1x512.Idx) 0).trans (by rw [h.1]; rfl)
  | ⟨1, _⟩ => exact (Window.rect_emb_val win2_1 t (ix3 r n d : S8x1x512.Idx) 1).trans (by rw [h.2.1, Nat.zero_mul, Nat.zero_add]; rfl)
  | ⟨2, _⟩ => exact (Window.rect_emb_val win2_1 t (ix3 r n d : S8x1x512.Idx) 2).trans (by rw [h.2.2, Nat.zero_mul, Nat.zero_add]; rfl)

/-- Window 2's block, read. -/
theorem blk2 (t : Fin cfg2.N) (r : Fin 8) (n : Fin 1) (d : Fin 512) :
    iblk2 V c 2 t (ix3 r n d : S8x1x512.Idx) = V c main_v96 (ix3 (rowOf ⟨t.val, lt8 t⟩ r) n d) := by
  refine congrArg (V c main_v96) (funext fun a => Fin.ext ?_)
  have h := idx2 t
  match a with
  | ⟨0, _⟩ => exact (Window.rect_emb_val win2_2 t (ix3 r n d : S8x1x512.Idx) 0).trans (by rw [h.1]; rfl)
  | ⟨1, _⟩ => exact (Window.rect_emb_val win2_2 t (ix3 r n d : S8x1x512.Idx) 1).trans (by rw [h.2.1, Nat.zero_mul, Nat.zero_add]; rfl)
  | ⟨2, _⟩ => exact (Window.rect_emb_val win2_2 t (ix3 r n d : S8x1x512.Idx) 2).trans (by rw [h.2.2, Nat.zero_mul, Nat.zero_add]; rfl)

/-- Window 3's block, read. -/
theorem blk3 (t : Fin cfg2.N) (r : Fin 8) (n : Fin 1) (d : Fin 512) :
    iblk2 V c 3 t (ix3 r n d : S8x1x512.Idx) = V c main_v97 (ix3 (rowOf ⟨t.val, lt8 t⟩ r) n d) := by
  refine congrArg (V c main_v97) (funext fun a => Fin.ext ?_)
  have h := idx3 t
  match a with
  | ⟨0, _⟩ => exact (Window.rect_emb_val win2_3 t (ix3 r n d : S8x1x512.Idx) 0).trans (by rw [h.1]; rfl)
  | ⟨1, _⟩ => exact (Window.rect_emb_val win2_3 t (ix3 r n d : S8x1x512.Idx) 1).trans (by rw [h.2.1, Nat.zero_mul, Nat.zero_add]; rfl)
  | ⟨2, _⟩ => exact (Window.rect_emb_val win2_3 t (ix3 r n d : S8x1x512.Idx) 2).trans (by rw [h.2.2, Nat.zero_mul, Nat.zero_add]; rfl)

/-- Window 4's block, read. -/
theorem blk4 (t : Fin cfg2.N) : iblk2 V c 4 t = V c main_v67 := by
  funext y
  refine congrArg (V c main_v67) (funext fun a => Fin.ext ?_)
  have h := idx4 t
  match a with
  | ⟨0, _⟩ => exact (Window.rect_emb_val win2_4 t y 0).trans (by rw [h.1, Nat.zero_mul, Nat.zero_add]; rfl)
  | ⟨1, _⟩ => exact (Window.rect_emb_val win2_4 t y 1).trans (by rw [h.2, Nat.zero_mul, Nat.zero_add]; rfl)

/-- Window 5's block, read. -/
theorem blk5 (t : Fin cfg2.N) : iblk2 V c 5 t = V c main_v70 := by
  funext y
  refine congrArg (V c main_v70) (funext fun a => Fin.ext ?_)
  have h := idx5 t
  match a with
  | ⟨0, _⟩ => exact (Window.rect_emb_val win2_5 t y 0).trans (by rw [h.1, Nat.zero_mul, Nat.zero_add]; rfl)
  | ⟨1, _⟩ => exact (Window.rect_emb_val win2_5 t y 1).trans (by rw [h.2, Nat.zero_mul, Nat.zero_add]; rfl)

/-- Window 6's block, read. -/
theorem blk6 (t : Fin cfg2.N) : iblk2 V c 6 t = V c main_v72 := by
  funext y
  refine congrArg (V c main_v72) (funext fun a => Fin.ext ?_)
  have h := idx6 t
  match a with
  | ⟨0, _⟩ => exact (Window.rect_emb_val win2_6 t y 0).trans (by rw [h.1, Nat.zero_mul, Nat.zero_add]; rfl)
  | ⟨1, _⟩ => exact (Window.rect_emb_val win2_6 t y 1).trans (by rw [h.2, Nat.zero_mul, Nat.zero_add]; rfl)

/-- Window 7's block, read. -/
theorem blk7 (t : Fin cfg2.N) : iblk2 V c 7 t = V c main_v75 := by
  funext y
  refine congrArg (V c main_v75) (funext fun a => Fin.ext ?_)
  have h := idx7 t
  match a with
  | ⟨0, _⟩ => exact (Window.rect_emb_val win2_7 t y 0).trans (by rw [h.1, Nat.zero_mul, Nat.zero_add]; rfl)
  | ⟨1, _⟩ => exact (Window.rect_emb_val win2_7 t y 1).trans (by rw [h.2, Nat.zero_mul, Nat.zero_add]; rfl)

/-- Window 8's block, read. -/
theorem blk8 (t : Fin cfg2.N) : iblk2 V c 8 t = V c main_v78 := by
  funext y
  refine congrArg (V c main_v78) (funext fun a => Fin.ext ?_)
  have h := idx8 t
  match a with
  | ⟨0, _⟩ => exact (Window.rect_emb_val win2_8 t y 0).trans (by rw [h.1, Nat.zero_mul, Nat.zero_add]; rfl)
  | ⟨1, _⟩ => exact (Window.rect_emb_val win2_8 t y 1).trans (by rw [h.2, Nat.zero_mul, Nat.zero_add]; rfl)

/-- Window 9's block, read. -/
theorem blk9 (t : Fin cfg2.N) : iblk2 V c 9 t = V c main_v81 := by
  funext y
  refine congrArg (V c main_v81) (funext fun a => Fin.ext ?_)
  have h := idx9 t
  match a with
  | ⟨0, _⟩ => exact (Window.rect_emb_val win2_9 t y 0).trans (by rw [h.1, Nat.zero_mul, Nat.zero_add]; rfl)
  | ⟨1, _⟩ => exact (Window.rect_emb_val win2_9 t y 1).trans (by rw [h.2, Nat.zero_mul, Nat.zero_add]; rfl)

/-- Window 10's block, read. -/
theorem blk10 (t : Fin cfg2.N) : iblk2 V c 10 t = V c main_v83 := by
  funext y
  refine congrArg (V c main_v83) (funext fun a => Fin.ext ?_)
  have h := idx10 t
  match a with
  | ⟨0, _⟩ => exact (Window.rect_emb_val win2_10 t y 0).trans (by rw [h.1, Nat.zero_mul, Nat.zero_add]; rfl)
  | ⟨1, _⟩ => exact (Window.rect_emb_val win2_10 t y 1).trans (by rw [h.2, Nat.zero_mul, Nat.zero_add]; rfl)

/-- Window 11's block, read. -/
theorem blk11 (t : Fin cfg2.N) : iblk2 V c 11 t = V c main_v86 := by
  funext y
  refine congrArg (V c main_v86) (funext fun a => Fin.ext ?_)
  have h := idx11 t
  match a with
  | ⟨0, _⟩ => exact (Window.rect_emb_val win2_11 t y 0).trans (by rw [h.1, Nat.zero_mul, Nat.zero_add]; rfl)
  | ⟨1, _⟩ => exact (Window.rect_emb_val win2_11 t y 1).trans (by rw [h.2, Nat.zero_mul, Nat.zero_add]; rfl)

/-- Window 12's block, read. -/
theorem blk12 (t : Fin cfg2.N) : iblk2 V c 12 t = V c main_v88 := by
  funext y
  refine congrArg (V c main_v88) (funext fun a => Fin.ext ?_)
  have h := idx12 t
  match a with
  | ⟨0, _⟩ => exact (Window.rect_emb_val win2_12 t y 0).trans (by rw [h.1, Nat.zero_mul, Nat.zero_add]; rfl)
  | ⟨1, _⟩ => exact (Window.rect_emb_val win2_12 t y 1).trans (by rw [h.2, Nat.zero_mul, Nat.zero_add]; rfl)

/-- Window 13's block, read. -/
theorem blk13 (t : Fin cfg2.N) : iblk2 V c 13 t = V c main_v91 := by
  funext y
  refine congrArg (V c main_v91) (funext fun a => Fin.ext ?_)
  have h := idx13 t
  match a with
  | ⟨0, _⟩ => exact (Window.rect_emb_val win2_13 t y 0).trans (by rw [h.1, Nat.zero_mul, Nat.zero_add]; rfl)
  | ⟨1, _⟩ => exact (Window.rect_emb_val win2_13 t y 1).trans (by rw [h.2, Nat.zero_mul, Nat.zero_add]; rfl)

/-- Window 14's block, read. -/
theorem blk14 (t : Fin cfg2.N) : iblk2 V c 14 t = V c main_v94 := by
  funext y
  refine congrArg (V c main_v94) (funext fun a => Fin.ext ?_)
  have h := idx14 t
  match a with
  | ⟨0, _⟩ => exact (Window.rect_emb_val win2_14 t y 0).trans (by rw [h.1, Nat.zero_mul, Nat.zero_add]; rfl)
  | ⟨1, _⟩ => exact (Window.rect_emb_val win2_14 t y 1).trans (by rw [h.2, Nat.zero_mul, Nat.zero_add]; rfl)

/-- What the output array ends holding. -/
def val : Vec Ideal S64x116x512 .f32 :=
  arrVal (V c main_arg2) (V c main_v95) (V c main_v96) (V c main_v97) (V c main_v67) (V c main_v70) (V c main_v72) (V c main_v75) (V c main_v78) (V c main_v81) (V c main_v83) (V c main_v86) (V c main_v88) (V c main_v91) (V c main_v94)

/-- What point `t` writes back is block `t` of `val`. -/
theorem flushed_eq (t : Fin cfg2.N) :
    (dat2 V c).flushed 15 t = (win2_15.blk t).view.read (Elt Ideal) (val V c) := by
  show (cfg2.win 15).cut (grid2.coords t) ((dat2 V c).after 15 t) = _
  rw [after2_15]
  unfold outsAt2
  rw [KBlock2.block]
  funext y
  have h := idx15 t
  have e : (((win2_15.blk t).view.emb y : S64x116x512.Idx)) = ix3 (rowOf ⟨t.val, lt8 t⟩ (y 0)) (y 1) (y 2) := by
    refine funext fun a => Fin.ext ?_
    match a with
    | ⟨0, _⟩ => exact (Window.rect_emb_val win2_15 t y 0).trans (by rw [h.1]; rfl)
    | ⟨1, _⟩ => exact (Window.rect_emb_val win2_15 t y 1).trans (by rw [h.2.1, Nat.zero_mul, Nat.zero_add]; rfl)
    | ⟨2, _⟩ => exact (Window.rect_emb_val win2_15 t y 2).trans (by rw [h.2.2, Nat.zero_mul, Nat.zero_add]; rfl)
  show blkVal (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) (iblk2 V c 10 t) (iblk2 V c 11 t)
    (iblk2 V c 12 t) (iblk2 V c 13 t) (iblk2 V c 14 t) (ix3 (y 0) (y 1) (y 2))
      = val V c ((win2_15.blk t).view.emb y)
  rw [e]
  exact blk_arr _ _ _ _ _ _ _ _ _ _ _ _ _ _ _ _ _ _ _ _ _ _ _ _ _ _ _ _ _ _ ⟨t.val, lt8 t⟩ (y 0) (y 1) (y 2)
    (blk0 V c t (y 0)) (blk1 V c t (y 0) 0) (blk2 V c t (y 0) 0) (blk3 V c t (y 0) 0) (blk4 V c t) (blk5 V c t)
    (blk6 V c t) (blk7 V c t) (blk8 V c t) (blk9 V c t) (blk10 V c t) (blk11 V c t) (blk12 V c t) (blk13 V c t) (blk14 V c t)

/-- The output's blocks tile its array. -/
theorem cover (i : S64x116x512.Idx) :
    ∃ t : Fin cfg2.N, (cfg2.win 15).flush t = true ∧ i ∈ ((cfg2.win 15).blk t).view.set := by
  have h0 : (i 0).val < 64 := (i 0).isLt
  have ht : (i 0).val / 8 < cfg2.N := Nat.lt_of_lt_of_eq (by omega) N_2.symm
  refine ⟨⟨(i 0).val / 8, ht⟩, flush2_15 _, ?_⟩
  have h := idx15 ⟨(i 0).val / 8, ht⟩
  have e : ((win2_15.blk ⟨(i 0).val / 8, ht⟩).view.emb
      (ix3 (⟨(i 0).val % 8, Nat.mod_lt _ (by decide)⟩ : Fin 8) (i 1) (i 2) : S8x116x512.Idx) : S64x116x512.Idx) = i := by
    refine funext fun a => Fin.ext ?_
    match a with
    | ⟨0, _⟩ => exact (Window.rect_emb_val win2_15 _ _ 0).trans (by rw [h.1]; exact Nat.div_add_mod' _ 8)
    | ⟨1, _⟩ => exact (Window.rect_emb_val win2_15 _ _ 1).trans (by rw [h.2.1, Nat.zero_mul, Nat.zero_add]; rfl)
    | ⟨2, _⟩ => exact (Window.rect_emb_val win2_15 _ _ 2).trans (by rw [h.2.2, Nat.zero_mul, Nat.zero_add]; rfl)
  have hm := (win2_15.blk ⟨(i 0).val / 8, ht⟩).view.emb_mem_set
    (ix3 (⟨(i 0).val % 8, Nat.mod_lt _ (by decide)⟩ : Fin 8) (i 1) (i 2) : S8x116x512.Idx)
  rw [e] at hm
  exact hm

/-- So the output array ends holding `val`. -/
theorem final : (dat2 V c).arrAt 15 cfg2.N = val V c :=
  (dat2 V c).arrAt_eq_of_cover 15 (val V c) (fun t _ => flushed_eq V c t) cover

end Cert.KArr2
-- ==== Proof.KHost2.lean ====
module

public import proofs.«01_k».proof.Proof.KArr2
public import proofs.«01_k».proof.Proof.Val
public import Idealize.ShloMosaic.Lib.StableHlo.ReadAt

@[expose] public section

set_option maxRecDepth 65536

noncomputable section

/-! What the host operations before region 2 leave in the arrays its windows read, and so the region's result as a
function of the arguments. -/

namespace Cert.KHost2

open Idealize.ShloMosaic Cert.KernelIdeal Cert.KernelIdeal.Gen Cert.Spec Cert.KRow Cert.KPiece Cert.KArr Cert.Val
open Idealize.ShloMosaic.TcCoe

variable (V0 : Valuation τ sig (Elt Ideal))

theorem read4 (a : Fin 512) (h : Fin 128) : StableHlo.after hostOps2 V0 (Proc.devRef .tc main_v67) (ix2 a h : S512x128.Idx)
    = V0 (Proc.devRef .tc main_arg6) (ix3 2 a h : S3x512x128.Idx) := by
  after_reads_at

theorem read5 (h : Fin 128) : StableHlo.after hostOps2 V0 (Proc.devRef .tc main_v70) (ix2 0 h : S1x128.Idx)
    = V0 (Proc.devRef .tc main_arg7) (ix2 2 h : S3x128.Idx) := by
  after_reads_at

theorem read6 (h : Fin 128) : StableHlo.after hostOps2 V0 (Proc.devRef .tc main_v72) (ix2 h 0 : S128x1.Idx)
    = V0 (Proc.devRef .tc main_arg8) (ix3 2 h 0 : S3x128x1.Idx) := by
  after_reads_at

theorem read7  : StableHlo.after hostOps2 V0 (Proc.devRef .tc main_v75) (ix2 0 0 : S1x1.Idx)
    = V0 (Proc.devRef .tc main_arg9) (ix2 2 0 : S3x1.Idx) := by
  after_reads_at

theorem read8 (a : Fin 512) : StableHlo.after hostOps2 V0 (Proc.devRef .tc main_v78) (ix2 0 a : S1x512.Idx)
    = V0 (Proc.devRef .tc main_arg10) (ix2 2 a : S3x512.Idx) := by
  after_reads_at

theorem read9 (a : Fin 512) : StableHlo.after hostOps2 V0 (Proc.devRef .tc main_v81) (ix2 0 a : S1x512.Idx)
    = V0 (Proc.devRef .tc main_arg11) (ix2 2 a : S3x512.Idx) := by
  after_reads_at

theorem read10 (a : Fin 512) (h : Fin 102) : StableHlo.after hostOps2 V0 (Proc.devRef .tc main_v83) (ix2 a h : S512x102.Idx)
    = V0 (Proc.devRef .tc main_arg12) (ix3 2 a h : S3x512x102.Idx) := by
  after_reads_at

theorem read11 (h : Fin 102) : StableHlo.after hostOps2 V0 (Proc.devRef .tc main_v86) (ix2 0 h : S1x102.Idx)
    = V0 (Proc.devRef .tc main_arg13) (ix2 2 h : S3x102.Idx) := by
  after_reads_at

theorem read12 (h : Fin 102) (k : Fin 115) : StableHlo.after hostOps2 V0 (Proc.devRef .tc main_v88) (ix2 h k : S102x115.Idx)
    = V0 (Proc.devRef .tc main_arg14) (ix3 2 h k : S3x102x115.Idx) := by
  after_reads_at

theorem read13 (k : Fin 115) : StableHlo.after hostOps2 V0 (Proc.devRef .tc main_v91) (ix2 0 k : S1x115.Idx)
    = V0 (Proc.devRef .tc main_arg15) (ix2 2 k : S3x115.Idx) := by
  after_reads_at

theorem read14  : StableHlo.after hostOps2 V0 (Proc.devRef .tc main_v94) (ix2 0 0 : S1x1.Idx)
    = V0 (Proc.devRef .tc main_arg16) (ix4 2 0 0 0 : S3x1x1x1.Idx) := by
  after_reads_at

theorem read1 (b : Fin 64) (a : Fin 512) : StableHlo.after hostOps2 V0 (Proc.devRef .tc main_v95) (ix3 b 0 a : S64x1x512.Idx)
    = V0 (Proc.devRef .tc main_arg5) (ix2 b a : S64x512.Idx) := by
  after_reads_at

theorem read2 (b : Fin 64) (a : Fin 512) : StableHlo.after hostOps2 V0 (Proc.devRef .tc main_v96) (ix3 b 0 a : S64x1x512.Idx)
    = V0 (Proc.devRef .tc main_arg3) (ix2 b a : S64x512.Idx) := by
  after_reads_at

theorem read3 (b : Fin 64) (a : Fin 512) : StableHlo.after hostOps2 V0 (Proc.devRef .tc main_v97) (ix3 b 0 a : S64x1x512.Idx)
    = V0 (Proc.devRef .tc main_arg4) (ix2 b a : S64x512.Idx) := by
  after_reads_at

theorem read0 : StableHlo.after hostOps2 V0 (Proc.devRef .tc main_arg2) = V0 (Proc.devRef .tc main_arg2) :=
  StableHlo.after_of_writes_sub hostOps2 _ hostOps2_writes (by decide +kernel)

/-- The region's output array, from the arguments as the host operations before it find them. -/
theorem val_eq (c : Dev nD) (V : (c : Dev nD) → (b : Ref sig .tc) → Buf (Elt Ideal) ((c : Thread nD τ).loc b))
    (hV : ∀ b, V c b = StableHlo.after hostOps2 V0 (Proc.devRef .tc b)) :
    KArr2.val V c = outArg 2 (V0 (Proc.devRef .tc main_arg2)) (V0 (Proc.devRef .tc main_arg5))
      (V0 (Proc.devRef .tc main_arg3)) (V0 (Proc.devRef .tc main_arg4))
      (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  unfold KArr2.val
  rw [hV main_arg2, hV main_v95, hV main_v96, hV main_v97, hV main_v67, hV main_v70, hV main_v72, hV main_v75, hV main_v78, hV main_v81, hV main_v83, hV main_v86, hV main_v88, hV main_v91, hV main_v94, read0]
  funext y
  unfold arrVal outArg
  have hp : parOf (StableHlo.after hostOps2 V0 (Proc.devRef .tc main_v67)) (StableHlo.after hostOps2 V0 (Proc.devRef .tc main_v70)) (StableHlo.after hostOps2 V0 (Proc.devRef .tc main_v72)) (StableHlo.after hostOps2 V0 (Proc.devRef .tc main_v75)) (StableHlo.after hostOps2 V0 (Proc.devRef .tc main_v78)) (StableHlo.after hostOps2 V0 (Proc.devRef .tc main_v81)) (StableHlo.after hostOps2 V0 (Proc.devRef .tc main_v83)) (StableHlo.after hostOps2 V0 (Proc.devRef .tc main_v86)) (StableHlo.after hostOps2 V0 (Proc.devRef .tc main_v88)) (StableHlo.after hostOps2 V0 (Proc.devRef .tc main_v91)) (StableHlo.after hostOps2 V0 (Proc.devRef .tc main_v94))
      = parArg 2 (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
    unfold parOf parArg
    exact par_congr (fun a h => read4 V0 a h) (fun h => read5 V0 h) (fun h => read6 V0 h) (read7 V0) (fun a => read8 V0 a) (fun a => read9 V0 a) (fun a h => read10 V0 a h) (fun h => read11 V0 h) (fun h k => read12 V0 h k) (fun k => read13 V0 k) (read14 V0)
  have h1 := fun a => read1 V0 (y 0) a
  have h2 := fun a => read2 V0 (y 0) a
  have h3 := fun a => read3 V0 (y 0) a
  rw [hp]
  exact outK_congr (fun _ _ => rfl) h1 h2 h3

end Cert.KHost2
-- ==== Proof.KRun.lean ====
module

public import proofs.«01_k».proof.Proof.KHost0
public import proofs.«01_k».proof.Proof.KHost1
public import proofs.«01_k».proof.Proof.KHost2

@[expose] public section

set_option maxRecDepth 65536

noncomputable section

/-! The kernel's run: its three results, as functions of the arguments. -/

namespace Cert.KRun

open Idealize.ShloMosaic Cert.KernelIdeal Cert.KernelIdeal.Gen Cert.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- Region 0's result at the end of the run. -/
theorem res0 (c : Dev nD) : W6 m ρ c (Proc.devRef .tc main_v32) = outArg 0 (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  have e : W6 m ρ c (Proc.devRef .tc main_v32) = (dat0 (V1 m ρ) c).arrAt 15 cfg0.N := by
    rw [W6_of m ρ c main_v32 (by decide +kernel), W5_of m ρ c main_v32 (by decide +kernel),
      W4_of m ρ c main_v32 (by decide +kernel), W3_of m ρ c main_v32 (by decide +kernel)]
    exact W2_arr m ρ c 15
  have ha : ∀ a ∈ argRefs, W0 m ρ c (Proc.devRef .tc a) = m ((c : Thread nD τ).loc a) := W0_args m ρ c
  rw [e, KArr0.final, KHost0.val_eq (W0 m ρ c) c (V1 m ρ) (fun _ => rfl),
    ha main_arg0 (by decide), ha main_arg3 (by decide), ha main_arg4 (by decide), ha main_arg5 (by decide), ha main_arg6 (by decide), ha main_arg7 (by decide), ha main_arg8 (by decide), ha main_arg9 (by decide), ha main_arg10 (by decide), ha main_arg11 (by decide), ha main_arg12 (by decide), ha main_arg13 (by decide), ha main_arg14 (by decide), ha main_arg15 (by decide), ha main_arg16 (by decide)]

/-- Region 1's result at the end of the run. -/
theorem res1 (c : Dev nD) : W6 m ρ c (Proc.devRef .tc main_v65) = outArg 1 (m ((c.tc : Thread nD τ).loc main_arg1)) (m ((c.tc : Thread nD τ).loc main_arg4)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  have e : W6 m ρ c (Proc.devRef .tc main_v65) = (dat1 (V3 m ρ) c).arrAt 15 cfg1.N := by
    rw [W6_of m ρ c main_v65 (by decide +kernel), W5_of m ρ c main_v65 (by decide +kernel)]
    exact W4_arr m ρ c 15
  have ha : ∀ a ∈ argRefs, W2 m ρ c (Proc.devRef .tc a) = m ((c : Thread nD τ).loc a) := W2_args m ρ c
  rw [e, KArr1.final, KHost1.val_eq (W2 m ρ c) c (V3 m ρ) (fun _ => rfl),
    ha main_arg1 (by decide), ha main_arg3 (by decide), ha main_arg4 (by decide), ha main_arg5 (by decide), ha main_arg6 (by decide), ha main_arg7 (by decide), ha main_arg8 (by decide), ha main_arg9 (by decide), ha main_arg10 (by decide), ha main_arg11 (by decide), ha main_arg12 (by decide), ha main_arg13 (by decide), ha main_arg14 (by decide), ha main_arg15 (by decide), ha main_arg16 (by decide)]

/-- Region 2's result at the end of the run. -/
theorem res2 (c : Dev nD) : W6 m ρ c (Proc.devRef .tc main_v98) = outArg 2 (m ((c.tc : Thread nD τ).loc main_arg2)) (m ((c.tc : Thread nD τ).loc main_arg5)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  have e : W6 m ρ c (Proc.devRef .tc main_v98) = (dat2 (V5 m ρ) c).arrAt 15 cfg2.N := by
    exact W6_arr m ρ c 15
  have ha : ∀ a ∈ argRefs, W4 m ρ c (Proc.devRef .tc a) = m ((c : Thread nD τ).loc a) := W4_args m ρ c
  rw [e, KArr2.final, KHost2.val_eq (W4 m ρ c) c (V5 m ρ) (fun _ => rfl),
    ha main_arg2 (by decide), ha main_arg3 (by decide), ha main_arg4 (by decide), ha main_arg5 (by decide), ha main_arg6 (by decide), ha main_arg7 (by decide), ha main_arg8 (by decide), ha main_arg9 (by decide), ha main_arg10 (by decide), ha main_arg11 (by decide), ha main_arg12 (by decide), ha main_arg13 (by decide), ha main_arg14 (by decide), ha main_arg15 (by decide), ha main_arg16 (by decide)]

set_option backward.isDefEq.respectTransparency.types false in
/-- The kernel's run: each result is its modality's value, and the arguments are unchanged. -/
theorem run : θ_run defs (onTc (τ := τ) (main (F := Ideal))) ⟨m, fun _ => 0, ρ⟩ (fun r => ∀ c : Dev nD,
      r.2.mem ((c.tc : Thread nD τ).loc main_v32) = outArg 0 (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v65) = outArg 1 (m ((c.tc : Thread nD τ).loc main_arg1)) (m ((c.tc : Thread nD τ).loc main_arg4)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v98) = outArg 2 (m ((c.tc : Thread nD τ).loc main_arg2)) (m ((c.tc : Thread nD τ).loc main_arg5)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨(h c _ (mem_uc main_v32 (by decide))).trans (res0 m ρ c),
       (h c _ (mem_uc main_v65 (by decide))).trans (res1 m ρ c),
       (h c _ (mem_uc main_v98 (by decide))).trans (res2 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c)⟩)

end Cert.KRun
-- ==== Proof.RRow.lean ====
module

public import proofs.«01_k».proof.Proof.RDef

@[expose] public section

set_option maxRecDepth 8192

noncomputable section

/-! The reference's stages up to the score, read at one batch entry. -/

namespace Cert.RRow

open Idealize.ShloMosaic Cert.ReferenceIdeal Cert.ReferenceIdeal.Gen Cert.Spec
open scoped BigOperators

theorem gelu_eq (v : EReal) : lit 0x3F000000#32 * v * Ideal.erfc (-v * lit 0x3F3504F3#32) = gelu v := by
  unfold gelu
  rw [EReal.neg_mul, Ideal.erfc_neg]

theorem cosR_at (X : FVec Ideal S64x576x512 .f32) (G : FVec Ideal S64x512 .f32) (b : Fin 64) (n : Fin 576) :
    cosR X G (ix2 b n) = cosv (fun c => X (ix3 b n c)) (fun c => G (ix2 b c)) := by
  pointwise [cosR, cosv, den]

theorem minR_at (s : FVec Ideal S64x576 .f32) (b : Fin 64) : minR s (ix2 b 0) = vmin fun i => s (ix2 b i) := by
  pointwise [minR, vmin]

theorem mmR_at (s : FVec Ideal S64x576 .f32) (b : Fin 64) (n : Fin 576) :
    mmR s (ix2 b n) = minmax (fun i => s (ix2 b i)) n := by
  pointwise [mmR, minR_at, minmax, vmax]

theorem hidR_at (X : FVec Ideal S64x576x512 .f32) (W1 : FVec Ideal S512x128 .f32) (B1 : FVec Ideal S128 .f32)
    (b : Fin 64) (n : Fin 576) (h : Fin 128) :
    hidR X W1 B1 (ix3 b n h) = (∑ c : Fin 512, X (ix3 b n c) * W1 (ix2 c h)) + B1 (ix1 h) := by
  pointwise [hidR]

theorem predR_at (H : FVec Ideal S64x576x128 .f32) (W2 : FVec Ideal S128x1 .f32) (B2 : FVec Ideal S1 .f32)
    (b : Fin 64) (n : Fin 576) :
    predR H W2 B2 (ix2 b n) = Ideal.logistic ((∑ h : Fin 128, gelu (H (ix3 b n h)) * W2 (ix2 h 0)) + B2 (ix1 0)) := by
  simp only [← gelu_eq]
  pointwise [predR]
  rfl

theorem scoreR_at (P s1 s2 s3 : FVec Ideal S64x576 .f32) (b : Fin 64) (n : Fin 576) :
    scoreR P s1 s2 s3 (ix2 b n) = lit 0x3F000000#32 * P (ix2 b n) + lit 0x3E800000#32 *
      (minmax (fun i => s2 (ix2 b i)) n + minmax (fun i => s3 (ix2 b i)) n
        + lit 0x40000000#32 * minmax (fun i => s1 (ix2 b i)) n) := by
  pointwise [scoreR, mmR_at]

end Cert.RRow
-- ==== Proof.Finite.lean ====
module

public import proofs.«01_k».proof.Proof.Spec

@[expose] public section

noncomputable section

/-! Which values of one batch entry are real numbers: every score, whatever the arguments, and every logit where the
aggregation's parameters are real. A vector divided by its length is real even where the vector is not: its length is
infinite then, and the quotient zero. -/

namespace Cert.Finite

open Idealize.ShloMosaic Cert.Spec
open scoped BigOperators

/-- The value is a real number. -/
def Re (x : EReal) : Prop := ∃ r : ℝ, x = (r : EReal)

theorem Re.of_ne {x : EReal} (h1 : x ≠ ⊤) (h2 : x ≠ ⊥) : Re x := by
  induction x with
  | bot => exact absurd rfl h2
  | coe r => exact ⟨r, rfl⟩
  | top => exact absurd rfl h1

theorem Re.ne_top {x : EReal} (h : Re x) : x ≠ ⊤ := by
  obtain ⟨r, rfl⟩ := h; exact EReal.coe_ne_top r

theorem Re.ne_bot {x : EReal} (h : Re x) : x ≠ ⊥ := by
  obtain ⟨r, rfl⟩ := h; exact EReal.coe_ne_bot r

theorem Re.zero : Re 0 := ⟨0, rfl⟩
theorem Re.one : Re 1 := ⟨1, rfl⟩

theorem Re.add {x y : EReal} (hx : Re x) (hy : Re y) : Re (x + y) := by
  obtain ⟨r, rfl⟩ := hx; obtain ⟨q, rfl⟩ := hy; exact ⟨r + q, (EReal.coe_add r q).symm⟩

theorem Re.sub {x y : EReal} (hx : Re x) (hy : Re y) : Re (x - y) := by
  obtain ⟨r, rfl⟩ := hx; obtain ⟨q, rfl⟩ := hy; exact ⟨r - q, (EReal.coe_sub r q).symm⟩

theorem Re.mul {x y : EReal} (hx : Re x) (hy : Re y) : Re (x * y) := by
  obtain ⟨r, rfl⟩ := hx; obtain ⟨q, rfl⟩ := hy; exact ⟨r * q, (EReal.coe_mul r q).symm⟩

theorem Re.max {x y : EReal} (hx : Re x) (hy : Re y) : Re (max x y) := by
  rcases max_choice x y with h | h <;> rw [h] <;> assumption

theorem Re.sum {ι : Type} (t : Finset ι) {f : ι → EReal} (h : ∀ i, Re (f i)) : Re (∑ i ∈ t, f i) := by
  classical
  induction t using Finset.induction_on with
  | empty => exact Re.zero
  | insert a t ha ih => rw [Finset.sum_insert ha]; exact (h a).add ih

theorem Re.div {x y : EReal} (hx : Re x) (hy : Re y) (h : y ≠ 0) : Re (Ideal.div x y) := by
  obtain ⟨r, rfl⟩ := hx; obtain ⟨q, rfl⟩ := hy
  unfold Ideal.div
  rw [if_neg h, ← EReal.coe_inv]
  exact ⟨r * q⁻¹, (EReal.coe_mul r q⁻¹).symm⟩

theorem div_top (x : EReal) : Ideal.div x ⊤ = 0 := by
  unfold Ideal.div
  rw [if_neg (by decide), EReal.inv_top, mul_zero]

/-- A literal that is a positive real. -/
def Pos (x : EReal) : Prop := ∃ r : ℝ, 0 < r ∧ x = (r : EReal)

theorem Pos.re {x : EReal} (h : Pos x) : Re x := let ⟨r, _, e⟩ := h; ⟨r, e⟩

theorem pos_half : Pos (lit 0x3F000000#32) := by
  refine ⟨_, ?_, by simp [lit, Ideal.ofBits, Ideal.ieee, -EReal.coe_mul]; rfl⟩
  norm_num
theorem pos_quarter : Pos (lit 0x3E800000#32) := by
  refine ⟨_, ?_, by simp [lit, Ideal.ofBits, Ideal.ieee, -EReal.coe_mul]; rfl⟩
  norm_num
theorem pos_two : Pos (lit 0x40000000#32) := by
  refine ⟨_, ?_, by simp [lit, Ideal.ofBits, Ideal.ieee, -EReal.coe_mul]; rfl⟩
  norm_num
theorem pos_512 : Pos (lit 0x44000000#32) := by
  refine ⟨_, ?_, by simp [lit, Ideal.ofBits, Ideal.ieee, -EReal.coe_mul]; rfl⟩
  norm_num
theorem pos_e12 : Pos (lit 0x2B8CBCCC#32) := by
  refine ⟨_, ?_, by simp [lit, Ideal.ofBits, Ideal.ieee, -EReal.coe_mul]; rfl⟩
  norm_num
theorem pos_e8 : Pos (lit 0x322BCC77#32) := by
  refine ⟨_, ?_, by simp [lit, Ideal.ofBits, Ideal.ieee, -EReal.coe_mul]; rfl⟩
  norm_num
theorem pos_e5 : Pos (lit 0x3727C5AC#32) := by
  refine ⟨_, ?_, by simp [lit, Ideal.ofBits, Ideal.ieee, -EReal.coe_mul]; rfl⟩
  norm_num
theorem pos_rt : Pos (lit 0x3F3504F3#32) := by
  refine ⟨_, ?_, by simp [lit, Ideal.ofBits, Ideal.ieee, -EReal.coe_mul]; rfl⟩
  norm_num
theorem lit_top : lit 0x7F800000#32 = ⊤ := by
  simp [lit, Ideal.ofBits, Ideal.ieee]
theorem lit_bot : lit 0xFF800000#32 = ⊥ := by
  simp [lit, Ideal.ofBits, Ideal.ieee]

/-! ### Functions that are real everywhere -/

theorem Re.erf (x : EReal) : Re (Ideal.erf x) := by
  induction x with
  | bot => exact ⟨-1, rfl⟩
  | coe r => exact ⟨_, rfl⟩
  | top => exact ⟨1, rfl⟩

theorem Re.gelu {x : EReal} (h : Re x) : Re (gelu x) :=
  (pos_half.re.mul h).mul (Re.one.add (Re.erf _))

theorem Re.logistic (x : EReal) : Re (Ideal.logistic x) := by
  unfold Ideal.logistic
  generalize -x = y
  induction y with
  | bot =>
    show Re (Ideal.div 1 (1 + 0))
    rw [add_zero]
    exact Re.one.div Re.one one_ne_zero
  | coe r =>
    show Re (Ideal.div 1 (1 + (Real.exp r : EReal)))
    have e : (1 : EReal) + (Real.exp r : EReal) = ((1 + Real.exp r : ℝ) : EReal) := by
      rw [EReal.coe_add]; rfl
    rw [e]
    refine Re.one.div ⟨_, rfl⟩ ?_
    have h := Real.exp_pos r
    exact fun h' => (by positivity : (1 + Real.exp r : ℝ) ≠ 0) (EReal.coe_eq_zero.mp h')
  | top =>
    show Re (Ideal.div 1 (1 + ⊤))
    rw [EReal.add_top_of_ne_bot (by decide), div_top]
    exact Re.zero

/-! ### A vector divided by its length -/

theorem sq_nonneg (x : EReal) : 0 ≤ x * x := by
  induction x with
  | bot => rw [EReal.bot_mul_bot]; exact le_top
  | coe r => rw [← EReal.coe_mul]; exact EReal.coe_nonneg.mpr (mul_self_nonneg r)
  | top => rw [EReal.top_mul_top]; exact le_top

theorem re_of_sq {x : EReal} (h : x * x ≠ ⊤) : Re x :=
  Re.of_ne (fun e => h (by rw [e, EReal.top_mul_top])) (fun e => h (by rw [e, EReal.bot_mul_bot]))

/-- A vector's squares either sum to infinity, or the vector and the sum are real. -/
theorem sq_cases (w : Fin 512 → EReal) :
    (∑ k, w k * w k) = ⊤ ∨ ∃ r : ℝ, 0 ≤ r ∧ (∑ k, w k * w k) = (r : EReal) ∧ ∀ k, Re (w k) := by
  by_cases h : (∑ k, w k * w k) = ⊤
  · exact .inl h
  · right
    have h0 : 0 ≤ ∑ k, w k * w k := Finset.sum_nonneg fun k _ => sq_nonneg (w k)
    obtain ⟨r, hr⟩ : Re (∑ k, w k * w k) := Re.of_ne h fun e => by rw [e] at h0; exact absurd h0 (by decide)
    refine ⟨r, by rw [hr] at h0; exact EReal.coe_nonneg.mp h0, hr, fun k => re_of_sq fun e => h ?_⟩
    exact top_le_iff.mp (e ▸ Finset.single_le_sum (f := fun k => w k * w k) (fun k _ => sq_nonneg (w k)) (Finset.mem_univ k))

theorem Re.divden (v : Fin 512 → EReal) (k : Fin 512) : Re (Ideal.div (v k) (den v)) := by
  obtain ⟨ε, hε, e⟩ := pos_e12
  unfold den
  rw [e]
  rcases sq_cases v with h | ⟨r, hr, h, hv⟩
  · rw [h, show Ideal.sqrt ⊤ = ⊤ from rfl, max_eq_left le_top, div_top]
    exact Re.zero
  · rw [h, show Ideal.sqrt (r : EReal) = if r < 0 then ⊥ else (Real.sqrt r : EReal) from rfl, if_neg (not_lt.mpr hr)]
    refine (hv k).div (Re.max ⟨_, rfl⟩ ⟨_, rfl⟩) fun h0 => ?_
    have h1 : (ε : EReal) ≤ 0 := h0 ▸ le_max_right _ _
    exact absurd (EReal.coe_nonpos.mp h1) (not_le.mpr hε)

theorem Re.cosv (x g : Fin 512 → EReal) : Re (cosv x g) :=
  Re.sum _ fun k => (Re.divden x k).mul (Re.divden g k)

/-- A vector divided by its standard deviation. -/
theorem Re.divstd (w : Fin 512 → EReal) (k : Fin 512) :
    Re (Ideal.div (w k) (Ideal.sqrt (Ideal.div (∑ c, w c * w c) (lit 0x44000000#32) + lit 0x3727C5AC#32))) := by
  obtain ⟨ε, hε, e⟩ := pos_e5
  obtain ⟨q, hq, eq⟩ := pos_512
  rw [e, eq]
  have hq0 : (q : EReal) ≠ 0 := fun h => hq.ne' (EReal.coe_eq_zero.mp h)
  rcases sq_cases w with h | ⟨r, hr, h, hv⟩
  · have h1 : Ideal.div ⊤ (q : EReal) = ⊤ := by
      unfold Ideal.div
      rw [if_neg hq0, ← EReal.coe_inv, EReal.top_mul_coe_of_pos (inv_pos.mpr hq)]
    rw [h, h1, EReal.top_add_of_ne_bot (EReal.coe_ne_bot ε), show Ideal.sqrt ⊤ = ⊤ from rfl, div_top]
    exact Re.zero
  · have h1 : Ideal.div (r : EReal) (q : EReal) + (ε : EReal) = ((r * q⁻¹ + ε : ℝ) : EReal) := by
      unfold Ideal.div
      rw [if_neg hq0, ← EReal.coe_inv, ← EReal.coe_mul, ← EReal.coe_add]
    have h2 : 0 < r * q⁻¹ + ε := by positivity
    rw [h, h1, show Ideal.sqrt ((r * q⁻¹ + ε : ℝ) : EReal)
      = if r * q⁻¹ + ε < 0 then ⊥ else (Real.sqrt (r * q⁻¹ + ε) : EReal) from rfl, if_neg (not_lt.mpr h2.le)]
    exact (hv k).div ⟨_, rfl⟩ fun h0 => (Real.sqrt_pos.mpr h2).ne' (EReal.coe_eq_zero.mp h0)

theorem Re.nrm (v : Fin 512 → EReal) (c : Fin 512) : Re (nrm v c) :=
  Re.divstd (fun c => v c - mean v) c

/-! ### The least and the greatest -/

theorem vmin_eq (s : Fin 576 → EReal) : vmin s = Finset.univ.inf s := by
  unfold vmin
  rw [lit_top]
  rfl

theorem top_eq {n : ℕ} (f : Fin n → EReal) : top f = Finset.univ.sup f := by
  unfold top
  rw [lit_bot]
  rfl

theorem top_mem {n : ℕ} [NeZero n] (f : Fin n → EReal) : ∃ i, top f = f i := by
  rw [top_eq]
  obtain ⟨i, _, h⟩ := Finset.exists_mem_eq_sup Finset.univ ⟨0, Finset.mem_univ _⟩ f
  exact ⟨i, h⟩

theorem vmin_mem (s : Fin 576 → EReal) : ∃ i, vmin s = s i := by
  rw [vmin_eq]
  obtain ⟨i, _, h⟩ := Finset.exists_mem_eq_inf Finset.univ ⟨0, Finset.mem_univ _⟩ s
  exact ⟨i, h⟩

theorem le_top' {n : ℕ} (f : Fin n → EReal) (i : Fin n) : f i ≤ top f := by
  rw [top_eq]
  exact Finset.le_sup (Finset.mem_univ i)

theorem vmin_le (s : Fin 576 → EReal) (i : Fin 576) : vmin s ≤ s i := by
  rw [vmin_eq]
  exact Finset.inf_le (Finset.mem_univ i)

theorem Re.minmax {s : Fin 576 → EReal} (h : ∀ i, Re (s i)) (n : Fin 576) : Re (minmax s n) := by
  obtain ⟨ε, hε, e⟩ := pos_e8
  have hm : vmax s = top s := rfl
  obtain ⟨i, hi⟩ := vmin_mem s
  obtain ⟨j, hj⟩ := top_mem s
  have hle : vmin s ≤ top s := (vmin_le s 0).trans (le_top' s 0)
  obtain ⟨a, ha⟩ := h i
  obtain ⟨b, hb⟩ := h j
  unfold Cert.Spec.minmax
  rw [e, hm]
  rw [hi, hj, ha, hb] at hle
  rw [hi, hj, ha, hb]
  have hab : a ≤ b := EReal.coe_le_coe_iff.mp hle
  rw [← EReal.coe_sub, ← EReal.coe_add]
  refine ((h n).sub ⟨a, rfl⟩).div ⟨_, rfl⟩ fun h0 => ?_
  have := EReal.coe_eq_zero.mp h0
  linarith

/-! ### The scores and the logits -/

theorem Re.score (p : Par) (x : Fin 576 → Fin 512 → EReal) (g1 g2 g3 : Fin 512 → EReal) (n : Fin 576) :
    Re (score p x g1 g2 g3 n) :=
  (pos_half.re.mul (Re.logistic _)).add (pos_quarter.re.mul
    (((Re.minmax (fun i => Re.cosv (x i) g2) n).add (Re.minmax (fun i => Re.cosv (x i) g3) n)).add
      (pos_two.re.mul (Re.minmax (fun i => Re.cosv (x i) g1) n))))

theorem Re.logit {p : Par} (hlg : ∀ c, Re (p.lg c)) (hlb : ∀ c, Re (p.lb c)) (ha1 : ∀ c h, Re (p.a1 c h))
    (hc1 : ∀ h, Re (p.c1 h)) (ha2 : ∀ h k, Re (p.a2 h k)) (hc2 : ∀ k, Re (p.c2 k)) (hsc : Re p.sc)
    (v : Fin 512 → EReal) (k : Fin 115) : Re (logit p v k) :=
  ((Re.sum _ fun h => (Re.gelu ((Re.sum _ fun c => (((Re.nrm v c).mul (hlg c)).add (hlb c)).mul (ha1 c h)).add (hc1 h))).mul
    (ha2 h k)).add (hc2 k)).mul hsc

end Cert.Finite
-- ==== Proof.RTok.lean ====
module

public import proofs.«01_k».proof.Proof.RRow
public import proofs.«01_k».proof.Proof.Finite

@[expose] public section

set_option maxRecDepth 8192

noncomputable section

/-! The reference's stages after the tokens are taken, read at one batch entry. -/

namespace Cert.RRow

open Idealize.ShloMosaic Cert.ReferenceIdeal Cert.ReferenceIdeal.Gen Cert.Spec Cert.Finite
open scoped BigOperators

theorem max_bot_top {n : ℕ} (f : Fin n → EReal) : max (lit 0xFF800000#32) (top f) = top f := by
  rw [lit_bot]
  exact max_eq_right bot_le

theorem expR_at (s : FVec Ideal S64x288 .f32) (b : Fin 64) (t : Fin 288) :
    expR s (ix2 b t) = Ideal.exp (s (ix2 b t) - top fun i => s (ix2 b i)) := by
  rw [← max_bot_top]
  pointwise [expR, top]

theorem extraR_at (Y : FVec Ideal S64x288x512 .f32) (E : FVec Ideal S64x288 .f32) (b : Fin 64) (c : Fin 512) :
    extraR Y E (ix3 b 0 c) = ∑ t : Fin 288, Y (ix3 b t c) * Ideal.div (E (ix2 b t)) (∑ i : Fin 288, E (ix2 b i)) := by
  pointwise [extraR]

theorem meanR_at (Y : FVec Ideal S64x288x512 .f32) (b : Fin 64) (t : Fin 288) :
    meanR Y (ix3 b t 0) = mean fun c => Y (ix3 b t c) := by
  pointwise [meanR, mean]

theorem cenR_at (Y : FVec Ideal S64x288x512 .f32) (b : Fin 64) (t : Fin 288) (c : Fin 512) :
    cenR Y (ix3 b t c) = Y (ix3 b t c) - mean fun c => Y (ix3 b t c) := by
  pointwise [cenR, meanR_at]

theorem cnt_eq (i : S_.Idx) : cntR i = lit 0x44000000#32 := by
  show lit 0x44000000#32 - (((0#32 : BitVec 32).toInt : ℝ) : EReal) = _
  rw [show ((0#32 : BitVec 32).toInt : ℝ) = 0 by simp]
  exact sub_zero _

theorem cnt_pos : FloatOps.cmpf (F := Ideal) (φ := .f32) .ogt (lit 0x44000000#32) (lit 0x00000000#32) = 1#1 := by
  obtain ⟨r, hr, e⟩ := pos_512
  have e0 : lit 0x00000000#32 = 0 := by simp [lit, Ideal.ofBits, Ideal.ieee]
  have h : (0 : EReal) < lit 0x44000000#32 := by rw [e]; exact EReal.coe_pos.mpr hr
  rw [e0]
  show BitVec.ofBool (decide ((0 : EReal) < lit 0x44000000#32)) = 1#1
  rw [decide_eq_true h]
  rfl

theorem varR_at (Y : FVec Ideal S64x288x512 .f32) (b : Fin 64) (t : Fin 288) :
    varR Y (ix3 b t 0) = var fun c => Y (ix3 b t c) := by
  have h : varR Y (ix3 b t 0) = Scalar.select (FloatOps.cmpf (F := Ideal) (φ := .f32) .ogt (cntR ix0) (lit 0x00000000#32))
      (Ideal.div (∑ c : Fin 512, cenR Y (ix3 b t c) * cenR Y (ix3 b t c)) (cntR ix0)) (lit 0x7FC00000#32) := by
    pointwise [varR]
    rfl
  rw [h, cnt_eq, cnt_pos]
  simp only [cenR_at]
  rfl

theorem nrmR_at (Y : FVec Ideal S64x288x512 .f32) (b : Fin 64) (t : Fin 288) (c : Fin 512) :
    nrmR Y (ix3 b t c) = nrm (fun c => Y (ix3 b t c)) c := by
  pointwise [nrmR, cenR_at, varR_at, nrm]

theorem hid2R_at (Y : FVec Ideal S64x288x512 .f32) (LG LB : FVec Ideal S512 .f32) (A1 : FVec Ideal S512x102 .f32)
    (C1 : FVec Ideal S102 .f32) (b : Fin 64) (t : Fin 288) (h : Fin 102) :
    hid2R Y LG LB A1 C1 (ix3 b t h)
      = (∑ c : Fin 512, (nrm (fun c => Y (ix3 b t c)) c * LG (ix1 c) + LB (ix1 c)) * A1 (ix2 c h)) + C1 (ix1 h) := by
  pointwise [hid2R, nrmR_at]

theorem logR_at (H : FVec Ideal S64x288x102 .f32) (A2 : FVec Ideal S102x115 .f32) (C2 : FVec Ideal S115 .f32)
    (SC : FVec Ideal S1x1x1 .f32) (b : Fin 64) (k : Fin 115) (t : Fin 288) :
    logR H A2 C2 SC (ix3 b k t)
      = ((∑ h : Fin 102, gelu (H (ix3 b t h)) * A2 (ix2 h k)) + C2 (ix1 k)) * SC (ix3 0 0 0) := by
  simp only [← gelu_eq]
  pointwise [logR]

theorem mlogR_at (L : FVec Ideal S64x115x288 .f32) (M : FVec Ideal S64x288 .f32) (b : Fin 64) (k : Fin 115) (t : Fin 288) :
    mlogR L M (ix3 b k t) = L (ix3 b k t) - (1 - M (ix2 b t)) * lit 0x501502F9#32 := by
  pointwise [mlogR]

theorem exp2R_at (L : FVec Ideal S64x115x288 .f32) (b : Fin 64) (k : Fin 115) (t : Fin 288) :
    exp2R L (ix3 b k t) = Ideal.exp (L (ix3 b k t) - top fun i => L (ix3 b k i)) := by
  rw [← max_bot_top]
  pointwise [exp2R, top]

theorem aggrR_at (Y : FVec Ideal S64x288x512 .f32) (E : FVec Ideal S64x115x288 .f32) (b : Fin 64) (k : Fin 115) (c : Fin 512) :
    aggrR Y E (ix3 b k c) = ∑ t : Fin 288, Ideal.div (E (ix3 b k t)) (∑ i : Fin 288, E (ix3 b k i)) * Y (ix3 b t c) := by
  pointwise [aggrR]

end Cert.RRow
-- ==== Proof.Order.lean ====
module

public import Idealize.ShloMosaic.Lib.SortFacts
public import proofs.«01_k».proof.Proof.Spec

@[expose] public section

noncomputable section

/-! The descending stable order of the scores: the reference sorts by it, the kernel counts ranks in it. -/

namespace Cert.Order

open Idealize.ShloMosaic Cert.Spec
open scoped BigOperators

variable {n : ℕ} (s : Fin n → EReal)

/-- Token `a` sorts strictly before token `b`: its score is greater. -/
def keyB (a b : Fin n) : Bool := decide (s b < s a)

/-- Token `a` comes before token `b`: its score is greater, or equal at a smaller position. -/
def fullB (a b : Fin n) : Bool := decide (s b < s a ∨ (s a = s b ∧ a < b))

/-- On a list in increasing position, the stable sort by the score alone is the sort by score and position. -/
theorem stableSort_key (l : List (Fin n)) (hl : l.Pairwise (· < ·)) : stableSort (keyB s) l = stableSort (fullB s) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.mp hb
    have hab : ¬ b < a := not_lt.mpr (hl.1 b hb').le
    simp [keyB, fullB, hab]

theorem fullB_asymm (a b : Fin n) (h : fullB s a b = true) : fullB s b a = false := by
  simp only [fullB, decide_eq_true_eq, decide_eq_false_iff_not, not_or, not_and, not_lt] at h ⊢
  rcases h with h | ⟨h, h'⟩
  · exact ⟨h.le, fun e => absurd e (ne_of_lt h)⟩
  · exact ⟨h.ge, fun _ => h'.le⟩

theorem fullB_negtrans (a b c : Fin n) (h : fullB s a b = false) (h' : fullB s b c = false) : fullB s a c = false := by
  simp only [fullB, decide_eq_false_iff_not, not_or, not_and, not_lt] at h h' ⊢
  refine ⟨h.1.trans h'.1, fun e => ?_⟩
  have e1 : s a = s b := le_antisymm h.1 (e ▸ h'.1)
  have e2 : s b = s c := e1.symm.trans e
  exact (h'.2 e2).trans (h.2 e1)

/-- The token at place `k` of the descending stable order. -/
@[irreducible] def sig : Fin n → Fin n := sortedFrom (keyB s)

theorem sig_eq : sig s = sortedFrom (fullB s) := by
  have h : sortPositions n (keyB s) = sortPositions n (fullB s) := by
    unfold sortPositions
    exact stableSort_key s _ (List.pairwise_lt_finRange n)
  funext k
  unfold sig sortedFrom
  rw [List.get_of_eq h]
  rfl

theorem sig_bijective : Function.Bijective (sig s) := by
  unfold sig
  exact ⟨sortedFrom_injective _, sortedFrom_surjective _⟩

/-- Of two places, the earlier one's token comes before the later one's. -/
theorem sig_before (i j : Fin n) (h : i < j) : fullB s (sig s i) (sig s j) = true := by
  have h1 := sortedFrom_noInversion (fullB s) (fullB s) (fun a b h => fullB_asymm s a b h) (fun _ _ h => h)
    (fun a b c => fullB_negtrans s a b c) i j h
  have hne : sig s i ≠ sig s j := fun e => h.ne ((sig_bijective s).1 e)
  rw [sig_eq] at hne ⊢
  simp only [fullB, decide_eq_false_iff_not, not_or, not_and, not_lt, decide_eq_true_eq] at h1 ⊢
  rcases h1.1.lt_or_eq with h2 | h2
  · exact .inl h2
  · exact .inr ⟨h2.symm, lt_of_le_of_ne (h1.2 h2) hne⟩

theorem sig_before_iff (i j : Fin n) : fullB s (sig s i) (sig s j) = true ↔ i < j := by
  refine ⟨fun h => ?_, sig_before s i j⟩
  rcases lt_trichotomy i j with h' | h' | h'
  · exact h'
  · subst h'
    simp [fullB] at h
  · have h2 := fullB_asymm s _ _ (sig_before s j i h')
    rw [h2] at h
    exact absurd h (by decide)

/-- The token at place `j` has rank `j`. -/
theorem rank_sig (s : Fin 576 → EReal) (j : Fin 576) : rank s (sig s j) = j.val := by
  classical
  have h : (Finset.univ.filter fun i => beats s i (sig s j)) = (Finset.univ.filter fun k : Fin 576 => k < j).map
      ⟨sig s, (sig_bijective s).1⟩ := by
    ext i
    obtain ⟨k, rfl⟩ := (sig_bijective s).2 i
    simp only [Finset.mem_filter, Finset.mem_univ, true_and, Finset.mem_map, Function.Embedding.coeFn_mk]
    have hb : beats s (sig s k) (sig s j) ↔ k < j := by
      rw [← sig_before_iff s k j]
      simp [fullB, beats]
    rw [hb]
    exact ⟨fun h => ⟨k, h, rfl⟩, fun ⟨a, ha, e⟩ => (sig_bijective s).1 e ▸ ha⟩
  unfold rank
  have h' : (Finset.univ.filter fun i => beats s i (sig s j)).card = j.val := by
    have h2 : (Finset.univ.filter fun k : Fin 576 => k < j) = Finset.Iio j := by
      ext k
      rw [Finset.mem_filter, Finset.mem_Iio]
      exact ⟨fun h => h.2, fun h => ⟨Finset.mem_univ _, h⟩⟩
    rw [h, Finset.card_map, h2, Fin.card_Iio]
  convert h'

/-- The token at place `t` of the 288 kept ones. -/
@[irreducible] def kept (s : Fin 576 → EReal) (t : Fin 288) : Fin 576 := sig s ⟨t.val, by have := t.isLt; omega⟩

/-- The token at place `t` of the 288 dropped ones. -/
@[irreducible] def dropped (s : Fin 576 → EReal) (t : Fin 288) : Fin 576 := sig s ⟨288 + t.val, by have := t.isLt; omega⟩

theorem nk_kept (s : Fin 576 → EReal) (t : Fin 288) : nk s (kept s t) = 0 := by
  unfold nk kept
  rw [rank_sig, if_pos]
  exact t.isLt

theorem nk_dropped (s : Fin 576 → EReal) (t : Fin 288) : nk s (dropped s t) = 1 := by
  unfold nk dropped
  rw [rank_sig, if_neg]
  exact Nat.not_lt.mpr (Nat.le_add_right 288 t.val)

theorem sum_sig (f : Fin n → EReal) : ∑ i, f i = ∑ t, f (sig s t) :=
  ((sig_bijective s).sum_comp f).symm

theorem sum_split_fin {N a b : ℕ} (h : a + b = N) (f : Fin N → EReal) :
    ∑ n, f n = (∑ t : Fin a, f ⟨t.val, by have := t.isLt; omega⟩) + ∑ t : Fin b, f ⟨a + t.val, by have := t.isLt; omega⟩ := by
  subst h
  exact Fin.sum_univ_add f

/-- A sum over the tokens, by the kept ones and the dropped ones. -/
theorem sum_split (s : Fin 576 → EReal) (f : Fin 576 → EReal) :
    ∑ n, f n = (∑ t, f (kept s t)) + ∑ t, f (dropped s t) := by
  unfold kept dropped
  have h1 := sum_sig s f
  exact h1.trans (sum_split_fin (a := 288) (b := 288) rfl fun t => f (sig s t))

theorem exists_split (s : Fin 576 → EReal) (n : Fin 576) : (∃ t, n = kept s t) ∨ ∃ t, n = dropped s t := by
  obtain ⟨k, hk⟩ := (sig_bijective s).2 n
  by_cases h : k.val < 288
  · refine .inl ⟨⟨k.val, h⟩, ?_⟩
    unfold kept
    rw [← hk]
  · have h2 : k.val - 288 < 288 := by have := k.isLt; omega
    refine .inr ⟨⟨k.val - 288, h2⟩, ?_⟩
    unfold dropped
    have e : (⟨288 + (k.val - 288), by omega⟩ : Fin 576) = k := Fin.ext (by show 288 + (k.val - 288) = k.val; omega)
    rw [e, hk]

end Cert.Order
-- ==== Proof.RTake.lean ====
module

public import proofs.«01_k».proof.Proof.RDef
public import proofs.«01_k».proof.Proof.Order
public import Idealize.ShloMosaic.Lib.SortFacts
public import Idealize.ShloMosaic.Lib.ReduceAll
public import Idealize.ShloMosaic.Lib.WordCmp
public import Idealize.ShloMosaic.Lib.Tactic.WordOmega
public import Idealize.ShloMosaic.Lib.Routing.OpsOne

@[expose] public section

set_option maxRecDepth 8192

noncomputable section

/-! The reference's sort, and what it takes at the sorted positions, read at one batch entry. -/

namespace Cert.RRow

open Idealize.ShloMosaic Cert.ReferenceIdeal Cert.ReferenceIdeal.Gen Cert.Spec Cert.Order
open scoped BigOperators

/-- Replacing a zero by zero changes nothing. -/
theorem zero_sel (x z : EReal) : Scalar.select (FloatOps.cmpf (F := Ideal) (φ := .f32) .oeq x z) z x = x := by
  by_cases h : x = z
  · subst h
    unfold Scalar.select
    exact ite_self _
  · have e : FloatOps.cmpf (F := Ideal) (φ := .f32) .oeq x z = 0#1 := by
      show BitVec.ofBool (decide (x = z)) = 0#1
      rw [decide_eq_false h]
      rfl
    rw [e]
    rfl

/-- No number differs from itself. -/
theorem self_sel (x y z : EReal) : Scalar.select (FloatOps.cmpf (F := Ideal) (φ := .f32) .une x x) y z = z := by
  have e : FloatOps.cmpf (F := Ideal) (φ := .f32) .une x x = 0#1 := by
    show BitVec.ofBool (decide (x ≠ x)) = 0#1
    rw [decide_eq_false (fun h => h rfl)]
    rfl
  rw [e]
  rfl

/-- The sort's comparison, at the ideal numbers. -/
theorem cmp_at (l r : EReal × BitVec 32) :
    comparator_f32_i32_d1 (F := Ideal) l r = BitVec.ofBool (decide (l.1 < r.1)) := by
  unfold comparator_f32_i32_d1
  simp only [zero_sel, self_sel]
  rfl

/-- The sorted positions. -/
theorem ordR_at (s : FVec Ideal S64x576 .f32) (b : Fin 64) (k : Fin 576) :
    ordR s (ix2 b k) = BitVec.ofNat 32 (Cert.Order.sig (fun n => s (ix2 b n)) k).val := by
  unfold ordR
  rw [Host.sort2_eq_sortBy]
  have ha : ∀ n : Fin 576, Shape.Idx.along (s := S64x576) (ix2 b k) (1 : Fin 2) n = ix2 b n := by
    intro n
    funext a
    match a with
    | ⟨0, _⟩ => rfl
    | ⟨1, _⟩ => rfl
  have hs : (fun n m : Fin 576 => comparator_f32_i32_d1 (F := Ideal)
      (Host.negf s (Shape.Idx.along (s := S64x576) (ix2 b k) (1 : Fin 2) n),
        iotaInDim S64x576 32 1 (Shape.Idx.along (s := S64x576) (ix2 b k) (1 : Fin 2) n))
      (Host.negf s (Shape.Idx.along (s := S64x576) (ix2 b k) (1 : Fin 2) m),
        iotaInDim S64x576 32 1 (Shape.Idx.along (s := S64x576) (ix2 b k) (1 : Fin 2) m)) == 1#1)
      = keyB fun n => s (ix2 b n) := by
    funext n m
    rw [ha, ha, cmp_at]
    show (BitVec.ofBool (decide (-s (ix2 b n) < -s (ix2 b m))) == 1#1) = decide (s (ix2 b m) < s (ix2 b n))
    by_cases h : s (ix2 b m) < s (ix2 b n)
    · rw [decide_eq_true h, decide_eq_true (EReal.neg_lt_neg_iff.2 h)]
      rfl
    · rw [decide_eq_false h, decide_eq_false (fun h' => h (EReal.neg_lt_neg_iff.1 h'))]
      rfl
  have hg : Host.sortBy S64x576 1 comparator_f32_i32_d1 (fun j => (Host.negf s j, iotaInDim S64x576 32 1 j))
      (iotaInDim S64x576 32 1) (ix2 b k) = iotaInDim S64x576 32 1 (Shape.Idx.along (s := S64x576) (ix2 b k) (1 : Fin 2)
        (sortedFrom (fun n m : Fin 576 => comparator_f32_i32_d1 (F := Ideal)
      (Host.negf s (Shape.Idx.along (s := S64x576) (ix2 b k) (1 : Fin 2) n),
        iotaInDim S64x576 32 1 (Shape.Idx.along (s := S64x576) (ix2 b k) (1 : Fin 2) n))
      (Host.negf s (Shape.Idx.along (s := S64x576) (ix2 b k) (1 : Fin 2) m),
        iotaInDim S64x576 32 1 (Shape.Idx.along (s := S64x576) (ix2 b k) (1 : Fin 2) m)) == 1#1) k)) := by
    unfold Host.sortBy
    rw [dif_pos (show 1 < S64x576.rank by decide)]
    rfl
  have hk := congrArg (fun R : Fin 576 → Fin 576 → Bool => sortedFrom R k) hs
  refine hg.trans ((congrArg (fun m : Fin 576 => iotaInDim S64x576 32 1
    (Shape.Idx.along (s := S64x576) (ix2 b k) (1 : Fin 2) m)) hk).trans ?_)
  show iotaInDim S64x576 32 1 (Shape.Idx.along (s := S64x576) (ix2 b k) (1 : Fin 2)
    (sortedFrom (keyB fun n => s (ix2 b n)) k : Fin 576)) = _
  rw [ha]
  unfold Cert.Order.sig
  rfl

/-- The kept positions. -/
theorem keepR_at (o : IVec S64x576 32) (b : Fin 64) (t : Fin 288) :
    keepR o (ix2 b t) = o (ix2 b ⟨t.val, by have := t.isLt; omega⟩) := by
  pointwise [keepR]

/-- The dropped positions. -/
theorem dropR_at (o : IVec S64x576 32) (b : Fin 64) (t : Fin 288) :
    dropR o (ix2 b t) = o (ix2 b ⟨288 + t.val, by have := t.isLt; omega⟩) := by
  pointwise [dropR]

theorem ordR_keep (s : FVec Ideal S64x576 .f32) (b : Fin 64) (t : Fin 288) :
    keepR (ordR s) (ix2 b t) = BitVec.ofNat 32 (kept (fun n => s (ix2 b n)) t).val := by
  rw [keepR_at, ordR_at]
  unfold kept
  rfl

theorem ordR_drop (s : FVec Ideal S64x576 .f32) (b : Fin 64) (t : Fin 288) :
    dropR (ordR s) (ix2 b t) = BitVec.ofNat 32 (dropped (fun n => s (ix2 b n)) t).val := by
  rw [dropR_at, ordR_at]
  unfold dropped
  rfl

/-- A position is not negative. -/
theorem wrap_sel (i : Fin 576) (a : BitVec 32) :
    Scalar.select (IntOp.cmpi .slt (BitVec.ofNat 32 i.val) 0#32) a (BitVec.ofNat 32 i.val) = BitVec.ofNat 32 i.val := by
  have := i.isLt
  have e : IntOp.cmpi .slt (BitVec.ofNat 32 i.val) 0#32 = 0#1 := by word_omega
  rw [e]
  rfl

theorem wrapR_at (p : IVec S64x288 32) (b : Fin 64) (t : Fin 288) (i : Fin 576)
    (h : p (ix2 b t) = BitVec.ofNat 32 i.val) : wrapR p (ix3 b t 0) = BitVec.ofNat 32 i.val := by
  rw [← wrap_sel i (IntOp.addi (BitVec.ofNat 32 i.val) 576#32), ← h]
  pointwise [wrapR]

theorem wrapR'_at (p : IVec S64x288 32) (b : Fin 64) (t : Fin 288) (i : Fin 576)
    (h : p (ix2 b t) = BitVec.ofNat 32 i.val) : wrapR' p (ix3 b t 0) = BitVec.ofNat 32 i.val := by
  rw [← wrap_sel i (IntOp.addi (BitVec.ofNat 32 i.val) 576#32), ← h]
  pointwise [wrapR']

theorem wrapAll_at (p : IVec S64x576 32) (b : Fin 64) (t : Fin 576) (i : Fin 576)
    (h : p (ix2 b t) = BitVec.ofNat 32 i.val) : wrapAll p (ix3 b t 0) = BitVec.ofNat 32 i.val := by
  rw [← wrap_sel i (IntOp.addi (BitVec.ofNat 32 i.val) 576#32), ← h]
  pointwise [wrapAll]

/-- The bounds check of one position. -/
theorem ok_one (i : Fin 576) : IntOp.andi (IntOp.cmpi .sge (BitVec.ofNat 32 i.val) 0#32)
    (IntOp.cmpi .sle (BitVec.ofNat 32 i.val) 575#32) = 1#1 := by
  have := i.isLt
  word_omega

theorem okR_at (q : IVec S64x288x1 32) (h : ∀ b t, ∃ i : Fin 576, q (ix3 b t 0) = BitVec.ofNat 32 i.val)
    (j : S64x288.Idx) : okR q j = 1#1 := by
  unfold okR
  refine Host.reduce_andi_one _ _ _ _ _ rfl fun y => ?_
  have hy : y = ix3 (y 0) (y 1) 0 := by
    funext a
    match a with
    | ⟨0, _⟩ => rfl
    | ⟨1, _⟩ => rfl
    | ⟨2, _⟩ => exact Subsingleton.elim (α := Fin 1) _ _
  obtain ⟨i, hi⟩ := h (y 0) (y 1)
  rw [hy, ← ok_one i, ← hi]
  pointwise

theorem okAll_at (q : IVec S64x576x1 32) (h : ∀ b t, ∃ i : Fin 576, q (ix3 b t 0) = BitVec.ofNat 32 i.val)
    (j : S64x576.Idx) : okAll q j = 1#1 := by
  unfold okAll
  refine Host.reduce_andi_one _ _ _ _ _ rfl fun y => ?_
  have hy : y = ix3 (y 0) (y 1) 0 := by
    funext a
    match a with
    | ⟨0, _⟩ => rfl
    | ⟨1, _⟩ => rfl
    | ⟨2, _⟩ => exact Subsingleton.elim (α := Fin 1) _ _
  obtain ⟨i, hi⟩ := h (y 0) (y 1)
  rw [hy, ← ok_one i, ← hi]
  pointwise

/-- A position read off its word and clamped. -/
theorem clamp_at (i : Fin 576) : min (BitVec.ofNat 32 i.val).toInt.toNat 575 = i.val := by
  have := i.isLt
  rw [WordCmp.toInt_ofNat_of_lt (by omega)]
  omega

/-- The tokens gathered at the positions. -/
theorem gatherTok_at (X : FVec Ideal S64x576x512 .f32) (q : IVec S64x288x1 32) (b : Fin 64) (t : Fin 288) (c : Fin 512)
    (i : Fin 576) (h : q (ix3 b t 0) = BitVec.ofNat 32 i.val) :
    Host.gather gather_S64x576x512_S64x288x1_S64x288x512_2_1_0_0_1_2_11512 X q (ix3 b t c) = X (ix3 b i c) := by
  have hsi : ∀ k, gather_S64x576x512_S64x288x1_S64x288x512_2_1_0_0_1_2_11512.siIdx (ix3 b t c) k = ix3 b t 0 := by
    intro k
    funext a
    match a with
    | ⟨0, _⟩ => rfl
    | ⟨1, _⟩ => rfl
    | ⟨2, _⟩ => exact Subsingleton.elim (α := Fin 1) _ _
  unfold Host.gather
  congr 1
  funext a
  refine Fin.ext ?_
  match a with
  | ⟨0, _⟩ => exact (Nat.zero_add b.val)
  | ⟨1, _⟩ =>
    show gather_S64x576x512_S64x288x1_S64x288x512_2_1_0_0_1_2_11512.start (ix3 b t c) q (1 : Fin 3) + 0 + 0 = i.val
    unfold GatherDims.start
    rw [dif_pos (show (1 : Fin 3) ∈ gather_S64x576x512_S64x288x1_S64x288x512_2_1_0_0_1_2_11512.startIndexMap from List.mem_singleton.mpr rfl), hsi, h]
    exact clamp_at i
  | ⟨2, _⟩ => exact (Nat.zero_add c.val)

/-- The scores gathered at 288 positions. -/
theorem gatherMask_at (s : FVec Ideal S64x576 .f32) (q : IVec S64x288x1 32) (b : Fin 64) (t : Fin 288)
    (i : Fin 576) (h : q (ix3 b t 0) = BitVec.ofNat 32 i.val) :
    Host.gather gather_S64x576_S64x288x1_S64x288_n_1_0_0_1_2_11 s q (ix2 b t) = s (ix2 b i) := by
  have hsi : ∀ k, gather_S64x576_S64x288x1_S64x288_n_1_0_0_1_2_11.siIdx (ix2 b t) k = ix3 b t 0 := by
    intro k
    funext a
    match a with
    | ⟨0, _⟩ => rfl
    | ⟨1, _⟩ => rfl
    | ⟨2, _⟩ => exact Subsingleton.elim (α := Fin 1) _ _
  unfold Host.gather
  congr 1
  funext a
  refine Fin.ext ?_
  match a with
  | ⟨0, _⟩ => exact (Nat.zero_add b.val)
  | ⟨1, _⟩ =>
    show gather_S64x576_S64x288x1_S64x288_n_1_0_0_1_2_11.start (ix2 b t) q (1 : Fin 2) + 0 + 0 = i.val
    unfold GatherDims.start
    rw [dif_pos (show (1 : Fin 2) ∈ gather_S64x576_S64x288x1_S64x288_n_1_0_0_1_2_11.startIndexMap from List.mem_singleton.mpr rfl), hsi, h]
    exact clamp_at i

/-- The scores gathered at all positions. -/
theorem gatherAll_at (s : FVec Ideal S64x576 .f32) (q : IVec S64x576x1 32) (b : Fin 64) (t : Fin 576)
    (i : Fin 576) (h : q (ix3 b t 0) = BitVec.ofNat 32 i.val) :
    Host.gather gather_S64x576_S64x576x1_S64x576_n_1_0_0_1_2_11 s q (ix2 b t) = s (ix2 b i) := by
  have hsi : ∀ k, gather_S64x576_S64x576x1_S64x576_n_1_0_0_1_2_11.siIdx (ix2 b t) k = ix3 b t 0 := by
    intro k
    funext a
    match a with
    | ⟨0, _⟩ => rfl
    | ⟨1, _⟩ => rfl
    | ⟨2, _⟩ => exact Subsingleton.elim (α := Fin 1) _ _
  unfold Host.gather
  congr 1
  funext a
  refine Fin.ext ?_
  match a with
  | ⟨0, _⟩ => exact (Nat.zero_add b.val)
  | ⟨1, _⟩ =>
    show gather_S64x576_S64x576x1_S64x576_n_1_0_0_1_2_11.start (ix2 b t) q (1 : Fin 2) + 0 + 0 = i.val
    unfold GatherDims.start
    rw [dif_pos (show (1 : Fin 2) ∈ gather_S64x576_S64x576x1_S64x576_n_1_0_0_1_2_11.startIndexMap from List.mem_singleton.mpr rfl), hsi, h]
    exact clamp_at i

/-- The taken tokens. -/
theorem takeTok_at (X : FVec Ideal S64x576x512 .f32) (p : IVec S64x288 32) (i : Fin 64 → Fin 288 → Fin 576)
    (h : ∀ b t, p (ix2 b t) = BitVec.ofNat 32 (i b t).val) (b : Fin 64) (t : Fin 288) (c : Fin 512) :
    takeTok X (wrapR p) (ix3 b t c) = X (ix3 b (i b t) c) := by
  rw [← gatherTok_at X (wrapR p) b t c (i b t) (wrapR_at p b t _ (h b t))]
  have e := okR_at (wrapR p) (fun b t => ⟨i b t, wrapR_at p b t _ (h b t)⟩) (ix2 b t)
  have g : takeTok X (wrapR p) (ix3 b t c) = Scalar.select (okR (wrapR p) (ix2 b t))
      (Host.gather gather_S64x576x512_S64x288x1_S64x288x512_2_1_0_0_1_2_11512 X (wrapR p) (ix3 b t c))
      (lit 0x7FC00000#32) := by
    generalize hq : wrapR p = q
    generalize hz : Host.gather gather_S64x576x512_S64x288x1_S64x288x512_2_1_0_0_1_2_11512 X q = z
    unfold takeTok
    rw [hz]
    pointwise
  rw [g, e]
  rfl

/-- The dropped tokens' scores. -/
theorem dropScore_at (s : FVec Ideal S64x576 .f32) (b : Fin 64) (t : Fin 288) :
    dropScore s (ordR s) (ix2 b t) = s (ix2 b (dropped (fun n => s (ix2 b n)) t)) := by
  have hq : ∀ b k, wrapAll (ordR s) (ix3 b k 0) = BitVec.ofNat 32 (Cert.Order.sig (fun n => s (ix2 b n)) k).val := fun b k =>
    wrapAll_at _ b k _ (ordR_at s b k)
  have e := okAll_at (wrapAll (ordR s)) (fun b t => ⟨_, hq b t⟩)
  have g : dropScore s (ordR s) (ix2 b t) = takeAll s (wrapAll (ordR s)) (ix2 b ⟨288 + t.val, by have := t.isLt; omega⟩) := by
    pointwise [dropScore]
  rw [g]
  unfold takeAll dropped
  rw [← gatherAll_at s _ b _ _ (hq b _)]
  show Scalar.select (okAll (wrapAll (ordR s)) _) _ _ = _
  rw [e]
  rfl

/-- Each batch entry's number. -/
theorem rowsR_at (b : Fin 64) : rowsR (ix2 b 0) = BitVec.ofNat 32 b.val := by
  have := b.isLt
  have e : IntOp.cmpi .slt (BitVec.ofNat 32 b.val) 0#32 = 0#1 := by word_omega
  have g : Scalar.select (IntOp.cmpi .slt (BitVec.ofNat 32 b.val) 0#32) (IntOp.addi (BitVec.ofNat 32 b.val) 64#32)
      (BitVec.ofNat 32 b.val) = BitVec.ofNat 32 b.val := by
    rw [e]
    rfl
  rw [← g]
  pointwise [rowsR]

theorem atR_zero (p : IVec S64x288 32) (b : Fin 64) (t : Fin 288) : atR p (ix3 b t 0) = BitVec.ofNat 32 b.val := by
  rw [← rowsR_at b]
  generalize hr : rowsR = r
  unfold atR
  rw [hr]
  pointwise

theorem atR_one (p : IVec S64x288 32) (b : Fin 64) (t : Fin 288) (i : Fin 576)
    (h : p (ix2 b t) = BitVec.ofNat 32 i.val) : atR p (ix3 b t 1) = BitVec.ofNat 32 i.val := by
  rw [← wrap_sel i (IntOp.addi (BitVec.ofNat 32 i.val) 576#32), ← h]
  unfold atR
  pointwise

/-- The mask is one at every kept place. -/
theorem maskR_at (p : IVec S64x288 32) (b : Fin 64) (t : Fin 288) (i : Fin 576)
    (h : p (ix2 b t) = BitVec.ofNat 32 i.val) : maskR p (ix2 b i) = lit 0x3F800000#32 := by
  have hb := b.isLt
  have hi := i.isLt
  have h0 := atR_zero p b t
  have h1 := atR_one p b t i h
  have hu : ∀ k, (broadcastInDim S64x288 ![] bcast_S_S64x288 (constant (F := Ideal) S_ .f32 0x3F800000#32)) k
      = lit 0x3F800000#32 := fun _ => rfl
  unfold maskR
  generalize atR p = a at h0 h1
  generalize broadcastInDim S64x288 ![] bcast_S_S64x288 (constant (F := Ideal) S_ .f32 0x3F800000#32) = u at hu
  have hw : ∀ a, scatter_S64x576_S64x288x2_S64x288_n_01_01_2.window (ix2 b t) a = 0 := by
    intro a
    match a with
    | ⟨0, _⟩ => rfl
    | ⟨1, _⟩ => rfl
  have hs0 : scatter_S64x576_S64x288x2_S64x288_n_01_01_2.start (ix2 b t) a (0 : Fin 2) = (b.val : Int) := by
    have e : scatter_S64x576_S64x288x2_S64x288_n_01_01_2.start (ix2 b t) a (0 : Fin 2) = (a (ix3 b t 0)).toInt := by
      unfold ScatterDims.start
      rw [dif_pos (show (0 : Fin 2) ∈ scatter_S64x576_S64x288x2_S64x288_n_01_01_2.scatterDimsToOperandDims by decide)]
      congr 2
      funext c
      match c with
      | ⟨0, _⟩ => rfl
      | ⟨1, _⟩ => rfl
      | ⟨2, _⟩ => rfl
    rw [e, h0, WordCmp.toInt_ofNat_of_lt (by omega)]
  have hs1 : scatter_S64x576_S64x288x2_S64x288_n_01_01_2.start (ix2 b t) a (1 : Fin 2) = (i.val : Int) := by
    have e : scatter_S64x576_S64x288x2_S64x288_n_01_01_2.start (ix2 b t) a (1 : Fin 2) = (a (ix3 b t 1)).toInt := by
      unfold ScatterDims.start
      rw [dif_pos (show (1 : Fin 2) ∈ scatter_S64x576_S64x288x2_S64x288_n_01_01_2.scatterDimsToOperandDims by decide)]
      congr 2
      funext c
      match c with
      | ⟨0, _⟩ => rfl
      | ⟨1, _⟩ => rfl
      | ⟨2, _⟩ => rfl
    rw [e, h1, WordCmp.toInt_ofNat_of_lt (by omega)]
  refine Routing.scatter_set_hit _ _ _ _ _ _ (fun k _ => hu k) (ix2 b t) ?_
  refine (Routing.resultIdx?_ix2 (R := 64) (C := 576) _ _ _ b i).2 ⟨?_, ?_⟩
  · rw [hs0, hw]
    simp
  · rw [hs1, hw]
    simp

/-- The mask, read at the kept tokens, is one. -/
theorem selR_at (p : IVec S64x288 32) (i : Fin 64 → Fin 288 → Fin 576)
    (h : ∀ b t, p (ix2 b t) = BitVec.ofNat 32 (i b t).val) (b : Fin 64) (t : Fin 288) :
    selR p (ix2 b t) = lit 0x3F800000#32 := by
  have hq : ∀ b t, wrapR' p (ix3 b t 0) = BitVec.ofNat 32 (i b t).val := fun b t => wrapR'_at p b t _ (h b t)
  have e := okR_at (wrapR' p) (fun b t => ⟨_, hq b t⟩)
  rw [← maskR_at p b t (i b t) (h b t), ← gatherMask_at (maskR p) _ b t _ (hq b t)]
  unfold selR
  generalize maskR p = m
  show Scalar.select (okR (wrapR' p) _) _ _ = _
  rw [e]
  rfl

end Cert.RRow
-- ==== Proof.Soft.lean ====
module

public import proofs.«01_k».proof.Proof.Order
public import proofs.«01_k».proof.Proof.Finite

@[expose] public section

noncomputable section

/-! The two weighted sums: over all tokens with the dropped ones masked, as the kernel takes them, and over the kept or
the dropped tokens alone in sorted order, as the reference takes them. -/

namespace Cert.Soft

open Idealize.ShloMosaic Cert.Spec Cert.Order Cert.Finite
open scoped BigOperators

theorem exp_nonneg (x : EReal) : 0 ≤ Ideal.exp x := by
  induction x with
  | bot => exact le_refl _
  | coe r => exact EReal.coe_nonneg.mpr (Real.exp_pos r).le
  | top => exact le_top

/-- The softmax's denominator is not zero where the values are real. -/
theorem denom_ne {n : ℕ} [NeZero n] (f : Fin n → EReal) (h : ∀ i, Re (f i)) : (∑ j, Ideal.exp (f j - top f)) ≠ 0 := by
  obtain ⟨i, hi⟩ := top_mem f
  have h1 : Ideal.exp (f i - top f) = 1 := by
    obtain ⟨r, hr⟩ := h i
    rw [hi, hr, ← EReal.coe_sub, sub_self]
    show ((Real.exp 0 : ℝ) : EReal) = 1
    rw [Real.exp_zero]
    rfl
  have h2 := Finset.single_le_sum (f := fun j => Ideal.exp (f j - top f)) (fun j _ => exp_nonneg _) (Finset.mem_univ i)
  intro h0
  rw [h0] at h2
  rw [h1] at h2
  exact absurd h2 (not_le.mpr (zero_lt_one (α := EReal)))

theorem div_zero' {y : EReal} (h : y ≠ 0) : Ideal.div 0 y = 0 := by
  unfold Ideal.div
  rw [if_neg h, zero_mul]

theorem top_split (s f : Fin 576 → EReal) (h : ∀ t, f (dropped s t) = ⊥) : top f = top fun t => f (kept s t) := by
  apply le_antisymm
  · rw [top_eq]
    refine Finset.sup_le fun n _ => ?_
    rcases exists_split s n with ⟨t, rfl⟩ | ⟨t, rfl⟩
    · exact le_top' (fun t => f (kept s t)) t
    · rw [h]; exact bot_le
  · rw [top_eq fun t => f (kept s t)]
    exact Finset.sup_le fun t _ => le_top' f _

theorem top_split' (s f : Fin 576 → EReal) (h : ∀ t, f (kept s t) = ⊥) : top f = top fun t => f (dropped s t) := by
  apply le_antisymm
  · rw [top_eq]
    refine Finset.sup_le fun n _ => ?_
    rcases exists_split s n with ⟨t, rfl⟩ | ⟨t, rfl⟩
    · rw [h]; exact bot_le
    · exact le_top' (fun t => f (dropped s t)) t
  · rw [top_eq fun t => f (dropped s t)]
    exact Finset.sup_le fun t _ => le_top' f _

/-- The aggregated token over the kept tokens alone. -/
theorem aggrK_eq (s l y : Fin 576 → EReal) (h : ∀ n, Re (l n)) :
    aggrK s l y = ∑ t : Fin 288, soft (fun t => l (kept s t)) t * y (kept s t) := by
  unfold aggrK soft
  have hk : ∀ t, l (kept s t) - nk s (kept s t) * ⊤ = l (kept s t) := fun t => by
    rw [nk_kept, zero_mul, sub_zero]
  have hd : ∀ t, l (dropped s t) - nk s (dropped s t) * ⊤ = ⊥ := fun t => by
    rw [nk_dropped, one_mul, sub_eq_add_neg, EReal.neg_top, EReal.add_bot]
  have ht : top (fun i => l i - nk s i * ⊤) = top fun t => l (kept s t) := by
    rw [top_split s _ hd]
    exact congrArg top (funext hk)
  have he : ∀ M : EReal, Ideal.exp (⊥ - M) = 0 := fun M => by rw [EReal.bot_sub]; rfl
  have hs : (∑ j, Ideal.exp (l j - nk s j * ⊤ - top fun t => l (kept s t)))
      = ∑ t, Ideal.exp (l (kept s t) - top fun t => l (kept s t)) := by
    rw [sum_split s]
    simp only [hk, hd, he, Finset.sum_const_zero, add_zero]
  have h0 := denom_ne (fun t => l (kept s t)) fun t => h _
  simp only [ht, hs]
  rw [sum_split s]
  simp only [hk, hd, he, div_zero' h0, zero_mul, Finset.sum_const_zero, add_zero]

/-- The extra token over the dropped tokens alone. -/
theorem extraK_eq (s y : Fin 576 → EReal) (h : ∀ n, Re (s n)) :
    extraK s y = ∑ t : Fin 288, soft (fun t => s (dropped s t)) t * y (dropped s t) := by
  unfold extraK soft
  have ht : topDrop s = top fun t => s (dropped s t) := by
    unfold topDrop
    rw [top_split' s _ fun t => by rw [nk_kept, if_neg (lt_irrefl _)]]
    exact congrArg top (funext fun t => by rw [nk_dropped, if_pos (zero_lt_one (α := EReal))])
  have hs : (∑ j, Ideal.exp (s j - topDrop s) * nk s j)
      = ∑ t, Ideal.exp (s (dropped s t) - top fun t => s (dropped s t)) := by
    rw [sum_split s, ht]
    simp only [nk_kept, nk_dropped, mul_zero, mul_one, Finset.sum_const_zero, zero_add]
  have h0 := denom_ne (fun t => s (dropped s t)) fun t => h _
  rw [hs, ht, sum_split s]
  simp only [nk_kept, nk_dropped, mul_zero, mul_one, div_zero' h0, zero_mul, Finset.sum_const_zero, zero_add]

end Cert.Soft
-- ==== Proof.ROut.lean ====
module

public import proofs.«01_k».proof.Proof.RTok
public import proofs.«01_k».proof.Proof.RTake
public import proofs.«01_k».proof.Proof.Soft
public import proofs.«01_k».proof.Proof.Val

@[expose] public section

set_option maxRecDepth 8192

noncomputable section

/-! The reference's result for one modality, read at one entry: the kernel's softmaxes over all the tokens are the
reference's softmaxes over the taken ones. -/

namespace Cert.RRow

open Idealize.ShloMosaic Cert.ReferenceIdeal Cert.ReferenceIdeal.Gen Cert.Spec Cert.Order Cert.Finite Cert.Soft Cert.KPiece
open scoped BigOperators

/-- One modality's parameters, from the reference's slices. -/
def parR (W1 : FVec Ideal S512x128 .f32) (B1 : FVec Ideal S128 .f32) (W2 : FVec Ideal S128x1 .f32)
    (B2 : FVec Ideal S1 .f32) (LG LB : FVec Ideal S512 .f32) (A1 : FVec Ideal S512x102 .f32) (C1 : FVec Ideal S102 .f32)
    (A2 : FVec Ideal S102x115 .f32) (C2 : FVec Ideal S115 .f32) (SC : FVec Ideal S1x1x1 .f32) : Par where
  w1 a h := W1 (ix2 a h)
  b1 h := B1 (ix1 h)
  w2 h := W2 (ix2 h 0)
  b2 := B2 (ix1 0)
  lg a := LG (ix1 a)
  lb a := LB (ix1 a)
  a1 a h := A1 (ix2 a h)
  c1 h := C1 (ix1 h)
  a2 h k := A2 (ix2 h k)
  c2 k := C2 (ix1 k)
  sc := SC (ix3 0 0 0)

section

variable (X : FVec Ideal S64x576x512 .f32) (G1 G2 G3 : FVec Ideal S64x512 .f32) (W1 : FVec Ideal S512x128 .f32)
  (B1 : FVec Ideal S128 .f32) (W2 : FVec Ideal S128x1 .f32) (B2 : FVec Ideal S1 .f32) (LG LB : FVec Ideal S512 .f32)
  (A1 : FVec Ideal S512x102 .f32) (C1 : FVec Ideal S102 .f32) (A2 : FVec Ideal S102x115 .f32)
  (C2 : FVec Ideal S115 .f32) (SC : FVec Ideal S1x1x1 .f32)

/-- The scores. -/
theorem scoreR_eq (b : Fin 64) (n : Fin 576) :
    scoreR (predR (hidR X W1 B1) W2 B2) (cosR X G1) (cosR X G2) (cosR X G3) (ix2 b n)
      = score (parR W1 B1 W2 B2 LG LB A1 C1 A2 C2 SC) (fun n c => X (ix3 b n c)) (fun c => G1 (ix2 b c))
        (fun c => G2 (ix2 b c)) (fun c => G3 (ix2 b c)) n := by
  rw [scoreR_at, predR_at]
  simp only [hidR_at, cosR_at]
  rfl

theorem one_lit : lit 0x3F800000#32 = 1 := by
  have h : lit 0x3F800000#32 = ((1 : ℝ) : EReal) := by
    simp [lit, Ideal.ofBits, Ideal.ieee, -EReal.coe_mul]
    norm_num
  rw [h]
  rfl

/-- The mask takes nothing off a kept token's logit. -/
theorem unmasked (L : FVec Ideal S64x115x288 .f32) (M : FVec Ideal S64x288 .f32) (h : ∀ b t, M (ix2 b t) = lit 0x3F800000#32)
    (b : Fin 64) (k : Fin 115) (t : Fin 288) : mlogR L M (ix3 b k t) = L (ix3 b k t) := by
  rw [mlogR_at, h, one_lit]
  have e : (1 : EReal) - 1 = 0 := by
    rw [← EReal.coe_one, ← EReal.coe_sub, sub_self]
    rfl
  rw [e, zero_mul, sub_zero]

/-- The aggregated tokens, from the kept tokens and their logits. -/
theorem aggr_eq (Y : FVec Ideal S64x288x512 .f32) (L : FVec Ideal S64x115x288 .f32) (M : FVec Ideal S64x288 .f32)
    (hM : ∀ b t, M (ix2 b t) = lit 0x3F800000#32) (b : Fin 64) (k : Fin 115) (c : Fin 512) :
    aggrR Y (exp2R (mlogR L M)) (ix3 b k c) = ∑ t : Fin 288, soft (fun t => L (ix3 b k t)) t * Y (ix3 b t c) := by
  rw [aggrR_at]
  simp only [exp2R_at, unmasked L M hM]
  rfl

/-- The extra token, from the dropped tokens and their scores. -/
theorem extra_eq (Y : FVec Ideal S64x288x512 .f32) (d : FVec Ideal S64x288 .f32) (b : Fin 64) (c : Fin 512) :
    extraR Y (expR d) (ix3 b 0 c) = ∑ t : Fin 288, soft (fun t => d (ix2 b t)) t * Y (ix3 b t c) := by
  rw [extraR_at]
  simp only [expR_at]
  exact Finset.sum_congr rfl fun t _ => mul_comm _ _

/-- A taken token's logit. -/
theorem logit_eq (Y : FVec Ideal S64x288x512 .f32) (b : Fin 64) (k : Fin 115) (t : Fin 288) (v : Fin 512 → EReal)
    (h : ∀ c, Y (ix3 b t c) = v c) :
    logR (hid2R Y LG LB A1 C1) A2 C2 SC (ix3 b k t) = logit (parR W1 B1 W2 B2 LG LB A1 C1 A2 C2 SC) v k := by
  rw [logR_at]
  simp only [hid2R_at, h]
  rfl

/-- The first 115 rows of the result. -/
theorem outR_lt (b : Fin 64) (k : Fin 115) (c : Fin 512) :
    outR X G1 G2 G3 W1 B1 W2 B2 LG LB A1 C1 A2 C2 SC (ix3 b ⟨k.val, by have := k.isLt; omega⟩ c)
      = aggrR (takeTok X (wrapR (keepR (ordR (scoreR (predR (hidR X W1 B1) W2 B2) (cosR X G1) (cosR X G2) (cosR X G3))))))
          (exp2R (mlogR (logR (hid2R (takeTok X (wrapR (keepR (ordR
            (scoreR (predR (hidR X W1 B1) W2 B2) (cosR X G1) (cosR X G2) (cosR X G3)))))) LG LB A1 C1) A2 C2 SC)
            (selR (keepR (ordR (scoreR (predR (hidR X W1 B1) W2 B2) (cosR X G1) (cosR X G2) (cosR X G3)))))))
          (ix3 b k c) := by
  unfold outR
  generalize scoreR (predR (hidR X W1 B1) W2 B2) (cosR X G1) (cosR X G2) (cosR X G3) = s
  generalize aggrR _ _ = a
  generalize extraR _ _ = e
  have := k.isLt
  pointwise

/-- The last row of the result. -/
theorem outR_last (b : Fin 64) (c : Fin 512) :
    outR X G1 G2 G3 W1 B1 W2 B2 LG LB A1 C1 A2 C2 SC (ix3 b ⟨115, by omega⟩ c)
      = extraR (takeTok X (wrapR (dropR (ordR (scoreR (predR (hidR X W1 B1) W2 B2) (cosR X G1) (cosR X G2) (cosR X G3))))))
          (expR (dropScore (scoreR (predR (hidR X W1 B1) W2 B2) (cosR X G1) (cosR X G2) (cosR X G3))
            (ordR (scoreR (predR (hidR X W1 B1) W2 B2) (cosR X G1) (cosR X G2) (cosR X G3)))))
          (ix3 b 0 c) := by
  unfold outR
  generalize scoreR (predR (hidR X W1 B1) W2 B2) (cosR X G1) (cosR X G2) (cosR X G3) = s
  generalize aggrR _ _ = a
  generalize extraR _ _ = e
  pointwise

variable (hLG : ∀ i, Re (LG i)) (hLB : ∀ i, Re (LB i)) (hA1 : ∀ i, Re (A1 i)) (hC1 : ∀ i, Re (C1 i))
  (hA2 : ∀ i, Re (A2 i)) (hC2 : ∀ i, Re (C2 i)) (hSC : ∀ i, Re (SC i))
include hLG hLB hA1 hC1 hA2 hC2 hSC

/-- One entry of the reference's result is the kernel's. -/
theorem outR_eq (b : Fin 64) (k : Fin 116) (c : Fin 512) :
    outR X G1 G2 G3 W1 B1 W2 B2 LG LB A1 C1 A2 C2 SC (ix3 b k c)
      = outK (parR W1 B1 W2 B2 LG LB A1 C1 A2 C2 SC) (fun n c => X (ix3 b n c)) (fun c => G1 (ix2 b c))
        (fun c => G2 (ix2 b c)) (fun c => G3 (ix2 b c)) k.val c := by
  have hs := scoreR_eq X G1 G2 G3 W1 B1 W2 B2 LG LB A1 C1 A2 C2 SC
  have hl := outR_lt X G1 G2 G3 W1 B1 W2 B2 LG LB A1 C1 A2 C2 SC
  have he := outR_last X G1 G2 G3 W1 B1 W2 B2 LG LB A1 C1 A2 C2 SC
  have hg := fun Y b k t v h => logit_eq W1 B1 W2 B2 LG LB A1 C1 A2 C2 SC Y b k t v h
  have hre : ∀ v k, Re (logit (parR W1 B1 W2 B2 LG LB A1 C1 A2 C2 SC) v k) := fun v k =>
    Re.logit (fun _ => hLG _) (fun _ => hLB _) (fun _ _ => hA1 _) (fun _ => hC1 _) (fun _ _ => hA2 _) (fun _ => hC2 _)
      (hSC _) v k
  generalize scoreR (predR (hidR X W1 B1) W2 B2) (cosR X G1) (cosR X G2) (cosR X G3) = s at hs hl he
  generalize parR W1 B1 W2 B2 LG LB A1 C1 A2 C2 SC = p at hs hg hre ⊢
  have hb : (fun n => s (ix2 b n)) = score p (fun n c => X (ix3 b n c)) (fun c => G1 (ix2 b c)) (fun c => G2 (ix2 b c))
      (fun c => G3 (ix2 b c)) := funext (hs b)
  have hY := takeTok_at X (keepR (ordR s)) _ (ordR_keep s)
  have hZ := takeTok_at X (dropR (ordR s)) _ (ordR_drop s)
  have hM := selR_at (keepR (ordR s)) _ (ordR_keep s)
  have hD := dropScore_at s
  have hsre : ∀ n, Re ((fun n => s (ix2 b n)) n) := fun n => by
    rw [hb]
    exact Re.score p _ _ _ _ n
  by_cases hk : k.val < 115
  · have e := hl b ⟨k.val, hk⟩ c
    refine e.trans ?_
    rw [aggr_eq _ _ _ hM]
    unfold outK
    rw [dif_pos hk, ← hb, aggrK_eq _ _ _ fun n => hre _ _]
    refine Finset.sum_congr rfl fun t _ => ?_
    rw [hY]
    exact congrArg (fun f : Fin 288 → EReal => soft f t * X (ix3 b (kept (fun n => s (ix2 b n)) t) c))
      (funext fun t => hg _ b _ t _ fun c => hY b t c)
  · have hk' : k = ⟨115, by omega⟩ := Fin.ext (by have := k.isLt; show k.val = 115; omega)
    rw [hk', he b c, extra_eq]
    unfold outK
    rw [dif_neg (by simp), ← hb, extraK_eq _ _ hsre]
    refine Finset.sum_congr rfl fun t _ => ?_
    rw [hZ]
    exact congrArg (fun f : Fin 288 → EReal => soft f t * X (ix3 b (dropped (fun n => s (ix2 b n)) t) c)) (funext (hD b))

end

end Cert.RRow
-- ==== Proof.RVal.lean ====
module

public import proofs.«01_k».proof.Proof.ROut
public import proofs.«01_k».proof.Proof.REq

@[expose] public section

set_option maxRecDepth 8192

noncomputable section

/-! The reference's results, as the common function of the arguments. -/

namespace Cert.RRow

open Idealize.ShloMosaic Cert.ReferenceIdeal Cert.ReferenceIdeal.Gen Cert.Spec Cert.Finite Cert.Val
open Idealize.ShloMosaic.TcCoe Idealize.SL.Sem Idealize.ShloMosaic.StableHlo

/-- What the precondition says of the arguments that a reference's launch finds. -/
structure Fine (V0 : Valuation τ sig (Elt Ideal)) : Prop where
  h10 : ∀ i, Re (V0 (Proc.devRef .tc main_arg10) i)
  h11 : ∀ i, Re (V0 (Proc.devRef .tc main_arg11) i)
  h12 : ∀ i, Re (V0 (Proc.devRef .tc main_arg12) i)
  h13 : ∀ i, Re (V0 (Proc.devRef .tc main_arg13) i)
  h14 : ∀ i, Re (V0 (Proc.devRef .tc main_arg14) i)
  h15 : ∀ i, Re (V0 (Proc.devRef .tc main_arg15) i)
  h16 : ∀ i, Re (V0 (Proc.devRef .tc main_arg16) i)

variable (V0 : Valuation τ sig (Elt Ideal)) (h : Fine V0)
include h

/-- Modality 0's result. -/
theorem ref0_eq : ref0 V0 = outArg 0 (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  funext y
  obtain ⟨b, k, c, rfl⟩ : ∃ (b : Fin 64) (k : Fin 116) (c : Fin 512), y = ix3 b k c := ⟨y 0, y 1, y 2, by
    funext a
    match a with
    | ⟨0, _⟩ => rfl
    | ⟨1, _⟩ => rfl
    | ⟨2, _⟩ => rfl⟩
  unfold ref0
  refine (outR_eq _ _ _ _ _ _ _ _ _ _ _ _ _ _ _ ?h10 ?h11 ?h12 ?h13 ?h14 ?h15 ?h16 b k c).trans ?_
  case h10 => exact fun _ => h.h10 _
  case h11 => exact fun _ => h.h11 _
  case h12 => exact fun _ => h.h12 _
  case h13 => exact fun _ => h.h13 _
  case h14 => exact fun _ => h.h14 _
  case h15 => exact fun _ => h.h15 _
  case h16 => exact fun _ => h.h16 _
  unfold outArg parR parArg
  refine congrArg (fun p => Cert.KPiece.outK p _ _ _ _ _ _) (par_congr ?_ ?_ ?_ ?_ ?_ ?_ ?_ ?_ ?_ ?_ ?_)
  · intro a h
    pointwise
  · intro h
    pointwise
  · intro h
    pointwise
  · pointwise
  · intro a
    pointwise
  · intro a
    pointwise
  · intro a h
    pointwise
  · intro h
    pointwise
  · intro h k
    pointwise
  · intro k
    pointwise
  · pointwise

/-- Modality 1's result. -/
theorem ref1_eq : ref1 V0 = outArg 1 (V0 (Proc.devRef .tc main_arg1)) (V0 (Proc.devRef .tc main_arg4)) (V0 (Proc.devRef .tc main_arg3)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  funext y
  obtain ⟨b, k, c, rfl⟩ : ∃ (b : Fin 64) (k : Fin 116) (c : Fin 512), y = ix3 b k c := ⟨y 0, y 1, y 2, by
    funext a
    match a with
    | ⟨0, _⟩ => rfl
    | ⟨1, _⟩ => rfl
    | ⟨2, _⟩ => rfl⟩
  unfold ref1
  refine (outR_eq _ _ _ _ _ _ _ _ _ _ _ _ _ _ _ ?h10 ?h11 ?h12 ?h13 ?h14 ?h15 ?h16 b k c).trans ?_
  case h10 => exact fun _ => h.h10 _
  case h11 => exact fun _ => h.h11 _
  case h12 => exact fun _ => h.h12 _
  case h13 => exact fun _ => h.h13 _
  case h14 => exact fun _ => h.h14 _
  case h15 => exact fun _ => h.h15 _
  case h16 => exact fun _ => h.h16 _
  unfold outArg parR parArg
  refine congrArg (fun p => Cert.KPiece.outK p _ _ _ _ _ _) (par_congr ?_ ?_ ?_ ?_ ?_ ?_ ?_ ?_ ?_ ?_ ?_)
  · intro a h
    pointwise
  · intro h
    pointwise
  · intro h
    pointwise
  · pointwise
  · intro a
    pointwise
  · intro a
    pointwise
  · intro a h
    pointwise
  · intro h
    pointwise
  · intro h k
    pointwise
  · intro k
    pointwise
  · pointwise

/-- Modality 2's result. -/
theorem ref2_eq : ref2 V0 = outArg 2 (V0 (Proc.devRef .tc main_arg2)) (V0 (Proc.devRef .tc main_arg5)) (V0 (Proc.devRef .tc main_arg3)) (V0 (Proc.devRef .tc main_arg4)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  funext y
  obtain ⟨b, k, c, rfl⟩ : ∃ (b : Fin 64) (k : Fin 116) (c : Fin 512), y = ix3 b k c := ⟨y 0, y 1, y 2, by
    funext a
    match a with
    | ⟨0, _⟩ => rfl
    | ⟨1, _⟩ => rfl
    | ⟨2, _⟩ => rfl⟩
  unfold ref2
  refine (outR_eq _ _ _ _ _ _ _ _ _ _ _ _ _ _ _ ?h10 ?h11 ?h12 ?h13 ?h14 ?h15 ?h16 b k c).trans ?_
  case h10 => exact fun _ => h.h10 _
  case h11 => exact fun _ => h.h11 _
  case h12 => exact fun _ => h.h12 _
  case h13 => exact fun _ => h.h13 _
  case h14 => exact fun _ => h.h14 _
  case h15 => exact fun _ => h.h15 _
  case h16 => exact fun _ => h.h16 _
  unfold outArg parR parArg
  refine congrArg (fun p => Cert.KPiece.outK p _ _ _ _ _ _) (par_congr ?_ ?_ ?_ ?_ ?_ ?_ ?_ ?_ ?_ ?_ ?_)
  · intro a h
    pointwise
  · intro h
    pointwise
  · intro h
    pointwise
  · pointwise
  · intro a
    pointwise
  · intro a
    pointwise
  · intro a h
    pointwise
  · intro h
    pointwise
  · intro h k
    pointwise
  · intro k
    pointwise
  · pointwise

end Cert.RRow
-- ==== Proof.Alg.lean ====
module

public import proofs.«01_k».proof.Defs
public import proofs.«01_k».proof.Proof.KRun
public import proofs.«01_k».proof.Proof.RVal
public import proofs.«01_k».proof.Proof.Frames

@[expose] public section

set_option maxRecDepth 8192

noncomputable section

/-! The kernel's and the reference's runs end with the same results. -/

namespace Cert.Alg

open Idealize.ShloMosaic Cert.Spec Cert.Finite Cert.Val
open Idealize.ShloMosaic.TcCoe Idealize.SL.Sem Idealize.ShloMosaic.StableHlo

/-- A number whose magnitude is below plus infinity is a real number. -/
theorem of_abs {x : EReal} (h : FloatOps.cmpf (F := Ideal) (φ := .f32) .olt (FloatOps.absf (F := Ideal) (φ := .f32) x)
    (lit 0x7F800000#32) = 1#1) : Re x := by
  have h' : (FloatOps.absf (F := Ideal) (φ := .f32) x : EReal) < lit 0x7F800000#32 := by
    by_contra hn
    have e : FloatOps.cmpf (F := Ideal) (φ := .f32) .olt (FloatOps.absf (F := Ideal) (φ := .f32) x) (lit 0x7F800000#32) = 0#1 := by
      show BitVec.ofBool (decide ((FloatOps.absf (F := Ideal) (φ := .f32) x : EReal) < lit 0x7F800000#32)) = 0#1
      rw [decide_eq_false hn]
      rfl
    rw [e] at h
    exact absurd h (by decide)
  refine Re.of_ne ?_ ?_
  · rintro rfl
    exact absurd (lt_of_lt_of_le h' le_top) (lt_irrefl (⊤ : EReal))
  · rintro rfl
    exact absurd (lt_of_lt_of_le h' le_top) (lt_irrefl (⊤ : EReal))

/-- The precondition makes the aggregation's parameters real numbers. -/
theorem fine (m : (ℓ : Loc Cert.KernelIdeal.nD Cert.KernelIdeal.τ Cert.KernelIdeal.sig) → Buf (Elt Ideal) ℓ)
    (hp : Cert.Pre_KernelIdeal_ag_finite m) (c : Dev Cert.KernelIdeal.nD) :
    (∀ i, Re ((m ((c.tc : Thread Cert.KernelIdeal.nD Cert.KernelIdeal.τ).loc Cert.KernelIdeal.main_arg10)) i))
    ∧ (∀ i, Re ((m ((c.tc : Thread Cert.KernelIdeal.nD Cert.KernelIdeal.τ).loc Cert.KernelIdeal.main_arg11)) i))
    ∧ (∀ i, Re ((m ((c.tc : Thread Cert.KernelIdeal.nD Cert.KernelIdeal.τ).loc Cert.KernelIdeal.main_arg12)) i))
    ∧ (∀ i, Re ((m ((c.tc : Thread Cert.KernelIdeal.nD Cert.KernelIdeal.τ).loc Cert.KernelIdeal.main_arg13)) i))
    ∧ (∀ i, Re ((m ((c.tc : Thread Cert.KernelIdeal.nD Cert.KernelIdeal.τ).loc Cert.KernelIdeal.main_arg14)) i))
    ∧ (∀ i, Re ((m ((c.tc : Thread Cert.KernelIdeal.nD Cert.KernelIdeal.τ).loc Cert.KernelIdeal.main_arg15)) i))
    ∧ (∀ i, Re ((m ((c.tc : Thread Cert.KernelIdeal.nD Cert.KernelIdeal.τ).loc Cert.KernelIdeal.main_arg16)) i)) := by
  obtain ⟨h10, h11, h12, h13, h14, h15, h16⟩ := hp c
  exact ⟨fun i => of_abs (congrFun h10 i), fun i => of_abs (congrFun h11 i), fun i => of_abs (congrFun h12 i),
    fun i => of_abs (congrFun h13 i), fun i => of_abs (congrFun h14 i), fun i => of_abs (congrFun h15 i),
    fun i => of_abs (congrFun h16 i)⟩

/-- Equal arguments give equal results. -/
theorem outArg_congr (i : Fin 3) {a0 b0 : FVec Ideal Cert.KernelIdeal.S64x576x512 .f32} {a1 b1 : FVec Ideal Cert.KernelIdeal.S64x512 .f32} {a2 b2 : FVec Ideal Cert.KernelIdeal.S64x512 .f32} {a3 b3 : FVec Ideal Cert.KernelIdeal.S64x512 .f32} {a4 b4 : FVec Ideal Cert.KernelIdeal.S3x512x128 .f32} {a5 b5 : FVec Ideal Cert.KernelIdeal.S3x128 .f32} {a6 b6 : FVec Ideal Cert.KernelIdeal.S3x128x1 .f32} {a7 b7 : FVec Ideal Cert.KernelIdeal.S3x1 .f32} {a8 b8 : FVec Ideal Cert.KernelIdeal.S3x512 .f32} {a9 b9 : FVec Ideal Cert.KernelIdeal.S3x512 .f32} {a10 b10 : FVec Ideal Cert.KernelIdeal.S3x512x102 .f32} {a11 b11 : FVec Ideal Cert.KernelIdeal.S3x102 .f32} {a12 b12 : FVec Ideal Cert.KernelIdeal.S3x102x115 .f32} {a13 b13 : FVec Ideal Cert.KernelIdeal.S3x115 .f32} {a14 b14 : FVec Ideal Cert.KernelIdeal.S3x1x1x1 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) :
    outArg i a0 a1 a2 a3 a4 a5 a6 a7 a8 a9 a10 a11 a12 a13 a14
      = outArg i b0 b1 b2 b3 b4 b5 b6 b7 b8 b9 b10 b11 b12 b13 b14 := by
  subst h0 h1 h2 h3 h4 h5 h6 h7 h8 h9 h10 h11 h12 h13 h14
  rfl

theorem re_congr {ι : Type} {f g : ι → EReal} (e : f = g) (h : ∀ i, Re (g i)) : ∀ i, Re (f i) := by
  subst e
  exact h

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (hp : Cert.Pre_KernelIdeal_ag_finite m)
  (heq : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
include hp heq

/-- The reference's launch finds real parameters. -/
theorem fine' : Cert.RRow.Fine (launchContents m' c) := by
  obtain ⟨q0, q1, q2, q3, q4, q5, q6, q7, q8, q9, q10, q11, q12, q13, q14, q15, q16⟩ := heq
  obtain ⟨h10, h11, h12, h13, h14, h15, h16⟩ := fine m hp c
  exact ⟨re_congr q10 h10, re_congr q11 h11, re_congr q12 h12, re_congr q13 h13, re_congr q14 h14, re_congr q15 h15,
    re_congr q16 h16⟩

/-- Modality 0's result, from the kernel's arguments. -/
theorem val0 : Cert.RRow.ref0 (launchContents m' c) = outArg 0 (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) := by
  have hf := fine' m m' c hp heq
  obtain ⟨q0, q1, q2, q3, q4, q5, q6, q7, q8, q9, q10, q11, q12, q13, q14, q15, q16⟩ := heq
  exact (Cert.RRow.ref0_eq (launchContents m' c) hf).trans (outArg_congr 0 q0 q3 q4 q5 q6 q7 q8 q9 q10 q11 q12 q13 q14 q15 q16)

/-- Modality 1's result, from the kernel's arguments. -/
theorem val1 : Cert.RRow.ref1 (launchContents m' c) = outArg 1 (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) := by
  have hf := fine' m m' c hp heq
  obtain ⟨q0, q1, q2, q3, q4, q5, q6, q7, q8, q9, q10, q11, q12, q13, q14, q15, q16⟩ := heq
  exact (Cert.RRow.ref1_eq (launchContents m' c) hf).trans (outArg_congr 1 q1 q4 q3 q5 q6 q7 q8 q9 q10 q11 q12 q13 q14 q15 q16)

/-- Modality 2's result, from the kernel's arguments. -/
theorem val2 : Cert.RRow.ref2 (launchContents m' c) = outArg 2 (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) := by
  have hf := fine' m m' c hp heq
  obtain ⟨q0, q1, q2, q3, q4, q5, q6, q7, q8, q9, q10, q11, q12, q13, q14, q15, q16⟩ := heq
  exact (Cert.RRow.ref2_eq (launchContents m' c) hf).trans (outArg_congr 2 q2 q5 q3 q4 q6 q7 q8 q9 q10 q11 q12 q13 q14 q15 q16)

end

/-- From memories agreeing on the arguments, both runs end with the same results. -/
theorem algebraic : Cert.algebraic_KernelIdeal_ReferenceIdeal_pre_ag_finite := by
  intro m g m' g' hp heq
  refine ⟨fun c => outArg 0 (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => outArg 1 (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => outArg 2 (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    Cert.KRun.run m g, ?_⟩
  refine (θ_run Cert.ReferenceIdeal.defs _ _).mono (fun r hr c => ?_) (Cert.RRow.run' m' g')
  obtain ⟨r0, r1, r2, hrest⟩ := hr c
  exact ⟨r0.trans (val0 m m' c hp (heq c)), r1.trans (val1 m m' c hp (heq c)), r2.trans (val2 m m' c hp (heq c)), hrest⟩

end Cert.Alg
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_ag_finite
public import proofs.«01_k».proof.Proof.Frames
public import proofs.«01_k».proof.Proof.Alg
public import Idealize.ShloMosaic.Adequacy
public import Idealize.ShloMosaic.Init

@[expose] public section

noncomputable section

namespace Cert.Proof

/-- All the claims: the three frames, that the ideal kernel preserves the printed one's operations, and that the
ideal kernel and the ideal reference end with the same results. -/
theorem claim : Cert.Claim := ⟨Cert.Kernel.Gen.facts, Cert.KernelIdeal.Gen.facts, Cert.ReferenceIdeal.Gen.facts,
  Cert.Pre_ag_finite.Gen.facts, Frames.kernel, Frames.kernelIdeal, Frames.kernelIdeal_pre, Frames.referenceIdeal,
  Frames.referenceIdeal_pre, Frames.preserves, Alg.algebraic⟩

end Cert.Proof

end
